-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs_KernelIdeal [hPre_finite_inputs_KernelIdeal : Cert.Pre_finite_inputs_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs_KernelIdeal [hKernelIdeal : Cert.KernelIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_inputs_KernelIdeal [hKernelIdeal : Cert.KernelIdeal.Facts] [hReferenceIdeal : Cert.ReferenceIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs_KernelIdeal m →
    (∀ c : Dev Cert.KernelIdeal.nD,
      m ((c.tc : Thread Cert.KernelIdeal.nD Cert.KernelIdeal.τ).loc Cert.KernelIdeal.main_arg0) = Layout.block ⟨3, ![2, 256, 768]⟩ ⟨3, ![2, 2048, 768]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 256, 768]⟩ ⟨3, ![2, 2048, 768]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v80) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs_KernelIdeal : Cert.Pre_finite_inputs_KernelIdeal.Facts) (hPre_finite_inputs_ReferenceIdeal : Cert.Pre_finite_inputs_ReferenceIdeal.Facts),
    quiescent_Kernel (hKernel := hKernel)
    ∧ quiescent_KernelIdeal (hKernelIdeal := hKernelIdeal)
    ∧ quiescent_KernelIdeal_pre_finite_inputs_KernelIdeal (hKernelIdeal := hKernelIdeal) (hPre_finite_inputs_KernelIdeal := hPre_finite_inputs_KernelIdeal)
    ∧ quiescent_ReferenceIdeal (hReferenceIdeal := hReferenceIdeal)
    ∧ quiescent_ReferenceIdeal_pre_finite_inputs_ReferenceIdeal (hReferenceIdeal := hReferenceIdeal) (hPre_finite_inputs_ReferenceIdeal := hPre_finite_inputs_ReferenceIdeal)
    ∧ preserves_Kernel_KernelIdeal
    ∧ algebraic_KernelIdeal_ReferenceIdeal_pre_finite_inputs_KernelIdeal (hKernelIdeal := hKernelIdeal) (hReferenceIdeal := hReferenceIdeal) (hPre_finite_inputs_KernelIdeal := hPre_finite_inputs_KernelIdeal)
-- ==== Pre_finite_inputs_KernelIdeal.lean ====
abbrev S2x256x768 : Shape := ⟨3, ![2, 256, 768]⟩
abbrev S768x256 : Shape := ⟨2, ![768, 256]⟩
abbrev S256x768 : Shape := ⟨2, ![256, 768]⟩
abbrev S_ : Shape := ⟨0, ![]⟩

class Facts : Prop where
  bcast_S_S2x256x768 : S_.BroadcastsInDim S2x256x768 (![] : Fin 0 → Fin S2x256x768.rank)
  reducesTo_S2x256x768_S_d0_1_2 : S2x256x768.ReducesTo [0, 1, 2] S_
  h_S_ : 0 < S_.numel
  bcast_S_S768x256 : S_.BroadcastsInDim S768x256 (![] : Fin 0 → Fin S768x256.rank)
  reducesTo_S768x256_S_d0_1 : S768x256.ReducesTo [0, 1] S_

variable [Facts]

def fn {F : FTy → Type} [FloatOps F] (main_arg0 : FVec F S2x256x768 .f32) (main_arg1 : FVec F S768x256 .f32) (main_arg2 : FVec F S768x256 .f32) (main_arg3 : FVec F S768x256 .f32) (main_arg4 : FVec F S256x768 .f32) : IVec S_ 1 :=
  let main_v0 : FVec F S2x256x768 .f32 := Host.absf main_arg0
  let main_cst : FVec F S_ .f32 := constant S_ .f32 0x7F800000#32
  let main_v1 : FVec F S2x256x768 .f32 := broadcastInDim S2x256x768 ![] bcast_S_S2x256x768 main_cst
  let main_v2 : IVec S2x256x768 1 := cmpf .olt main_v0 main_v1
  let main_c : IVec S_ 1 := constantI S_ 1 1#1
  let main_v3 : IVec S_ 1 := (fun x v => Host.reduce IntOp.andi x v reducesTo_S2x256x768_S_d0_1_2 h_S_) main_v2 main_c
  let main_v4 : FVec F S768x256 .f32 := Host.absf main_arg1
  let main_cst_0 : FVec F S_ .f32 := constant S_ .f32 0x7F800000#32
  let main_v5 : FVec F S768x256 .f32 := broadcastInDim S768x256 ![] bcast_S_S768x256 main_cst_0
  let main_v6 : IVec S768x256 1 := cmpf .olt main_v4 main_v5
  let main_c_1 : IVec S_ 1 := constantI S_ 1 1#1
  let main_v7 : IVec S_ 1 := (fun x v => Host.reduce IntOp.andi x v reducesTo_S768x256_S_d0_1 h_S_) main_v6 main_c_1
  let main_v8 : IVec S_ 1 := andi main_v3 main_v7
  let main_v9 : FVec F S768x256 .f32 := Host.absf main_arg2
  let main_cst_2 : FVec F S_ .f32 := constant S_ .f32 0x7F800000#32
  let main_v10 : FVec F S768x256 .f32 := broadcastInDim S768x256 ![] bcast_S_S768x256 main_cst_2
  let main_v11 : IVec S768x256 1 := cmpf .olt main_v9 main_v10
  let main_c_3 : IVec S_ 1 := constantI S_ 1 1#1
  let main_v12 : IVec S_ 1 := (fun x v => Host.reduce IntOp.andi x v reducesTo_S768x256_S_d0_1 h_S_) main_v11 main_c_3
  let main_v13 : IVec S_ 1 := andi main_v8 main_v12
  main_v13
-- ==== Pre_finite_inputs_ReferenceIdeal.lean ====
abbrev S2x2048x768 : Shape := ⟨3, ![2, 2048, 768]⟩
abbrev S768x256 : Shape := ⟨2, ![768, 256]⟩
abbrev S256x768 : Shape := ⟨2, ![256, 768]⟩
abbrev S_ : Shape := ⟨0, ![]⟩

class Facts : Prop where
  bcast_S_S2x2048x768 : S_.BroadcastsInDim S2x2048x768 (![] : Fin 0 → Fin S2x2048x768.rank)
  reducesTo_S2x2048x768_S_d0_1_2 : S2x2048x768.ReducesTo [0, 1, 2] S_
  h_S_ : 0 < S_.numel
  bcast_S_S768x256 : S_.BroadcastsInDim S768x256 (![] : Fin 0 → Fin S768x256.rank)
  reducesTo_S768x256_S_d0_1 : S768x256.ReducesTo [0, 1] S_

variable [Facts]

def fn {F : FTy → Type} [FloatOps F] (main_arg0 : FVec F S2x2048x768 .f32) (main_arg1 : FVec F S768x256 .f32) (main_arg2 : FVec F S768x256 .f32) (main_arg3 : FVec F S768x256 .f32) (main_arg4 : FVec F S256x768 .f32) : IVec S_ 1 :=
  let main_v0 : FVec F S2x2048x768 .f32 := Host.absf main_arg0
  let main_cst : FVec F S_ .f32 := constant S_ .f32 0x7F800000#32
  let main_v1 : FVec F S2x2048x768 .f32 := broadcastInDim S2x2048x768 ![] bcast_S_S2x2048x768 main_cst
  let main_v2 : IVec S2x2048x768 1 := cmpf .olt main_v0 main_v1
  let main_c : IVec S_ 1 := constantI S_ 1 1#1
  let main_v3 : IVec S_ 1 := (fun x v => Host.reduce IntOp.andi x v reducesTo_S2x2048x768_S_d0_1_2 h_S_) main_v2 main_c
  let main_v4 : FVec F S768x256 .f32 := Host.absf main_arg1
  let main_cst_0 : FVec F S_ .f32 := constant S_ .f32 0x7F800000#32
  let main_v5 : FVec F S768x256 .f32 := broadcastInDim S768x256 ![] bcast_S_S768x256 main_cst_0
  let main_v6 : IVec S768x256 1 := cmpf .olt main_v4 main_v5
  let main_c_1 : IVec S_ 1 := constantI S_ 1 1#1
  let main_v7 : IVec S_ 1 := (fun x v => Host.reduce IntOp.andi x v reducesTo_S768x256_S_d0_1 h_S_) main_v6 main_c_1
  let main_v8 : IVec S_ 1 := andi main_v3 main_v7
  let main_v9 : FVec F S768x256 .f32 := Host.absf main_arg2
  let main_cst_2 : FVec F S_ .f32 := constant S_ .f32 0x7F800000#32
  let main_v10 : FVec F S768x256 .f32 := broadcastInDim S768x256 ![] bcast_S_S768x256 main_cst_2
  let main_v11 : IVec S768x256 1 := cmpf .olt main_v9 main_v10
  let main_c_3 : IVec S_ 1 := constantI S_ 1 1#1
  let main_v12 : IVec S_ 1 := (fun x v => Host.reduce IntOp.andi x v reducesTo_S768x256_S_d0_1 h_S_) main_v11 main_c_3
  let main_v13 : IVec S_ 1 := andi main_v8 main_v12
  main_v13
-- ==== Kernel.lean ====
abbrev S2x256x768 : Shape := ⟨3, ![2, 256, 768]⟩
abbrev S768x256 : Shape := ⟨2, ![768, 256]⟩
abbrev S256x768 : Shape := ⟨2, ![256, 768]⟩
abbrev S8x2x256x512 : Shape := ⟨4, ![8, 2, 256, 512]⟩
abbrev S7x2 : Shape := ⟨2, ![7, 2]⟩
abbrev S_ : Shape := ⟨0, ![]⟩
abbrev S256x256 : Shape := ⟨2, ![256, 256]⟩
abbrev S1x256x768 : Shape := ⟨3, ![1, 256, 768]⟩
abbrev S256x64 : Shape := ⟨2, ![256, 64]⟩
abbrev S256x512 : Shape := ⟨2, ![256, 512]⟩
abbrev S1x1x256x512 : Shape := ⟨4, ![1, 1, 256, 512]⟩
abbrev S256x1 : Shape := ⟨2, ![256, 1]⟩
abbrev S1x1 : Shape := ⟨2, ![1, 1]⟩
abbrev S256 : Shape := ⟨1, ![256]⟩

abbrev nBuf : Space → Nat
  | .hbm => 6
  | .vmem => 7
  | .smem => 0
  | _ => 0

abbrev bufTy : (tb : Table) → Fin (tcTables nBuf tb) → BufTy
  | .hbm, ⟨0, _⟩ => ⟨S2x256x768, .f32⟩
  | .hbm, ⟨1, _⟩ => ⟨S768x256, .f32⟩
  | .hbm, ⟨2, _⟩ => ⟨S768x256, .f32⟩
  | .hbm, ⟨3, _⟩ => ⟨S768x256, .f32⟩
  | .hbm, ⟨4, _⟩ => ⟨S256x768, .f32⟩
  | .hbm, ⟨5, _⟩ => ⟨S2x256x768, .f32⟩
  | .local _ .vmem, ⟨0, _⟩ => ⟨S2x256x768, .f32⟩
  | .local _ .vmem, ⟨1, _⟩ => ⟨S768x256, .f32⟩
  | .local _ .vmem, ⟨2, _⟩ => ⟨S768x256, .f32⟩
  | .local _ .vmem, ⟨3, _⟩ => ⟨S768x256, .f32⟩
  | .local _ .vmem, ⟨4, _⟩ => ⟨S256x768, .f32⟩
  | .local _ .vmem, ⟨5, _⟩ => ⟨S2x256x768, .f32⟩
  | .local _ .vmem, ⟨6, _⟩ => ⟨S8x2x256x512, .bf16⟩
  | _, _ => ⟨S2x256x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_2 : BitVec 32 := 1#32
  let v7 : BitVec 32 := Scalar.xori v5 c1_i32_2
  let c1_i32_3 : BitVec 32 := 1#32
  let v8 : BitVec 32 := Scalar.shrsi v7 c1_i32_3
  let c1_i32_4 : BitVec 32 := 1#32
  let v9 : BitVec 32 := Scalar.andi v8 c1_i32_4
  let v10 : BitVec 32 := Scalar.xori v7 v9
  let c1_i32_6 : BitVec 32 := 1#32
  let v11 : BitVec 32 := Scalar.muli v10 c1_i32_6
  let v12 : BitVec 32 := Scalar.addi c0_i32 v11
  v12.toNat
def k0_dev2 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32 : BitVec 32 := 2#32
  let v13 : BitVec 32 := Scalar.xori v5 c2_i32
  let c1_i32_7 : BitVec 32 := 1#32
  let v14 : BitVec 32 := Scalar.shrsi v13 c1_i32_7
  let c1_i32_8 : BitVec 32 := 1#32
  let v15 : BitVec 32 := Scalar.andi v14 c1_i32_8
  let v16 : BitVec 32 := Scalar.xori v13 v15
  let c1_i32_10 : BitVec 32 := 1#32
  let v17 : BitVec 32 := Scalar.muli v16 c1_i32_10
  let v18 : BitVec 32 := Scalar.addi c0_i32_11 v17
  v18.toNat
def k0_dev3 (d0 : Dev nD) : Nat :=
  let c0_i32_16 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32 : BitVec 32 := 4#32
  let v19 : BitVec 32 := Scalar.xori v5 c4_i32
  let c1_i32_12 : BitVec 32 := 1#32
  let v20 : BitVec 32 := Scalar.shrsi v19 c1_i32_12
  let c1_i32_13 : BitVec 32 := 1#32
  let v21 : BitVec 32 := Scalar.andi v20 c1_i32_13
  let v22 : BitVec 32 := Scalar.xori v19 v21
  let c1_i32_15 : BitVec 32 := 1#32
  let v23 : BitVec 32 := Scalar.muli v22 c1_i32_15
  let v24 : BitVec 32 := Scalar.addi c0_i32_16 v23
  v24.toNat
def k0_off1 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v171 : Index := Scalar.indexCast v2
  let c0_66 : Index := 0#32
  let c0_67 : Index := 0#32
  let c0_68 : Index := 0#32
  ![v171.toNat, 0, 0, 0]
def k0_off2 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v200 : Index := Scalar.indexCast v2
  let c1_77 : Index := 1#32
  let c0_78 : Index := 0#32
  let c0_79 : Index := 0#32
  ![v200.toNat, 1, 0, 0]
def k0_off3 (d0 : Dev nD) (c0_i32_101 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let v227 : BitVec 32 := Scalar.xori v5 c0_i32_101
  let c1_i32_102 : BitVec 32 := 1#32
  let v228 : BitVec 32 := Scalar.shrsi v227 c1_i32_102
  let c1_i32_103 : BitVec 32 := 1#32
  let v229 : BitVec 32 := Scalar.andi v228 c1_i32_103
  let v230 : BitVec 32 := Scalar.xori v227 v229
  let c0_i32_108 : BitVec 32 := 0#32
  let c0_i32_115 : BitVec 32 := 0#32
  let c0_i32_116 : BitVec 32 := 0#32
  ![v230.toNat, 0, 0, 0]
def k0_dev4 (d0 : Dev nD) : Nat :=
  let c0_i32_114 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_104 : BitVec 32 := 1#32
  let v231 : BitVec 32 := Scalar.xori v5 c1_i32_104
  let c1_i32_105 : BitVec 32 := 1#32
  let v232 : BitVec 32 := Scalar.shrsi v231 c1_i32_105
  let c1_i32_106 : BitVec 32 := 1#32
  let v233 : BitVec 32 := Scalar.andi v232 c1_i32_106
  let v234 : BitVec 32 := Scalar.xori v231 v233
  let c1_i32_113 : BitVec 32 := 1#32
  let v235 : BitVec 32 := Scalar.muli v234 c1_i32_113
  let v236 : BitVec 32 := Scalar.addi c0_i32_114 v235
  v236.toNat
def k0_off4 (d0 : Dev nD) (c0_i32_122 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let v249 : BitVec 32 := Scalar.xori v5 c0_i32_122
  let c1_i32_123 : BitVec 32 := 1#32
  let v250 : BitVec 32 := Scalar.shrsi v249 c1_i32_123
  let c1_i32_124 : BitVec 32 := 1#32
  let v251 : BitVec 32 := Scalar.andi v250 c1_i32_124
  let v252 : BitVec 32 := Scalar.xori v249 v251
  let c1_i32_129 : BitVec 32 := 1#32
  let c0_i32_136 : BitVec 32 := 0#32
  let c0_i32_137 : BitVec 32 := 0#32
  ![v252.toNat, 1, 0, 0]
def k0_dev5 (d0 : Dev nD) : Nat :=
  let c0_i32_135 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_125 : BitVec 32 := 2#32
  let v253 : BitVec 32 := Scalar.xori v5 c2_i32_125
  let c1_i32_126 : BitVec 32 := 1#32
  let v254 : BitVec 32 := Scalar.shrsi v253 c1_i32_126
  let c1_i32_127 : BitVec 32 := 1#32
  let v255 : BitVec 32 := Scalar.andi v254 c1_i32_127
  let v256 : BitVec 32 := Scalar.xori v253 v255
  let c1_i32_134 : BitVec 32 := 1#32
  let v257 : BitVec 32 := Scalar.muli v256 c1_i32_134
  let v258 : BitVec 32 := Scalar.addi c0_i32_135 v257
  v258.toNat
def k0_dev6 (d0 : Dev nD) : Nat :=
  let c0_i32_156 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_146 : BitVec 32 := 2#32
  let v275 : BitVec 32 := Scalar.xori v5 c2_i32_146
  let c1_i32_147 : BitVec 32 := 1#32
  let v276 : BitVec 32 := Scalar.shrsi v275 c1_i32_147
  let c1_i32_148 : BitVec 32 := 1#32
  let v277 : BitVec 32 := Scalar.andi v276 c1_i32_148
  let v278 : BitVec 32 := Scalar.xori v275 v277
  let c1_i32_155 : BitVec 32 := 1#32
  let v279 : BitVec 32 := Scalar.muli v278 c1_i32_155
  let v280 : BitVec 32 := Scalar.addi c0_i32_156 v279
  v280.toNat
def k0_dev7 (d0 : Dev nD) : Nat :=
  let c0_i32_177 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_167 : BitVec 32 := 4#32
  let v297 : BitVec 32 := Scalar.xori v5 c4_i32_167
  let c1_i32_168 : BitVec 32 := 1#32
  let v298 : BitVec 32 := Scalar.shrsi v297 c1_i32_168
  let c1_i32_169 : BitVec 32 := 1#32
  let v299 : BitVec 32 := Scalar.andi v298 c1_i32_169
  let v300 : BitVec 32 := Scalar.xori v297 v299
  let c1_i32_176 : BitVec 32 := 1#32
  let v301 : BitVec 32 := Scalar.muli v300 c1_i32_176
  let v302 : BitVec 32 := Scalar.addi c0_i32_177 v301
  v302.toNat
def k0_dev8 (d0 : Dev nD) : Nat :=
  let c0_i32_198 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_188 : BitVec 32 := 4#32
  let v319 : BitVec 32 := Scalar.xori v5 c4_i32_188
  let c1_i32_189 : BitVec 32 := 1#32
  let v320 : BitVec 32 := Scalar.shrsi v319 c1_i32_189
  let c1_i32_190 : BitVec 32 := 1#32
  let v321 : BitVec 32 := Scalar.andi v320 c1_i32_190
  let v322 : BitVec 32 := Scalar.xori v319 v321
  let c1_i32_197 : BitVec 32 := 1#32
  let v323 : BitVec 32 := Scalar.muli v322 c1_i32_197
  let v324 : BitVec 32 := Scalar.addi c0_i32_198 v323
  v324.toNat
def k0_dev9 (d0 : Dev nD) : Nat :=
  let c0_i32_219 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_209 : BitVec 32 := 1#32
  let v341 : BitVec 32 := Scalar.xori v5 c1_i32_209
  let c1_i32_210 : BitVec 32 := 1#32
  let v342 : BitVec 32 := Scalar.shrsi v341 c1_i32_210
  let c1_i32_211 : BitVec 32 := 1#32
  let v343 : BitVec 32 := Scalar.andi v342 c1_i32_211
  let v344 : BitVec 32 := Scalar.xori v341 v343
  let c1_i32_218 : BitVec 32 := 1#32
  let v345 : BitVec 32 := Scalar.muli v344 c1_i32_218
  let v346 : BitVec 32 := Scalar.addi c0_i32_219 v345
  v346.toNat
def k0_dev10 (d0 : Dev nD) : Nat :=
  let c0_i32_285 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_275 : BitVec 32 := 2#32
  let v463 : BitVec 32 := Scalar.xori v5 c2_i32_275
  let c1_i32_276 : BitVec 32 := 1#32
  let v464 : BitVec 32 := Scalar.shrsi v463 c1_i32_276
  let c1_i32_277 : BitVec 32 := 1#32
  let v465 : BitVec 32 := Scalar.andi v464 c1_i32_277
  let v466 : BitVec 32 := Scalar.xori v463 v465
  let c1_i32_284 : BitVec 32 := 1#32
  let v467 : BitVec 32 := Scalar.muli v466 c1_i32_284
  let v468 : BitVec 32 := Scalar.addi c0_i32_285 v467
  v468.toNat
def k0_dev11 (d0 : Dev nD) : Nat :=
  let c0_i32_326 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_317 : BitVec 32 := 4#32
  let v505 : BitVec 32 := Scalar.xori v5 c4_i32_317
  let c1_i32_318 : BitVec 32 := 1#32
  let v506 : BitVec 32 := Scalar.shrsi v505 c1_i32_318
  let c1_i32_319 : BitVec 32 := 1#32
  let v507 : BitVec 32 := Scalar.andi v506 c1_i32_319
  let v508 : BitVec 32 := Scalar.xori v505 v507
  let c1_i32_325 : BitVec 32 := 1#32
  let v509 : BitVec 32 := Scalar.muli v508 c1_i32_325
  let v510 : BitVec 32 := Scalar.addi c0_i32_326 v509
  v510.toNat
def k0_dev12 (d0 : Dev nD) : Nat :=
  let c0_i32_368 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_358 : BitVec 32 := 4#32
  let v547 : BitVec 32 := Scalar.xori v5 c4_i32_358
  let c1_i32_359 : BitVec 32 := 1#32
  let v548 : BitVec 32 := Scalar.shrsi v547 c1_i32_359
  let c1_i32_360 : BitVec 32 := 1#32
  let v549 : BitVec 32 := Scalar.andi v548 c1_i32_360
  let v550 : BitVec 32 := Scalar.xori v547 v549
  let c1_i32_367 : BitVec 32 := 1#32
  let v551 : BitVec 32 := Scalar.muli v550 c1_i32_367
  let v552 : BitVec 32 := Scalar.addi c0_i32_368 v551
  v552.toNat
def k0_dev13 (d0 : Dev nD) : Nat :=
  let c0_i32_410 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_400 : BitVec 32 := 1#32
  let v589 : BitVec 32 := Scalar.xori v5 c1_i32_400
  let c1_i32_401 : BitVec 32 := 1#32
  let v590 : BitVec 32 := Scalar.shrsi v589 c1_i32_401
  let c1_i32_402 : BitVec 32 := 1#32
  let v591 : BitVec 32 := Scalar.andi v590 c1_i32_402
  let v592 : BitVec 32 := Scalar.xori v589 v591
  let c1_i32_409 : BitVec 32 := 1#32
  let v593 : BitVec 32 := Scalar.muli v592 c1_i32_409
  let v594 : BitVec 32 := Scalar.addi c0_i32_410 v593
  v594.toNat
def k0_dev14 (d0 : Dev nD) : Nat :=
  let c0_i32_452 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_442 : BitVec 32 := 1#32
  let v631 : BitVec 32 := Scalar.xori v5 c1_i32_442
  let c1_i32_443 : BitVec 32 := 1#32
  let v632 : BitVec 32 := Scalar.shrsi v631 c1_i32_443
  let c1_i32_444 : BitVec 32 := 1#32
  let v633 : BitVec 32 := Scalar.andi v632 c1_i32_444
  let v634 : BitVec 32 := Scalar.xori v631 v633
  let c1_i32_451 : BitVec 32 := 1#32
  let v635 : BitVec 32 := Scalar.muli v634 c1_i32_451
  let v636 : BitVec 32 := Scalar.addi c0_i32_452 v635
  v636.toNat
def k0_dev15 (d0 : Dev nD) : Nat :=
  let c0_i32_494 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_484 : BitVec 32 := 2#32
  let v673 : BitVec 32 := Scalar.xori v5 c2_i32_484
  let c1_i32_485 : BitVec 32 := 1#32
  let v674 : BitVec 32 := Scalar.shrsi v673 c1_i32_485
  let c1_i32_486 : BitVec 32 := 1#32
  let v675 : BitVec 32 := Scalar.andi v674 c1_i32_486
  let v676 : BitVec 32 := Scalar.xori v673 v675
  let c1_i32_493 : BitVec 32 := 1#32
  let v677 : BitVec 32 := Scalar.muli v676 c1_i32_493
  let v678 : BitVec 32 := Scalar.addi c0_i32_494 v677
  v678.toNat
def k0_off5 (d0 : Dev nD) (c1_i32_499 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let v687 : BitVec 32 := Scalar.xori v5 c1_i32_499
  let c1_i32_500 : BitVec 32 := 1#32
  let v688 : BitVec 32 := Scalar.shrsi v687 c1_i32_500
  let c1_i32_501 : BitVec 32 := 1#32
  let v689 : BitVec 32 := Scalar.andi v688 c1_i32_501
  let v690 : BitVec 32 := Scalar.xori v687 v689
  let v691 : Index := Scalar.indexCast v690
  let c0_502 : Index := 0#32
  let c0_503 : Index := 0#32
  let c0_504 : Index := 0#32
  ![v691.toNat, 0, 0, 0]
def k0_off6 (d0 : Dev nD) (c1_i32_517 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let v734 : BitVec 32 := Scalar.xori v5 c1_i32_517
  let c1_i32_518 : BitVec 32 := 1#32
  let v735 : BitVec 32 := Scalar.shrsi v734 c1_i32_518
  let c1_i32_519 : BitVec 32 := 1#32
  let v736 : BitVec 32 := Scalar.andi v735 c1_i32_519
  let v737 : BitVec 32 := Scalar.xori v734 v736
  let v738 : Index := Scalar.indexCast v737
  let c1_520 : Index := 1#32
  let c0_521 : Index := 0#32
  let c0_522 : Index := 0#32
  ![v738.toNat, 1, 0, 0]
def k0_dev16 (d0 : Dev nD) : Nat :=
  let c0_i32_643 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_634 : BitVec 32 := 4#32
  let v997 : BitVec 32 := Scalar.xori v5 c4_i32_634
  let c1_i32_635 : BitVec 32 := 1#32
  let v998 : BitVec 32 := Scalar.shrsi v997 c1_i32_635
  let c1_i32_636 : BitVec 32 := 1#32
  let v999 : BitVec 32 := Scalar.andi v998 c1_i32_636
  let v1000 : BitVec 32 := Scalar.xori v997 v999
  let c1_i32_642 : BitVec 32 := 1#32
  let v1001 : BitVec 32 := Scalar.muli v1000 c1_i32_642
  let v1002 : BitVec 32 := Scalar.addi c0_i32_643 v1001
  v1002.toNat
def k0_dev17 (d0 : Dev nD) : Nat :=
  let c0_i32_685 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_675 : BitVec 32 := 1#32
  let v1039 : BitVec 32 := Scalar.xori v5 c1_i32_675
  let c1_i32_676 : BitVec 32 := 1#32
  let v1040 : BitVec 32 := Scalar.shrsi v1039 c1_i32_676
  let c1_i32_677 : BitVec 32 := 1#32
  let v1041 : BitVec 32 := Scalar.andi v1040 c1_i32_677
  let v1042 : BitVec 32 := Scalar.xori v1039 v1041
  let c1_i32_684 : BitVec 32 := 1#32
  let v1043 : BitVec 32 := Scalar.muli v1042 c1_i32_684
  let v1044 : BitVec 32 := Scalar.addi c0_i32_685 v1043
  v1044.toNat
abbrev stage0_0 : Fin 1 → Memref sig .tc .vmem S2x256x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S768x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S768x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x2048x768 : Shape := ⟨3, ![2, 2048, 768]⟩
abbrev S768x256 : Shape := ⟨2, ![768, 256]⟩
abbrev S256x768 : Shape := ⟨2, ![256, 768]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x32x2 : Shape := ⟨3, ![2048, 32, 2]⟩
abbrev S2048x64 : Shape := ⟨2, ![2048, 64]⟩
abbrev S2x2048x256 : Shape := ⟨3, ![2, 2048, 256]⟩
abbrev S2x2048x4x64 : Shape := ⟨4, ![2, 2048, 4, 64]⟩
abbrev S2x2048x4x32x2 : Shape := ⟨5, ![2, 2048, 4, 32, 2]⟩
abbrev S2x2048x4x32x1 : Shape := ⟨5, ![2, 2048, 4, 32, 1]⟩
abbrev S2x2048x4x32 : Shape := ⟨4, ![2, 2048, 4, 32]⟩
abbrev S1x2048x1x64 : Shape := ⟨4, ![1, 2048, 1, 64]⟩
abbrev S2x4x2048x2048 : Shape := ⟨4, ![2, 4, 2048, 2048]⟩
abbrev S2x4x2048 : Shape := ⟨3, ![2, 4, 2048]⟩
abbrev S2x4x2048x1 : Shape := ⟨4, ![2, 4, 2048, 1]⟩
abbrev S2x4x64x2048 : Shape := ⟨4, ![2, 4, 64, 2048]⟩

abbrev nBuf : Space → Nat
  | .hbm => 94
  | .vmem => 0
  | .smem => 0
  | _ => 0

abbrev bufTy : (tb : Table) → Fin (tcTables nBuf tb) → BufTy
  | .hbm, ⟨0, _⟩ => ⟨S2x2048x768, .f32⟩
  | .hbm, ⟨1, _⟩ => ⟨S768x256, .f32⟩
  | .hbm, ⟨2, _⟩ => ⟨S768x256, .f32⟩
  | .hbm, ⟨3, _⟩ => ⟨S768x256, .f32⟩
  | .hbm, ⟨4, _⟩ => ⟨S256x768, .f32⟩
  | .hbm, ⟨5, _⟩ => ⟨S32, .i32⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S2048, .i32⟩
  | .hbm, ⟨23, _⟩ => ⟨S2048x1, .i32⟩
  | .hbm, ⟨24, _⟩ => ⟨S1x32, .f32⟩
  | .hbm, ⟨25, _⟩ => ⟨S2048x1, .f32⟩
  | .hbm, ⟨26, _⟩ => ⟨S2048x32, .f32⟩
  | .hbm, ⟨27, _⟩ => ⟨S2048x32, .f32⟩
  | .hbm, ⟨28, _⟩ => ⟨S2048x32, .f32⟩
  | .hbm, ⟨29, _⟩ => ⟨S2048x32, .f32⟩
  | .hbm, ⟨30, _⟩ => ⟨S2048x32x2, .f32⟩
  | .hbm, ⟨31, _⟩ => ⟨S2048x64, .f32⟩
  | .hbm, ⟨32, _⟩ => ⟨S2048x32, .f32⟩
  | .hbm, ⟨33, _⟩ => ⟨S2048x32x2, .f32⟩
  | .hbm, ⟨34, _⟩ => ⟨S2048x64, .f32⟩
  | .hbm, ⟨35, _⟩ => ⟨S2x2048x256, .f32⟩
  | .hbm, ⟨36, _⟩ => ⟨S2x2048x4x64, .f32⟩
  | .hbm, ⟨37, _⟩ => ⟨S2x2048x4x32x2, .f32⟩
  | .hbm, ⟨38, _⟩ => ⟨S2x2048x4x32x1, .f32⟩
  | .hbm, ⟨39, _⟩ => ⟨S2x2048x4x32, .f32⟩
  | .hbm, ⟨40, _⟩ => ⟨S2x2048x4x32, .f32⟩
  | .hbm, ⟨41, _⟩ => ⟨S2x2048x4x32x1, .f32⟩
  | .hbm, ⟨42, _⟩ => ⟨S2x2048x4x32, .f32⟩
  | .hbm, ⟨43, _⟩ => ⟨S2x2048x4x32x1, .f32⟩
  | .hbm, ⟨44, _⟩ => ⟨S2x2048x4x32x1, .f32⟩
  | .hbm, ⟨45, _⟩ => ⟨S2x2048x4x32x2, .f32⟩
  | .hbm, ⟨46, _⟩ => ⟨S2x2048x4x64, .f32⟩
  | .hbm, ⟨47, _⟩ => ⟨S1x2048x1x64, .f32⟩
  | .hbm, ⟨48, _⟩ => ⟨S2x2048x4x64, .f32⟩
  | .hbm, ⟨49, _⟩ => ⟨S2x2048x4x64, .f32⟩
  | .hbm, ⟨50, _⟩ => ⟨S1x2048x1x64, .f32⟩
  | .hbm, ⟨51, _⟩ => ⟨S2x2048x4x64, .f32⟩
  | .hbm, ⟨52, _⟩ => ⟨S2x2048x4x64, .f32⟩
  | .hbm, ⟨53, _⟩ => ⟨S2x2048x4x64, .f32⟩
  | .hbm, ⟨54, _⟩ => ⟨S2x2048x256, .f32⟩
  | .hbm, ⟨55, _⟩ => ⟨S2x2048x4x64, .f32⟩
  | .hbm, ⟨56, _⟩ => ⟨S2x2048x4x32x2, .f32⟩
  | .hbm, ⟨57, _⟩ => ⟨S2x2048x4x32x1, .f32⟩
  | .hbm, ⟨58, _⟩ => ⟨S2x2048x4x32, .f32⟩
  | .hbm, ⟨59, _⟩ => ⟨S2x2048x4x32, .f32⟩
  | .hbm, ⟨60, _⟩ => ⟨S2x2048x4x32x1, .f32⟩
  | .hbm, ⟨61, _⟩ => ⟨S2x2048x4x32, .f32⟩
  | .hbm, ⟨62, _⟩ => ⟨S2x2048x4x32x1, .f32⟩
  | .hbm, ⟨63, _⟩ => ⟨S2x2048x4x32x1, .f32⟩
  | .hbm, ⟨64, _⟩ => ⟨S2x2048x4x32x2, .f32⟩
  | .hbm, ⟨65, _⟩ => ⟨S2x2048x4x64, .f32⟩
  | .hbm, ⟨66, _⟩ => ⟨S1x2048x1x64, .f32⟩
  | .hbm, ⟨67, _⟩ => ⟨S2x2048x4x64, .f32⟩
  | .hbm, ⟨68, _⟩ => ⟨S2x2048x4x64, .f32⟩
  | .hbm, ⟨69, _⟩ => ⟨S1x2048x1x64, .f32⟩
  | .hbm, ⟨70, _⟩ => ⟨S2x2048x4x64, .f32⟩
  | .hbm, ⟨71, _⟩ => ⟨S2x2048x4x64, .f32⟩
  | .hbm, ⟨72, _⟩ => ⟨S2x2048x4x64, .f32⟩
  | .hbm, ⟨73, _⟩ => ⟨S2x2048x256, .f32⟩
  | .hbm, ⟨74, _⟩ => ⟨S2x2048x4x64, .f32⟩
  | .hbm, ⟨75, _⟩ => ⟨S2x4x2048x2048, .f32⟩
  | .hbm, ⟨76, _⟩ => ⟨S_, .f32⟩
  | .hbm, ⟨77, _⟩ => ⟨S2x4x2048x2048, .f32⟩
  | .hbm, ⟨78, _⟩ => ⟨S2x4x2048x2048, .f32⟩
  | .hbm, ⟨79, _⟩ => ⟨S_, .f32⟩
  | .hbm, ⟨80, _⟩ => ⟨S2x4x2048, .f32⟩
  | .hbm, ⟨81, _⟩ => ⟨S2x4x2048x1, .f32⟩
  | .hbm, ⟨82, _⟩ => ⟨S2x4x2048x2048, .f32⟩
  | .hbm, ⟨83, _⟩ => ⟨S2x4x2048x2048, .f32⟩
  | .hbm, ⟨84, _⟩ => ⟨S2x4x2048x2048, .f32⟩
  | .hbm, ⟨85, _⟩ => ⟨S_, .f32⟩
  | .hbm, ⟨86, _⟩ => ⟨S2x4x2048, .f32⟩
  | .hbm, ⟨87, _⟩ => ⟨S2x4x2048x1, .f32⟩
  | .hbm, ⟨88, _⟩ => ⟨S2x4x2048x2048, .f32⟩
  | .hbm, ⟨89, _⟩ => ⟨S2x4x2048x2048, .f32⟩
  | .hbm, ⟨90, _⟩ => ⟨S2x4x64x2048, .f32⟩
  | .hbm, ⟨91, _⟩ => ⟨S2x2048x4x64, .f32⟩
  | .hbm, ⟨92, _⟩ => ⟨S2x2048x256, .f32⟩
  | .hbm, ⟨93, _⟩ => ⟨S2x2048x768, .f32⟩
  | _, _ => ⟨S2x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_cst_3 : Ref sig .tc := ⟨.hbm, 76, rfl⟩
abbrev main_v66 : Ref sig .tc := ⟨.hbm, 77, rfl⟩
abbrev main_v67 : Ref sig .tc := ⟨.hbm, 78, rfl⟩
abbrev main_cst_4 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_cst_5 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩

abbrev nD : Nat := 1
abbrev τ : Topo := Topo.v7x

variable {F : FTy → Type} [FloatOps F]
-- ==== Proof.KernelIdealRun.Protocol.lean ====
/-
The transfer protocol of the kernel on eight devices.

Device `c` holds a scratch of eight times two slots: slot `(j, t)` is for the half `t` of device `j`'s keys and values.
It fills its own two slots and receives the other fourteen, each by one link. A link `e = (w, t)` carries, to every
device, half `t` of the device at mask `w + 1` from it, from the neighbour on the link's axis, which holds it as the
device at mask `par e` from the receiver (its own slot when that mask is the axis).
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option maxRecDepth 16384

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cube and the links -/

/-- The position of a device on the cube, an involution. -/
def gq (l : Nat) : Nat := l ^^^ ((l >>> 1) &&& 1)
/-- The device at mask `m` from `c`. -/
def nb (c : Dev nD) (m : Fin 8) : Dev nD := ⟨gq (gq c.val ^^^ m.val) % 8, Nat.mod_lt _ (by decide)⟩
/-- The mask of an axis. -/
def amask (a : Fin 3) : Fin 8 := match a with | 0 => 1 | 1 => 2 | 2 => 4
/-- The neighbour on an axis. -/
def nbr (a : Fin 3) (c : Dev nD) : Dev nD := nb c (amask a)

abbrev Link : Type := Fin 7 × Fin 2
/-- The receiver's mask of the device whose block a link carries. -/
def wm (e : Link) : Fin 8 := e.1.succ
def axis : Link → Fin 3
  | (0, _) => 0 | (1, _) => 1 | (2, _) => 1 | (3, _) => 2 | (4, _) => 0 | (5, _) => 2 | (6, 0) => 2 | (6, 1) => 0
/-- The sender's mask of the device whose block a link carries. -/
def par : Link → Fin 8
  | (0, _) => 0 | (1, _) => 0 | (2, _) => 1 | (3, _) => 0 | (4, _) => 4 | (5, _) => 2 | (6, 0) => 3 | (6, 1) => 6
/-- How many transfers before a link's. -/
def depth : Link → ℕ
  | (0, _) => 1 | (1, _) => 1 | (2, _) => 2 | (3, _) => 1 | (4, _) => 2 | (5, _) => 2 | (6, _) => 3

theorem nbr_nbr (a : Fin 3) (c : Dev nD) : nbr a (nbr a c) = c := by revert a c; decide
theorem nb_nbr (e : Link) (c : Dev nD) : nb (nbr (axis e) c) (wm e) = nb c (par e) := by revert e c; decide
theorem nb_zero (c : Dev nD) : nb c 0 = c := by revert c; decide
theorem nb_nb (c : Dev nD) (m : Fin 8) : nb (nb c m) m = c := by revert c m; decide

/-! ## The cells -/

abbrev scr : Ref sig .tc := cc0_scratch0
abbrev barS : Sem sig := (SemArray.scalar (sig.barrier 0 rfl) : Sems sig S_).sem
def sendS (e : Link) : DmaSem sig := ⟨6 + (2 * e.1.val + e.2.val), by have := e.1.isLt; have := e.2.isLt; show _ < 34; omega⟩
def recvS (e : Link) : DmaSem sig := ⟨20 + (2 * e.1.val + e.2.val), by have := e.1.isLt; have := e.2.isLt; show _ < 34; omega⟩

theorem sendS_inj {e e' : Link} (h : sendS e = sendS e') : e = e' := by
  have h := congrArg Fin.val h; dsimp only [sendS] at h
  have := e.2.isLt; have := e'.2.isLt
  exact Prod.ext (Fin.ext (by omega)) (Fin.ext (by omega))
theorem recvS_inj {e e' : Link} (h : recvS e = recvS e') : e = e' := by
  have h := congrArg Fin.val h; dsimp only [recvS] at h
  have := e.2.isLt; have := e'.2.isLt
  exact Prod.ext (Fin.ext (by omega)) (Fin.ext (by omega))
theorem send_ne_recv (e e' : Link) : sendS e ≠ recvS e' := fun h => by
  have h := congrArg Fin.val h; dsimp only [sendS, recvS] at h
  have := e.1.isLt; have := e.2.isLt; omega

abbrev barCell (c : Dev nD) : GSem nD τ sig := ((c : Thread nD τ), .reg barS)
abbrev sendCell (c : Dev nD) (e : Link) : GSem nD τ sig := ((c : Thread nD τ), .dma (sendS e))
abbrev recvCell (c : Dev nD) (e : Link) : GSem nD τ sig := ((c : Thread nD τ), .dma (recvS e))

/-! ## The slots -/

/-- The elements of slot `(j, t)`. -/
def slotSet (j : Dev nD) (t : Fin 2) : Finset S8x2x256x512.Idx := Finset.univ.filter fun i => (i 0).val = j.val ∧ (i 1).val = t.val

theorem mem_slotSet {j : Dev nD} {t : Fin 2} {i : S8x2x256x512.Idx} : i ∈ slotSet j t ↔ (i 0).val = j.val ∧ (i 1).val = t.val := by
  unfold slotSet; rw [Finset.mem_filter]; exact ⟨fun h => h.2, fun h => ⟨Finset.mem_univ _, h⟩⟩

/-- A slot of the scratch as an offset. -/
def soff (j : Dev nD) (t : Fin 2) : Fin 4 → ℕ := ![j.val, t.val, 0, 0]

theorem rect_set {off : Fin 4 → ℕ} (j : Dev nD) (t : Fin 2) (ho : off = soff j t) (hin : ∀ a, off a + S1x1x256x512.size a ≤ S8x2x256x512.size a) :
    (Rect.unit (s := S8x2x256x512) off S1x1x256x512.size hin).set = slotSet j t := by
  subst ho
  ext i
  rw [Rect.mem_set_unit, mem_slotSet]
  constructor
  · intro h
    have h0 := h 0; have h1 := h 1
    change j.val ≤ (i 0).val ∧ (i 0).val < j.val + 1 at h0
    change t.val ≤ (i 1).val ∧ (i 1).val < t.val + 1 at h1
    omega
  · rintro ⟨h0, h1⟩ a
    match a with
    | 0 => show j.val ≤ (i 0).val ∧ (i 0).val < j.val + 1; omega
    | 1 => show t.val ≤ (i 1).val ∧ (i 1).val < t.val + 1; omega
    | 2 => exact ⟨Nat.zero_le _, by have := (i 2).isLt; simpa [soff] using this⟩
    | 3 => exact ⟨Nat.zero_le _, by have := (i 3).isLt; simpa [soff] using this⟩

abbrev slotM (off : Fin 4 → ℕ) (hin : ∀ a, off a + S1x1x256x512.size a ≤ S8x2x256x512.size a) : Memref sig .tc .vmem S256x512 .bf16 :=
  ((Memref.whole scr : Memref sig .tc .vmem S8x2x256x512 .bf16).slice (Rect.unit (s := S8x2x256x512) off S1x1x256x512.size hin) (fun _ => rfl)).squeeze
    S256x512 squeezes_S1x1x256x512_S256x512

theorem slotM_set {off : Fin 4 → ℕ} {hin} (j : Dev nD) (t : Fin 2) (ho : off = soff j t) : (slotM off hin).view.set = slotSet j t := by
  unfold slotM
  refine (View.set_reshape _ _).trans ?_
  refine Eq.trans ?_ (rect_set j t ho hin)
  exact View.set_slice_whole _ _

theorem access_set {off : Fin 4 → ℕ} {hin} (j : Dev nD) (t : Fin 2) (ho : off = soff j t) :
    ((Memref.whole scr : Memref sig .tc .vmem S8x2x256x512 .bf16).access (Rect.unit (s := S8x2x256x512) off S1x1x256x512.size hin) : View sig .tc _ _ _).set
      = slotSet j t := by
  refine Eq.trans ?_ (rect_set j t ho hin)
  exact View.set_slice_whole _ _

/-- What a transfer into a slot from the same slot leaves there: the source's contents. -/
theorem land_eq {off : Fin 4 → ℕ} {hin hin'} (fd fs : scr.ty.Contents (Elt F)) :
    ∀ i ∈ (slotM off hin).view.set, (slotM off hin).view.write (Elt F) fd ((slotM off hin').view.read (Elt F) fs) Finset.univ i = fs i := by
  intro i hi
  obtain ⟨x, -, rfl⟩ := Finset.mem_map.mp hi
  rw [View.write_emb_of_mem _ _ (Finset.mem_univ x), View.read_apply]
  exact cast_cast _ _ _

abbrev N : ℕ := (slotM (soff 0 0) (by decide)).view.dmaCredit
theorem N_pos : 0 < N := View.dmaCredit_pos _ (by decide)

/-- Slot `(j, t)` of device `c`, share `q`, at the contents `f`. -/
def slotPts (c j : Dev nD) (t : Fin 2) (q : PosShare TreeShare) (f : scr.ty.Contents (Elt F)) : sProp 𝕄 :=
  ((c : Thread nD τ).loc scr) ↦[slotSet j t]{q} f

instance slotPts_storable (c j t q f) : BI.Storable (upEmb : UEmb _ 𝕄) (slotPts (F := F) c j t q f) := by unfold slotPts; infer_instance

/-- The share of its source slot that a link's transfer takes. -/
def srcShare (e : Link) : PosShare TreeShare :=
  if par e = 0 then (match axis e with | 0 => fullShare.left | 1 => fullShare.right.left | 2 => fullShare.right.right) else fullShare.left

/-! ## The schedule -/

section Sched
variable (kv : scr.ty.Contents (Elt F))

/-- What the neighbour `nbr a c` hands `c` when it signals: the slots `c` will send into along axis `a`, and the round marks of their cells. -/
def dstPay (c : Dev nD) (e : Link) : sProp 𝕄 :=
  iprop((∃ f, slotPts (F := F) (nbr (axis e) c) (nb c (par e)) e.2 fullShare f) ∗ reached ER (recvCell (nbr (axis e) c) e) 0)
def barPay (c : Dev nD) (a : Fin 3) : sProp 𝕄 := bigSep (Finset.univ.filter fun e => axis e = a) fun e => dstPay (F := F) c e
def recvPay (c : Dev nD) (e : Link) : sProp 𝕄 := slotPts c (nb c (wm e)) e.2 fullShare kv
def sendPay (c : Dev nD) (e : Link) : sProp 𝕄 := slotPts c (nb c (par e)) e.2 (srcShare e) kv

/-- Which link's send or receive semaphore a semaphore is. -/
def asSend (s : SemLoc sig) : Option Link := match s with
  | .reg _ => none
  | .dma q => if h : 6 ≤ q.val ∧ q.val < 20 then some (⟨(q.val - 6) / 2, by omega⟩, ⟨(q.val - 6) % 2, by omega⟩) else none
def asRecv (s : SemLoc sig) : Option Link := match s with
  | .reg _ => none
  | .dma q => if h : 20 ≤ q.val ∧ q.val < 34 then some (⟨(q.val - 20) / 2, by omega⟩, ⟨(q.val - 20) % 2, by omega⟩) else none

theorem asSend_send (e : Link) : asSend (.dma (sendS e)) = some e := by revert e; decide
theorem asRecv_recv (e : Link) : asRecv (.dma (recvS e)) = some e := by revert e; decide
theorem asSend_recv (e : Link) : asSend (.dma (recvS e)) = none := by revert e; decide
theorem asRecv_send (e : Link) : asRecv (.dma (sendS e)) = none := by revert e; decide

abbrev IsBar (g : GSem nD τ sig) : Prop := g.1.2 = .tc ∧ g.2 = .reg barS
abbrev IsXfer (g : GSem nD τ sig) : Prop := g.1.2 = .tc ∧ ((asSend g.2).isSome ∨ (asRecv g.2).isSome)

/-- One round: a barrier cell has one duty of one unit per axis, a send or receive cell one duty of a slot's credit. -/
def ringRd : Rounds.Schedule (GSem nD τ sig) (Fin 3) 𝕄 where
  duties g r := if r = 0 ∧ IsBar g then Finset.univ else if r = 0 ∧ IsXfer g then {0} else ∅
  unitless _ := False
  amount g _ _ := if g.2 = .reg barS then 1 else N
  payload g _ d :=
    if g.2 = .reg barS then barPay g.1.1 d
    else match asRecv g.2 with
      | some e => recvPay kv g.1.1 e
      | none => match asSend g.2 with
        | some e => sendPay kv g.1.1 e
        | none => iprop(emp)
  amount_pos g _ _ _ := by
    by_cases h : g.2 = .reg barS
    · rw [if_pos h]; exact Nat.one_pos
    · rw [if_neg h]; exact N_pos

instance ringRd_payload_storable (g : GSem nD τ sig) (r : ℕ) (d : Fin 3) :
    BI.Storable (upEmb : UEmb _ 𝕄) ((ringRd (F := F) kv).payload g r d) := by
  dsimp only [ringRd]
  unfold barPay dstPay recvPay sendPay
  (repeat' split) <;> infer_instance

variable (c : Dev nD) (e : Link)

theorem dma_ne_bar (q : DmaSem sig) : (SemLoc.dma q : SemLoc sig) ≠ .reg barS := fun h => by cases h

omit [FloatOps F] in
theorem duties_bar : (ringRd (F := F) kv).duties (barCell c) 0 = Finset.univ := by dsimp only [ringRd]; exact if_pos ⟨rfl, rfl, rfl⟩
omit [FloatOps F] in
theorem duties_send : (ringRd (F := F) kv).duties (sendCell c e) 0 = {0} := by
  dsimp only [ringRd]; rw [if_neg (fun h => dma_ne_bar _ h.2.2)]; exact if_pos ⟨rfl, rfl, .inl (by rw [asSend_send]; rfl)⟩
omit [FloatOps F] in
theorem duties_recv : (ringRd (F := F) kv).duties (recvCell c e) 0 = {0} := by
  dsimp only [ringRd]; rw [if_neg (fun h => dma_ne_bar _ h.2.2)]; exact if_pos ⟨rfl, rfl, .inr (by rw [asRecv_recv]; rfl)⟩
omit [FloatOps F] in
theorem duties_later (g : GSem nD τ sig) : ∀ r, 1 ≤ r → (ringRd (F := F) kv).duties g r = ∅ :=
  fun r hr => by dsimp only [ringRd]; rw [if_neg fun h => by omega, if_neg fun h => by omega]

omit [FloatOps F] in
theorem amount_bar (d : Fin 3) : (ringRd (F := F) kv).amount (barCell c) 0 d = 1 := by dsimp only [ringRd]; exact if_pos rfl
omit [FloatOps F] in
theorem amount_dma (q : DmaSem sig) (d : Fin 3) : (ringRd (F := F) kv).amount ((c : Thread nD τ), .dma q) 0 d = N := by dsimp only [ringRd]; exact if_neg (dma_ne_bar _)

omit [FloatOps F] in
theorem expect_bar : (ringRd (F := F) kv).expect (barCell c) 0 = 3 := by
  unfold Schedule.expect Schedule.amountOf
  rw [duties_bar, Finset.sum_congr rfl fun d _ => amount_bar kv c d, Finset.sum_const, Finset.card_univ, Fintype.card_fin, smul_eq_mul]
omit [FloatOps F] in
theorem expect_send : (ringRd (F := F) kv).expect (sendCell c e) 0 = N := by
  unfold Schedule.expect Schedule.amountOf; rw [duties_send, Finset.sum_singleton, amount_dma]
omit [FloatOps F] in
theorem expect_recv : (ringRd (F := F) kv).expect (recvCell c e) 0 = N := by
  unfold Schedule.expect Schedule.amountOf; rw [duties_recv, Finset.sum_singleton, amount_dma]

omit [FloatOps F] in
theorem payload_bar (d : Fin 3) : (ringRd (F := F) kv).payload (barCell c) 0 d = barPay c d := by dsimp only [ringRd]; exact if_pos rfl
omit [FloatOps F] in
theorem payload_recv (d : Fin 3) : (ringRd (F := F) kv).payload (recvCell c e) 0 d = recvPay kv c e := by
  dsimp only [ringRd]; rw [if_neg (dma_ne_bar _), asRecv_recv]
omit [FloatOps F] in
theorem payload_send (d : Fin 3) : (ringRd (F := F) kv).payload (sendCell c e) 0 d = sendPay kv c e := by
  dsimp only [ringRd]; rw [if_neg (dma_ne_bar _), asRecv_send, asSend_send]

omit [FloatOps F] in
theorem rest_bar : bigSep ((ringRd (F := F) kv).duties (barCell c) 0 \ ∅) (fun d => (ringRd (F := F) kv).payload (barCell c) 0 d)
    ⊢ bigSep Finset.univ fun e => dstPay (F := F) c e := by
  rw [Finset.sdiff_empty, duties_bar, bigSep_congr (s := Finset.univ) (fun d _ => payload_bar kv c d)]
  unfold barPay
  have h : (Finset.univ.biUnion fun a : Fin 3 => Finset.univ.filter fun e => axis e = a) = (Finset.univ : Finset Link) := by decide
  refine (bigSep_biUnion Finset.univ (fun a : Fin 3 => Finset.univ.filter fun e => axis e = a)).trans ?_
  rw [h]; exact BI.Entails.refl _
omit [FloatOps F] in
theorem rest_send : bigSep ((ringRd (F := F) kv).duties (sendCell c e) 0 \ ∅) (fun d => (ringRd (F := F) kv).payload (sendCell c e) 0 d) = sendPay kv c e := by
  rw [Finset.sdiff_empty, duties_send, bigSep_singleton, payload_send]
omit [FloatOps F] in
theorem rest_recv : bigSep ((ringRd (F := F) kv).duties (recvCell c e) 0 \ ∅) (fun d => (ringRd (F := F) kv).payload (recvCell c e) 0 d) = recvPay kv c e := by
  rw [Finset.sdiff_empty, duties_recv, bigSep_singleton, payload_recv]

end Sched

end Cert.KernelIdealRun

end
-- ==== Proof.KernelIdealRun.State.lean ====
/-
The body's state as a function of how many of its transfers' operations have run, and one lemma per kind of operation.
-/
module

public import proofs.«01_k».proof.Proof.KernelIdealRun.Protocol

@[expose] public section

set_option maxRecDepth 16384

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The operations in program order -/

inductive Op | snd (e : Link) | wrv (e : Link) | wsd (e : Link)
  deriving DecidableEq

open Op in
/-- The transfers' operations of the body after the barrier, in program order. -/
def ops : List Op :=
  [snd (0, 0), snd (1, 1), snd (1, 0), snd (3, 1), snd (3, 0), snd (0, 1),
   wrv (0, 0), snd (2, 0), wrv (1, 1), snd (5, 1), wrv (1, 0), snd (5, 0), wrv (3, 1), snd (4, 1), wrv (3, 0), snd (4, 0), wrv (0, 1), snd (2, 1),
   wrv (2, 0), snd (6, 0), wrv (5, 1), snd (6, 1), wrv (5, 0), wrv (4, 1), wrv (4, 0), wrv (2, 1), wrv (6, 0), wrv (6, 1),
   wsd (0, 0), wsd (1, 1), wsd (1, 0), wsd (3, 1), wsd (3, 0), wsd (0, 1), wsd (2, 0), wsd (5, 1), wsd (5, 0), wsd (4, 1), wsd (4, 0), wsd (2, 1),
   wsd (6, 0), wsd (6, 1)]

/-- The operations run after `n` of them. -/
abbrev done (n : ℕ) : List Op := ops.take n

theorem mem_done_succ {n : ℕ} {o o' : Op} (h : ops[n]? = some o) : o' ∈ done (n + 1) ↔ o' ∈ done n ∨ o' = o := by
  unfold done; rw [List.take_add_one, h, List.mem_append]; simp

/-- The link that brought the source slot of `e`, if it is not the device's own. -/
def parLink : Link → Option Link
  | (0, _) => none | (1, _) => none | (2, t) => some (0, t) | (3, _) => none | (4, t) => some (3, t) | (5, t) => some (1, t)
  | (6, 0) => some (2, 0) | (6, 1) => some (5, 1)
/-- The link that sends on what `e` brought. -/
def child : Link → Option Link
  | (0, t) => some (2, t) | (1, t) => some (5, t) | (3, t) => some (4, t) | (2, 0) => some (6, 0) | (5, 1) => some (6, 1) | _ => none

theorem child_par {e f : Link} : child e = some f ↔ parLink f = some e := by revert e f; decide
theorem child_facts {e f : Link} (h : child e = some f) : par f = wm e ∧ f.2 = e.2 ∧ srcShare f = fullShare.left := by
  have h1 : par f = wm e ∧ f.2 = e.2 ∧ par f ≠ 0 := by revert e f; decide
  exact ⟨h1.1, h1.2.1, if_neg h1.2.2⟩

/-- What a device keeps of the slot a link brought. -/
def keepShare (e : Link) : PosShare TreeShare := if (child e).isSome then fullShare.right else fullShare

/-! ## Levels and what is owed -/

def owed (c : Dev nD) (n : ℕ) : CellTallies nD τ sig Unit :=
  ∑ e ∈ Finset.univ.filter (fun e : Link => Op.snd e ∉ done n), tallyAt (recvCell (nbr (axis e) c) e) () N

def L (g : GSem nD τ sig) : Finset Unit := if g.1.2 = .tc then {()} else ∅
def lv (g : GSem nD τ sig) (_ : Unit) : ℕ := if g.2 = .reg barS then 1 else match asRecv g.2 with | some e => 1 + depth e | none => 0

theorem L_tc (c : Dev nD) (sm : SemLoc sig) : L ((c : Thread nD τ), sm) = {()} := if_pos rfl
theorem L_of_ne (g : GSem nD τ sig) (h : g.1.2 ≠ .tc) : L g = ∅ := if_neg h
theorem lv_bar (c : Dev nD) (u : Unit) : lv (barCell c) u = 1 := if_pos rfl
theorem lv_recv (c : Dev nD) (e : Link) (u : Unit) : lv (recvCell c e) u = 1 + depth e := by
  unfold lv; rw [if_neg (dma_ne_bar _), asRecv_recv]

theorem sum_tallies_pos {I : Type} [DecidableEq I] (S : Finset I) (f : I → CellTallies nD τ sig Unit) {g : GSem nD τ sig} {u : Unit}
    (h : 0 < (∑ e ∈ S, f e) g u) : ∃ e ∈ S, 0 < f e g u := by
  induction S using Finset.induction_on with
  | empty => rw [Finset.sum_empty] at h; exact absurd h (Nat.lt_irrefl 0)
  | insert a S ha ih =>
    rw [Finset.sum_insert ha, Pi.add_apply, Finsupp.add_apply] at h
    rcases Nat.eq_zero_or_pos (f a g u) with h0 | h0
    · rw [h0, Nat.zero_add] at h
      obtain ⟨e, he, hp⟩ := ih h
      exact ⟨e, Finset.mem_insert_of_mem he, hp⟩
    · exact ⟨a, Finset.mem_insert_self _ _, h0⟩

theorem tally_pos {g g' : GSem nD τ sig} {u : Unit} {k : ℕ} (h : 0 < tallyAt g () k g' u) : g' = g := by
  rw [tallyAt_apply] at h
  by_contra hn
  rw [if_neg (fun h' => hn h'.1)] at h
  exact Nat.lt_irrefl 0 h

theorem owed_pos {c : Dev nD} {n : ℕ} {g : GSem nD τ sig} {u : Unit} (h : 0 < owed c n g u) :
    ∃ e : Link, Op.snd e ∉ done n ∧ g = recvCell (nbr (axis e) c) e := by
  obtain ⟨e, he, hp⟩ := sum_tallies_pos _ _ h
  exact ⟨e, (Finset.mem_filter.mp he).2, tally_pos hp⟩

theorem owed_send {c : Dev nD} {n : ℕ} {e : Link} (h : ops[n]? = some (Op.snd e)) (hn : Op.snd e ∉ done n) :
    owed c n = owed c (n + 1) + tallyAt (recvCell (nbr (axis e) c) e) () N := by
  unfold owed
  have hS : (Finset.univ.filter fun e' : Link => Op.snd e' ∉ done n) = insert e (Finset.univ.filter fun e' : Link => Op.snd e' ∉ done (n + 1)) := by
    ext e'
    rw [Finset.mem_insert, Finset.mem_filter, Finset.mem_filter, mem_done_succ h]
    constructor
    · rintro ⟨_, h'⟩
      by_cases he : e' = e
      · exact .inl he
      · exact .inr ⟨Finset.mem_univ _, fun h2 => h2.elim h' (fun h3 => he (by injection h3))⟩
    · rintro (rfl | ⟨_, h'⟩)
      · exact ⟨Finset.mem_univ _, hn⟩
      · exact ⟨Finset.mem_univ _, fun h2 => h' (.inl h2)⟩
  rw [hS, Finset.sum_insert (s := Finset.univ.filter fun e' : Link => Op.snd e' ∉ done (n + 1)) (fun h' => (Finset.mem_filter.mp h').2 ((mem_done_succ h).mpr (.inr rfl))), add_comm]

theorem owed_same {c : Dev nD} {n : ℕ} {o : Op} (h : ops[n]? = some o) (ho : ∀ e, Op.snd e ≠ o) : owed c (n + 1) = owed c n := by
  unfold owed
  congr 1
  ext e'
  rw [Finset.mem_filter, Finset.mem_filter, mem_done_succ h]
  exact ⟨fun ⟨a, b⟩ => ⟨a, fun h' => b (.inl h')⟩, fun ⟨a, b⟩ => ⟨a, fun h' => h'.elim b (ho e')⟩⟩

omit [FloatOps F] in
/-- A wait may be taken when its cell lies below every cell still owed. -/
theorem mayWait_owed (c : Dev nD) (n : ℕ) (sm : SemLoc sig) (b : ℕ) (hb : lv ((c : Thread nD τ), sm) () ≤ b)
    (h : ∀ e : Link, Op.snd e ∉ done n → b < 1 + depth e) :
    (levAts L lv : sProp 𝕄) ⊢ MayWait (c : Thread nD τ) sm () (owed c n) :=
  MayOwe.of_cut (L := L) (lev := lv) b (fun p hp => by rw [Finset.mem_singleton.mp hp, L_tc]; exact Finset.mem_singleton_self _)
    (fun g u hg => by obtain ⟨e, _, rfl⟩ := owed_pos hg; exact Finset.mem_singleton_self _)
    (fun p hp => by rw [Finset.mem_singleton.mp hp]; exact hb)
    (fun g u hg => by obtain ⟨e, he, rfl⟩ := owed_pos hg; rw [lv_recv]; exact h e he)

/-! ## The records -/

/-- The cells: the send and receive cells of the links and the barrier. -/
abbrev CI : Type := Option (Link × Bool)
def csem : CI → SemLoc sig
  | none => .reg barS
  | some (e, false) => .dma (sendS e)
  | some (e, true) => .dma (recvS e)
abbrev kcell (ck : Dev nD × CI) : GSem nD τ sig := ((ck.1 : Thread nD τ), csem ck.2)

section Rec
variable (kv : scr.ty.Contents (Elt F))

/-- The invariants of all cells and the round marks. -/
def records : sProp 𝕄 :=
  iprop((bigSep Finset.univ fun ck : Dev nD × CI => iprop(∃ κ : ℕ, cellInv ER (ringRd (F := F) kv) κ (kcell ck)))
    ∗ (bigSep Finset.univ fun ck : Dev nD × CI => reached ER (kcell ck) 0) ∗ levAts L lv)

instance records_persistent : BI.Persistent (records (F := F) kv) := by unfold records; infer_instance

theorem inv_at (ck : Dev nD × CI) : records (F := F) kv ⊢ iprop(∃ κ : ℕ, cellInv ER (ringRd (F := F) kv) κ (kcell ck)) := by
  unfold records
  iintro ⟨H, -, -⟩
  iapply (show (bigSep Finset.univ fun ck : Dev nD × CI => (iprop(∃ κ : ℕ, cellInv ER (ringRd (F := F) kv) κ (kcell ck)) : sProp 𝕄))
    ⊢ iprop(∃ κ : ℕ, cellInv ER (ringRd (F := F) kv) κ (kcell ck)) from bigSep_elim (Finset.mem_univ ck))
  iexact H
theorem reached_at (ck : Dev nD × CI) : records (F := F) kv ⊢ reached ER (kcell ck) 0 := by
  unfold records
  iintro ⟨-, H, -⟩
  iapply (show (bigSep Finset.univ fun ck : Dev nD × CI => (reached ER (kcell ck) 0 : sProp 𝕄)) ⊢ reached ER (kcell ck) 0 from bigSep_elim (Finset.mem_univ ck))
  iexact H
theorem lev_at : records (F := F) kv ⊢ levAts L lv := by
  unfold records
  iintro ⟨-, -, H⟩; iexact H

/-! ## The state -/

variable (c : Dev nD)

def keepPts (e : Link) : sProp 𝕄 := slotPts c (nb c (wm e)) e.2 (keepShare e) kv

def sendSt (n : ℕ) (e : Link) : sProp 𝕄 :=
  if Op.wsd e ∈ done n then semVal (sendCell c e) 0
  else if Op.snd e ∈ done n then iprop(atPos ER (sendCell c e) 0 ∅ 0 ∗ cred (tallyAt (sendCell c e) () N))
  else iprop(atPos ER (sendCell c e) 0 ∅ 0 ∗ dutyTok ER (sendCell c e) 0 0 ∗ dutyTok ER (recvCell (nbr (axis e) c) e) 0 0 ∗ dstPay (F := F) c e)
def recvSt (n : ℕ) (e : Link) : sProp 𝕄 :=
  if Op.wrv e ∈ done n then iprop(semVal (recvCell c e) 0 ∗ keepPts kv c e)
  else iprop(atPos ER (recvCell c e) 0 ∅ 0 ∗ cred (tallyAt (recvCell c e) () N))

abbrev Avail (n : ℕ) (e : Link) : Prop := match parLink e with | none => True | some f => Op.wrv f ∈ done n
instance (n : ℕ) (e : Link) : Decidable (Avail n e) := by unfold Avail; split <;> infer_instance
abbrev HasSrc (n : ℕ) (e : Link) : Prop := Avail n e ∧ (Op.snd e ∉ done n ∨ Op.wsd e ∈ done n)

def srcSt (n : ℕ) (e : Link) : sProp 𝕄 := if HasSrc n e then sendPay kv c e else iprop(emp)

def St (n : ℕ) : sProp 𝕄 :=
  iprop(bigSep Finset.univ (sendSt (F := F) c n) ∗ bigSep Finset.univ (recvSt kv c n) ∗ bigSep Finset.univ (srcSt kv c n)
    ∗ ∃ W, owes (c : Thread nD τ) (owed c n) W)

/-! ## The operations -/

theorem bigSep_swap {I : Type} [Fintype I] [DecidableEq I] (a : I) (Φ Ψ : I → sProp 𝕄) (h : ∀ x, x ≠ a → Ψ x = Φ x) :
    bigSep Finset.univ Φ ⊢ iprop(Φ a ∗ (Ψ a -∗ bigSep Finset.univ Ψ)) := by
  have h1 : bigSep Finset.univ Φ = iprop(Φ a ∗ bigSep (Finset.univ.erase a) Φ) := bigSep_erase (Finset.mem_univ a)
  have h2 : bigSep Finset.univ Ψ = iprop(Ψ a ∗ bigSep (Finset.univ.erase a) Ψ) := bigSep_erase (Finset.mem_univ a)
  have h3 : bigSep (Finset.univ.erase a) Ψ = bigSep (Finset.univ.erase a) Φ := bigSep_congr fun x hx => h x (Finset.ne_of_mem_erase hx)
  rw [h1, h2, h3]
  iintro ⟨H1, H2⟩
  isplitl [H1]; · iexact H1
  iintro H; isplitl [H] <;> iassumption

section Frames
variable {n : ℕ} {o : Op} (h : ops[n]? = some o)
include h
theorem sendSt_same {e : Link} (h1 : Op.wsd e ≠ o) (h2 : Op.snd e ≠ o) : sendSt (F := F) c (n + 1) e = sendSt c n e := by
  unfold sendSt; simp only [mem_done_succ h, h1, h2, or_false]
theorem recvSt_same {e : Link} (h1 : Op.wrv e ≠ o) : recvSt kv c (n + 1) e = recvSt kv c n e := by
  unfold recvSt; simp only [mem_done_succ h, h1, or_false]
theorem srcSt_same {e : Link} (h1 : Op.wsd e ≠ o) (h2 : Op.snd e ≠ o) (h3 : ∀ f, parLink e = some f → Op.wrv f ≠ o) : srcSt kv c (n + 1) e = srcSt kv c n e := by
  unfold srcSt
  have hA : Avail (n + 1) e ↔ Avail n e := by
    unfold Avail; split
    · exact Iff.rfl
    · rename_i f hf; rw [mem_done_succ h]; exact or_iff_left (h3 f hf)
  have hS : HasSrc (n + 1) e ↔ HasSrc n e := by
    unfold HasSrc; rw [hA, mem_done_succ h, mem_done_succ h, or_iff_left h1, or_iff_left h2]
  exact if_congr hS rfl rfl
end Frames

abbrev 𝒱₀ : Variants := Variants.none

/-- A transfer sent. -/
theorem step_send (n : ℕ) (e : Link) (h : ops[n]? = some (.snd e)) (hn : Op.snd e ∉ done n) (hw : Op.wsd e ∉ done (n + 1)) (ha : Avail n e)
    {off : Fin 4 → ℕ} (ho : off = soff (nb c (par e)) e.2) {hin hin'} {d : Dev nD} (hd : d = nbr (axis e) c)
    {qS qR : DmaSem sig} (hS : qS = sendS e) (hR : qR = recvS e)
    {hsc : (slotM off hin : Memref sig (Dev.tc d : Thread nD τ).2.kind .vmem S256x512 .bf16).view.ref.isScScratch = false}
    {hsrc : (slotM off hin').view.WordExact} {hdst : (slotM off hin).view.WordExact}
    {hsem : DmaTarget.Typed .vmem (.dma qR) (.remote (Dev.tc d : Thread nD τ) (slotM off hin : Memref sig .tc .vmem S256x512 .bf16) (.dma qS) hsc)}
    {α : Type} {Q : α → sProp 𝕄} {k : PUnit → Prog (TpuEff nD τ sig (Elt F) Λ₀ .tc) α} :
    iprop(records (F := F) kv ∗ St kv c n)
      ⊢ iprop((St kv c (n + 1) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM off hin') (.remote (Dev.tc d : Thread nD τ) (slotM off hin) (.dma qS) hsc) (.dma qR) hsrc hdst hsem) k) Q) := by
  subst hd hS hR
  have hsnd : Op.snd e ∈ done (n + 1) := (mem_done_succ h).mpr (.inr rfl)
  have hw0 : Op.wsd e ∉ done n := fun h' => hw ((mem_done_succ h).mpr (.inl h'))
  have e1 : sendSt (F := F) c n e = iprop(atPos ER (sendCell c e) 0 ∅ 0 ∗ dutyTok ER (sendCell c e) 0 0 ∗ dutyTok ER (recvCell (nbr (axis e) c) e) 0 0 ∗ dstPay (F := F) c e) := by
    unfold sendSt; rw [if_neg hw0, if_neg hn]
  have e2 : sendSt (F := F) c (n + 1) e = iprop(atPos ER (sendCell c e) 0 ∅ 0 ∗ cred (tallyAt (sendCell c e) () N)) := by
    unfold sendSt; rw [if_neg hw, if_pos hsnd]
  have e3 : srcSt kv c n e = sendPay kv c e := if_pos ⟨ha, .inl hn⟩
  have e4 : srcSt kv c (n + 1) e = iprop(emp) := if_neg (fun h' => h'.2.elim (fun h2 => h2 hsnd) hw)
  have e5 : bigSep Finset.univ (recvSt kv c (n + 1)) = bigSep Finset.univ (recvSt kv c n) :=
    bigSep_congr fun x _ => recvSt_same kv c h (fun h' => by cases h')
  have f1 : ∀ x, x ≠ e → sendSt (F := F) c (n + 1) x = sendSt c n x := fun x hx =>
    sendSt_same c h (fun h' => by cases h') (fun h' => hx (by injection h'))
  have f2 : ∀ x, x ≠ e → srcSt kv c (n + 1) x = srcSt kv c n x := fun x hx =>
    srcSt_same kv c h (fun h' => by cases h') (fun h' => hx (by injection h')) (fun f _ h' => by cases h')
  unfold St
  rw [owed_send h hn, e5]
  iintro ⟨#HR, Hs, Hr, Hx, ⟨%W, HO⟩⟩ Hk
  ihave Hs' := (bigSep_swap e _ _ f1) $$ Hs
  ihave Hx' := (bigSep_swap e _ _ f2) $$ Hx
  rw [e1, e2, e3, e4]
  unfold dstPay sendPay
  icases Hs' with ⟨⟨Hat, HtS, HtR, ⟨%fn, Hdst⟩, #HrR⟩, Hsb⟩
  icases Hx' with ⟨Hsrc, Hxb⟩
  ihave HIS := (inv_at kv (c, some (e, false))) $$ HR
  ihave HIR := (inv_at kv (nbr (axis e) c, some (e, true))) $$ HR
  icases HIS with ⟨%κ₁, #HIS⟩
  icases HIR with ⟨%κ₂, #HIR⟩
  ihave HrS := (reached_at kv (c, some (e, false))) $$ HR
  have hset : (slotM off hin').view.set = slotSet (nb c (par e)) e.2 := slotM_set _ _ ho
  have hset' : (slotM off hin).view.set = slotSet (nb c (par e)) e.2 := slotM_set _ _ ho
  iapply (Rounds.wp_send_pointsTo 𝒱₀ ER (ringRd (F := F) kv) (c : Thread nD τ) none (κ₁ := κ₁) (κ₂ := κ₂) (c' := (nbr (axis e) c : Thread nD τ))
    (src := slotM off hin') (dst := slotM off hin) (q := srcShare e) (fs := kv) (fd := fn)
    (r₁ := 0) (r₂ := 0) (d₁ := 0) (d₂ := 0)
    (by rw [duties_send]; exact Finset.mem_singleton_self _) (by rw [duties_recv]; exact Finset.mem_singleton_self _)
    () () N rfl (amount_dma kv c _ 0) (amount_dma kv (nbr (axis e) c) _ 0) (owed c (n + 1)) rfl (W := W)
    (by rw [payload_send]; unfold sendPay slotPts; rw [hset])
    (by rw [payload_recv, pointsTo_congr (land_eq fn kv)]; unfold recvPay slotPts; rw [hset', nb_nbr])) $$ [HO HtS HtR Hdst Hsrc]
  · isplitr; · iexact HIS
    isplitr; · iexact HIR
    isplitl [Hsrc]; · rw [hset]; unfold slotPts; iexact Hsrc
    isplitl [Hdst]; · rw [hset']; unfold slotPts; iexact Hdst
    isplitl [HO]; · iexact HO
    isplitl [HtS]; · iexact HtS
    isplitr; · iexact HrS
    isplitl [HtR]; · iexact HtR
    iexact HrR
  iintro ⟨Hc, HO⟩
  iapply Hk
  isplitl [Hsb Hat Hc]
  · iapply Hsb; isplitl [Hat] <;> iassumption
  isplitl [Hr]; · iexact Hr
  isplitl [Hxb]; · iapply Hxb; iempintro
  iexists W; iexact HO

omit [FloatOps F] in
theorem share_split (c j : Dev nD) (t : Fin 2) (q : PosShare TreeShare) (f : scr.ty.Contents (Elt F)) :
    slotPts (F := F) c j t q f ⊣⊢ iprop(slotPts c j t q.left f ∗ slotPts c j t q.right f) := by
  unfold slotPts; exact pointsTo_share (PosShare.mem_left_op_right q)

/-- A transfer received: the slot is here, a half of it for the link that sends it on. -/
theorem step_recv (n : ℕ) (e : Link) (h : ops[n]? = some (.wrv e)) (hn : Op.wrv e ∉ done n)
    (hc : ∀ f, child e = some f → Op.snd f ∉ done n ∧ Op.wsd f ∉ done n)
    (hlev : ∀ e' : Link, Op.snd e' ∉ done n → 1 + depth e < 1 + depth e')
    {off off' : Fin 4 → ℕ} {hin hin'}
    {qR : DmaSem sig} (hR : qR = recvS e)
    {hsrc : (slotM off hin).view.WordExact} {hdst : (slotM off' hin').view.WordExact}
    {α : Type} {Q : α → sProp 𝕄} {k : PUnit → Prog (TpuEff nD τ sig (Elt F) Λ₀ .tc) α} :
    iprop(records (F := F) kv ∗ St kv c n)
      ⊢ iprop((St kv c (n + 1) -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 qR (slotM off hin) (slotM off' hin') hsrc hdst) k) Q) := by
  subst hR
  have hrcv : Op.wrv e ∈ done (n + 1) := (mem_done_succ h).mpr (.inr rfl)
  have e1 : recvSt kv c n e = iprop(atPos ER (recvCell c e) 0 ∅ 0 ∗ cred (tallyAt (recvCell c e) () N)) := by
    unfold recvSt; rw [if_neg hn]
  have e2 : recvSt kv c (n + 1) e = iprop(semVal (recvCell c e) 0 ∗ keepPts kv c e) := by
    unfold recvSt; rw [if_pos hrcv]
  have e5 : bigSep Finset.univ (sendSt (F := F) c (n + 1)) = bigSep Finset.univ (sendSt (F := F) c n) :=
    bigSep_congr fun x _ => sendSt_same c h (fun h' => by cases h') (fun h' => by cases h')
  have f1 : ∀ x, x ≠ e → recvSt kv c (n + 1) x = recvSt kv c n x := fun x hx =>
    recvSt_same kv c h (fun h' => hx (by injection h'))
  have hx : iprop(slotPts c (nb c (wm e)) e.2 fullShare kv ∗ bigSep Finset.univ (srcSt kv c n)) ⊢ iprop(keepPts kv c e ∗ bigSep Finset.univ (srcSt kv c (n + 1))) := by
    unfold keepPts keepShare
    rcases hch : child e with _ | f
    · have : bigSep Finset.univ (srcSt kv c (n + 1)) = bigSep Finset.univ (srcSt kv c n) :=
        bigSep_congr fun x _ => srcSt_same kv c h (fun h' => by cases h') (fun h' => by cases h')
          (fun f hf h' => by injection h' with h'; subst h'; rw [child_par.mpr hf] at hch; cases hch)
      rw [this, if_neg (by simp)]
    · obtain ⟨g1, g2, g3⟩ := child_facts hch
      have hp : parLink f = some e := child_par.mp hch
      have f2 : ∀ x, x ≠ f → srcSt kv c (n + 1) x = srcSt kv c n x := fun x hx =>
        srcSt_same kv c h (fun h' => by cases h') (fun h' => by cases h')
          (fun f' hf h' => by injection h' with h'; subst h'; rw [child_par.mpr hf] at hch; exact hx (by injection hch))
      have e3 : srcSt kv c n f = iprop(emp) := if_neg (fun h' => hn (by have := h'.1; unfold Avail at this; rw [hp] at this; exact this))
      have e4 : srcSt kv c (n + 1) f = sendPay kv c f := if_pos ⟨by unfold Avail; rw [hp]; exact hrcv,
        .inl (fun h' => ((mem_done_succ h).mp h').elim (hc f hch).1 (fun h2 => by cases h2))⟩
      rw [if_pos (by simp)]
      iintro ⟨H, Hx⟩
      ihave Hx' := (bigSep_swap f _ _ f2) $$ Hx
      rw [e3, e4]
      unfold sendPay
      rw [g1, g2, g3]
      icases Hx' with ⟨-, Hxb⟩
      ihave H2 := (share_split c (nb c (wm e)) e.2 fullShare kv).1 $$ H
      icases H2 with ⟨HL, HRt⟩
      isplitl [HRt]; · iexact HRt
      iapply Hxb; iexact HL
  unfold St
  rw [owed_same h (fun e' h' => by cases h'), e5]
  iintro ⟨#HR, Hs, Hr, Hx, ⟨%W, HO⟩⟩ Hk
  ihave Hr' := (bigSep_swap e _ _ f1) $$ Hr
  rw [e1, e2]
  icases Hr' with ⟨⟨Hat, Hc⟩, Hrb⟩
  ihave HIR := (inv_at kv (c, some (e, true))) $$ HR
  icases HIR with ⟨%κ, #HIR⟩
  iapply (Rounds.wp_wait_rest_token 𝒱₀ ER (ringRd (F := F) kv) (c : Thread nD τ) none (κ := κ)
      (wpE_waitDma2_eq 𝒱₀ (c : Thread nD τ) none Set.univ) (Set.mem_univ _) () (O := owed c n) (W := W) (R := 0) (m := 0) (T := ∅)
      (by rw [Nat.zero_add, expect_recv])) $$ [Hc HO Hat]
  · isplitr; · iexact HIR
    isplitl [Hc]; · iexact Hc
    isplitl [HO]; · iexact HO
    isplitr
    · iapply (mayWait_owed c n _ (1 + depth e) (le_of_eq (lv_recv c e ())) hlev)
      iapply (lev_at kv); iexact HR
    iexact Hat
  iintro ⟨HO, Hat, -, Hpay⟩
  ihave Hp := (Entails.of_eq (rest_recv kv c e)) $$ Hpay
  unfold recvPay
  imod (Rounds.cell_close ER (ringRd (F := F) kv) (Set.mem_univ κ) (fun h => h) (R := 0 + 1) (duties_later kv (recvCell c e))) $$ [Hat] with Hz
  · isplitr; · iexact HIR
    iexact Hat
  ihave Hkx := hx $$ [Hp Hx]
  · isplitl [Hp] <;> iassumption
  icases Hkx with ⟨Hkeep, Hx⟩
  iapply Hk
  isplitl [Hs]; · iexact Hs
  isplitl [Hrb Hz Hkeep]
  · iapply Hrb; isplitl [Hz] <;> iassumption
  isplitl [Hx]; · iexact Hx
  iexists _; iexact HO

/-- A transfer's sending done: its source share is back. -/
theorem step_sent (n : ℕ) (e : Link) (h : ops[n]? = some (.wsd e)) (hn : Op.wsd e ∉ done n) (hs : Op.snd e ∈ done n) (ha : Avail n e)
    (hall : ∀ e' : Link, Op.snd e' ∈ done n)
    {off off' : Fin 4 → ℕ} {hin hin'}
    {qS : DmaSem sig} (hS : qS = sendS e)
    {hsrc : (slotM off hin).view.WordExact} {hdst : (slotM off' hin').view.WordExact}
    {α : Type} {Q : α → sProp 𝕄} {k : PUnit → Prog (TpuEff nD τ sig (Elt F) Λ₀ .tc) α} :
    iprop(records (F := F) kv ∗ St kv c n)
      ⊢ iprop((St kv c (n + 1) -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 qS (slotM off hin) (slotM off' hin') hsrc hdst) k) Q) := by
  subst hS
  have hd : Op.wsd e ∈ done (n + 1) := (mem_done_succ h).mpr (.inr rfl)
  have e1 : sendSt (F := F) c n e = iprop(atPos ER (sendCell c e) 0 ∅ 0 ∗ cred (tallyAt (sendCell c e) () N)) := by
    unfold sendSt; rw [if_neg hn, if_pos hs]
  have e2 : sendSt (F := F) c (n + 1) e = semVal (sendCell c e) 0 := by
    unfold sendSt; rw [if_pos hd]
  have e3 : srcSt kv c n e = iprop(emp) := if_neg (fun h' => h'.2.elim (fun h2 => h2 hs) hn)
  have e4 : srcSt kv c (n + 1) e = sendPay kv c e := if_pos ⟨by
      unfold Avail at ha ⊢; split
      · trivial
      · rename_i f hf; rw [hf] at ha; exact (mem_done_succ h).mpr (.inl ha), .inr hd⟩
  have e5 : bigSep Finset.univ (recvSt kv c (n + 1)) = bigSep Finset.univ (recvSt kv c n) :=
    bigSep_congr fun x _ => recvSt_same kv c h (fun h' => by cases h')
  have f1 : ∀ x, x ≠ e → sendSt (F := F) c (n + 1) x = sendSt c n x := fun x hx =>
    sendSt_same c h (fun h' => hx (by injection h')) (fun h' => by cases h')
  have f2 : ∀ x, x ≠ e → srcSt kv c (n + 1) x = srcSt kv c n x := fun x hx =>
    srcSt_same kv c h (fun h' => hx (by injection h')) (fun h' => by cases h') (fun f _ h' => by cases h')
  have hO : owed c n = 0 := by
    unfold owed; rw [Finset.filter_false_of_mem (fun x _ h' => h' (hall x)), Finset.sum_empty]
  unfold St
  rw [owed_same h (fun e' h' => by cases h'), e5, hO]
  iintro ⟨#HR, Hs, Hr, Hx, ⟨%W, HO⟩⟩ Hk
  ihave Hs' := (bigSep_swap e _ _ f1) $$ Hs
  ihave Hx' := (bigSep_swap e _ _ f2) $$ Hx
  rw [e1, e2, e3, e4]
  icases Hs' with ⟨⟨Hat, Hc⟩, Hsb⟩
  icases Hx' with ⟨-, Hxb⟩
  ihave HIS := (inv_at kv (c, some (e, false))) $$ HR
  icases HIS with ⟨%κ, #HIS⟩
  iapply (Rounds.wp_wait_rest_token 𝒱₀ ER (ringRd (F := F) kv) (c : Thread nD τ) none (κ := κ)
      (wpE_waitDma2_eq 𝒱₀ (c : Thread nD τ) none Set.univ) (Set.mem_univ _) () (O := 0) (W := W) (R := 0) (m := 0) (T := ∅)
      (by rw [Nat.zero_add, expect_send])) $$ [Hc HO Hat]
  · isplitr; · iexact HIS
    isplitl [Hc]; · iexact Hc
    isplitl [HO]; · iexact HO
    isplitr; · rw [MayWait_zero]; iempintro
    iexact Hat
  iintro ⟨HO, Hat, -, Hpay⟩
  ihave Hp := (Entails.of_eq (rest_send kv c e)) $$ Hpay
  imod (Rounds.cell_close ER (ringRd (F := F) kv) (Set.mem_univ κ) (fun h => h) (R := 0 + 1) (duties_later kv (sendCell c e))) $$ [Hat] with Hz
  · isplitr; · iexact HIS
    iexact Hat
  iapply Hk
  isplitl [Hsb Hz]
  · iapply Hsb; iexact Hz
  isplitl [Hr]; · iexact Hr
  isplitl [Hxb Hp]; · iapply Hxb; iexact Hp
  iexists _; iexact HO

/-- The contents of slot `(j, t)` as a loaded vector. -/
def slotVec (kv : scr.ty.Contents (Elt F)) (j : Dev nD) (t : Fin 2) : Vec F S1x1x256x512 .bf16 :=
  fun x => kv (fun a => ⟨soff j t a + x a, by
    match a with
    | 0 => have h : (x 0).val < 1 := (x 0).isLt; show j.val + (x 0).val < 8; have := j.isLt; change j.val < 8 at this; omega
    | 1 => have h : (x 1).val < 1 := (x 1).isLt; show t.val + (x 1).val < 2; omega
    | 2 => have h : (x 2).val < 256 := (x 2).isLt; show 0 + (x 2).val < 256; omega
    | 3 => have h : (x 3).val < 512 := (x 3).isLt; show 0 + (x 3).val < 512; omega⟩)

theorem read_slot (kv : scr.ty.Contents (Elt F)) {off : Fin 4 → ℕ} (j : Dev nD) (t : Fin 2) (ho : off = soff j t) (hin) :
    (Memref.whole scr : Memref sig .tc .vmem S8x2x256x512 .bf16).view.readAt (Elt F) (Rect.unit (s := S8x2x256x512) off S1x1x256x512.size hin).toLoadRect kv
      = slotVec kv j t := by
  subst ho
  funext x
  unfold slotVec
  show kv _ = kv _
  congr 1
  funext a
  apply Fin.ext
  show ((Rect.unit (s := S8x2x256x512) (soff j t) S1x1x256x512.size hin).emb x a : ℕ) = _
  rw [Rect.emb_apply]
  show soff j t a + 1 * (x a : ℕ) = _
  rw [Nat.one_mul]

theorem load_set {off : Fin 4 → ℕ} (j : Dev nD) (t : Fin 2) (ho : off = soff j t) (hin) :
    (Memref.whole scr : Memref sig .tc .vmem S8x2x256x512 .bf16).view.setOn (Rect.unit (s := S8x2x256x512) off S1x1x256x512.size hin).toLoadRect.set ⊆ slotSet j t := by
  intro i hi
  rw [← rect_set j t ho hin]
  obtain ⟨x, hx, rfl⟩ := Finset.mem_map.mp hi
  exact hx

/-- A load of a slot received. -/
theorem step_load (n : ℕ) (e : Link) (h : Op.wrv e ∈ done n) {off : Fin 4 → ℕ} (ho : off = soff (nb c (wm e)) e.2) {hin}
    {hl : (Memref.whole scr : Memref sig .tc .vmem S8x2x256x512 .bf16).view.LoadsAt (Rect.unit (s := S8x2x256x512) off S1x1x256x512.size hin).toLoadRect}
    {α : Type} {Q : α → sProp 𝕄} {k : Vec F S1x1x256x512 .bf16 → Prog (TpuEff nD τ sig (Elt F) Λ₀ .tc) α} :
    St kv c n
      ⊢ iprop((St kv c n -∗ wp frame (wpE (defs₀ (F := F)) 𝒱₀ (c : Thread nD τ) none) Set.univ (k (slotVec kv (nb c (wm e)) e.2)) Q)
          -∗ wp frame (wpE (defs₀ (F := F)) 𝒱₀ (c : Thread nD τ) none) Set.univ
              (.op (.load (Memref.whole scr : Memref sig .tc .vmem S8x2x256x512 .bf16) (Rect.unit (s := S8x2x256x512) off S1x1x256x512.size hin).toLoadRect hl) k) Q) := by
  have e2 : recvSt kv c n e = iprop(semVal (recvCell c e) 0 ∗ keepPts kv c e) := by
    unfold recvSt; rw [if_pos h]
  unfold St
  iintro ⟨Hs, Hr, Hx, HO⟩ Hk
  ihave Hr' := (bigSep_swap e _ _ (fun x (_ : x ≠ e) => (rfl : recvSt kv c n x = recvSt kv c n x))) $$ Hr
  rw [e2]
  unfold keepPts slotPts
  icases Hr' with ⟨⟨Hz, Hp⟩, Hrb⟩
  iapply (wp_load 𝒱₀ (c : Thread nD τ) none Set.univ (m := (Memref.whole scr : Memref sig .tc .vmem S8x2x256x512 .bf16)) (S := slotSet (nb c (wm e)) e.2)
    (f := kv) (load_set _ _ ho hin)) $$ Hp
  iintro Hp
  rw [read_slot kv _ _ ho]
  iapply Hk
  isplitl [Hs]; · iexact Hs
  isplitl [Hrb Hz Hp]
  · iapply Hrb; isplitl [Hz] <;> iassumption
  isplitl [Hx] <;> iassumption

end Rec

end Cert.KernelIdealRun

end
-- ==== Proof.KernelIdealRun.Values.lean ====
/-
The values the kernel computes, one definition per value of its program that outlives its part, as functions of
every device's inputs.
-/
module

public import proofs.«01_k».proof.Proof.KernelIdealRun.State

@[expose] public section

set_option maxRecDepth 16384

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- What a device is given: its blocks of the inputs. -/
structure Inp (F : FTy → Type) where
  x : Vec F S2x256x768 .f32
  wq : Vec F S768x256 .f32
  wk : Vec F S768x256 .f32
  wv : Vec F S768x256 .f32
  wo : Vec F S256x768 .f32

def V0 (I : Dev nD → Inp F) (c : Dev nD) : BitVec 32 := Dev.word c
def V1 (I : Dev nD → Inp F) (c : Dev nD) : BitVec 32 := Scalar.divsi (V0 I c) 1#32
def V2 (I : Dev nD → Inp F) (c : Dev nD) : BitVec 32 := Scalar.remsi (V1 I c) 8#32
def V3 (I : Dev nD → Inp F) (c : Dev nD) : BitVec 32 := Scalar.shrsi (V2 I c) 1#32
def V4 (I : Dev nD → Inp F) (c : Dev nD) : BitVec 32 := Scalar.andi (V3 I c) 1#32
def V5 (I : Dev nD → Inp F) (c : Dev nD) : BitVec 32 := Scalar.xori (V2 I c) (V4 I c)
def V25 (I : Dev nD → Inp F) (c : Dev nD) : IVec S256x256 32 := iota .tc S256x256 32 [1] iota_S256x256_d1_w32
def V26 (I : Dev nD → Inp F) (c : Dev nD) : BitVec 1 := Scalar.cmpi .eq 64#32 0#32
def V27 (I : Dev nD → Inp F) (c : Dev nD) : BitVec 32 := Scalar.select (V26 I c) 1#32 64#32
def V73 (I : Dev nD → Inp F) (c : Dev nD) : FVec F S256x256 .f32 := k0_pay1 (F := F) (V25 I c) (V27 I c)
def V113 (I : Dev nD → Inp F) (c : Dev nD) : BitVec 1 := Scalar.cmpi .eq 2#32 0#32
def V114 (I : Dev nD → Inp F) (c : Dev nD) : BitVec 32 := Scalar.select (V113 I c) 1#32 2#32
def V81 (I : Dev nD → Inp F) (c : Dev nD) : FVec F S256x256 .f32 := k0_pay3 (V2 I c) (V73 I c)
def V82 (I : Dev nD → Inp F) (c : Dev nD) : FVec F S256x256 .f32 := k0_pay4 (V2 I c) (V73 I c)
def V109 (I : Dev nD → Inp F) (c : Dev nD) : FVec F S256x256 .f32 := k0_pay5 (F := F)
def V112 (I : Dev nD → Inp F) (c : Dev nD) : IVec S256x256 1 := k0_pay6
def V116 (I : Dev nD → Inp F) (c : Dev nD) : IVec S256x256 32 := k0_pay7
def V117 (I : Dev nD → Inp F) (c : Dev nD) : IVec S256x256 32 := k0_pay8
def V137 (I : Dev nD → Inp F) (c : Dev nD) : Vec F S768x256 .f32 := (I c).wq
def V140 (I : Dev nD → Inp F) (c : Dev nD) : Vec F S768x256 .f32 := (I c).wk
def V143 (I : Dev nD → Inp F) (c : Dev nD) : Vec F S768x256 .f32 := (I c).wv
def V146 (I : Dev nD → Inp F) (c : Dev nD) : Vec F S1x256x768 .f32 := (Memref.whole cc0_stg0_0 : Memref sig .tc .vmem S2x256x768 .f32).view.readAt (Elt F) (Rect.unit (s := S2x256x768) ![0, 0, 0] S1x256x768.size inb_S2x256x768_S1x256x768_0_0_0).toLoadRect (I c).x
def V136 (I : Dev nD → Inp F) (c : Dev nD) : FVec F S256x256 .bf16 := k0_pay9 (V109 I c) (V112 I c) (V114 I c) (V116 I c) (V117 I c)
def V139 (I : Dev nD → Inp F) (c : Dev nD) : FVec F S768x256 .bf16 := k0_pay10 (V137 I c)
def V142 (I : Dev nD → Inp F) (c : Dev nD) : FVec F S768x256 .bf16 := k0_pay11 (V140 I c)
def V145 (I : Dev nD → Inp F) (c : Dev nD) : FVec F S768x256 .bf16 := k0_pay12 (V143 I c)
def V150 (I : Dev nD → Inp F) (c : Dev nD) : FVec F S256x256 .f32 := k0_pay14 (V140 I c) (V146 I c)
def V151 (I : Dev nD → Inp F) (c : Dev nD) : FVec F S256x256 .f32 := k0_pay15 (V143 I c) (V146 I c)
def V158 (I : Dev nD → Inp F) (c : Dev nD) : FVec F S256x256 .f32 := k0_pay16 (V81 I c) (V82 I c) (V109 I c) (V112 I c) (V114 I c) (V116 I c) (V117 I c) (V137 I c) (V146 I c)
def V175 (I : Dev nD → Inp F) (c : Dev nD) : Vec F S1x256x768 .f32 := (Memref.whole cc0_stg0_0 : Memref sig .tc .vmem S2x256x768 .f32).view.readAt (Elt F) (Rect.unit (s := S2x256x768) ![1, 0, 0] S1x256x768.size inb_S2x256x768_S1x256x768_1_0_0).toLoadRect (I c).x
def V160 (I : Dev nD → Inp F) (c : Dev nD) : FVec F S256x64 .bf16 := k0_pay18 (V158 I c)
def V161 (I : Dev nD → Inp F) (c : Dev nD) : FVec F S256x64 .bf16 := k0_pay19 (V158 I c)
def V162 (I : Dev nD → Inp F) (c : Dev nD) : FVec F S256x64 .bf16 := k0_pay20 (V158 I c)
def V163 (I : Dev nD → Inp F) (c : Dev nD) : FVec F S256x64 .bf16 := k0_pay21 (V158 I c)
def V170 (I : Dev nD → Inp F) (c : Dev nD) : FVec F S256x512 .bf16 := k0_pay22 (V81 I c) (V82 I c) (V136 I c) (V150 I c) (V151 I c)
def V189 (I : Dev nD → Inp F) (c : Dev nD) : FVec F S256x64 .bf16 := k0_pay26 (V81 I c) (V82 I c) (V136 I c) (V139 I c) (V175 I c)
def V190 (I : Dev nD → Inp F) (c : Dev nD) : FVec F S256x64 .bf16 := k0_pay27 (V81 I c) (V82 I c) (V136 I c) (V139 I c) (V175 I c)
def V191 (I : Dev nD → Inp F) (c : Dev nD) : FVec F S256x64 .bf16 := k0_pay28 (V81 I c) (V82 I c) (V136 I c) (V139 I c) (V175 I c)
def V192 (I : Dev nD → Inp F) (c : Dev nD) : FVec F S256x64 .bf16 := k0_pay29 (V81 I c) (V82 I c) (V136 I c) (V139 I c) (V175 I c)
def V199 (I : Dev nD → Inp F) (c : Dev nD) : FVec F S256x512 .bf16 := k0_pay30 (V81 I c) (V82 I c) (V136 I c) (V142 I c) (V145 I c) (V175 I c)
/-- What device `c` stores as its half `0`. -/
def K0 (I : Dev nD → Inp F) (c : Dev nD) : Vec F S1x1x256x512 .bf16 := k0_pay23 (V81 I c) (V82 I c) (V136 I c) (V150 I c) (V151 I c)
/-- What device `c` stores as its half `1`. -/
def K1 (I : Dev nD → Inp F) (c : Dev nD) : Vec F S1x1x256x512 .bf16 := k0_pay31 (V199 I c)
def V220 (I : Dev nD → Inp F) (c : Dev nD) : Vec F S256x768 .f32 := (I c).wo
def V231 (I : Dev nD → Inp F) (c : Dev nD) : BitVec 32 := Scalar.xori (V5 I c) 1#32
def V232 (I : Dev nD → Inp F) (c : Dev nD) : BitVec 32 := Scalar.shrsi (V231 I c) 1#32
def V233 (I : Dev nD → Inp F) (c : Dev nD) : BitVec 32 := Scalar.andi (V232 I c) 1#32
def V204 (I : Dev nD → Inp F) (c : Dev nD) : FVec F S256x1 .f32 := k0_pay32 (F := F)
def V205 (I : Dev nD → Inp F) (c : Dev nD) : FVec F S256x64 .f32 := k0_pay33 (F := F)
def V206 (I : Dev nD → Inp F) (c : Dev nD) : FVec F S256x1 .f32 := k0_pay34 (F := F)
def V207 (I : Dev nD → Inp F) (c : Dev nD) : FVec F S256x64 .f32 := k0_pay35 (F := F)
def V208 (I : Dev nD → Inp F) (c : Dev nD) : FVec F S256x1 .f32 := k0_pay36 (F := F)
def V209 (I : Dev nD → Inp F) (c : Dev nD) : FVec F S256x64 .f32 := k0_pay37 (F := F)
def V210 (I : Dev nD → Inp F) (c : Dev nD) : FVec F S256x1 .f32 := k0_pay38 (F := F)
def V211 (I : Dev nD → Inp F) (c : Dev nD) : FVec F S256x64 .f32 := k0_pay39 (F := F)
def V212 (I : Dev nD → Inp F) (c : Dev nD) : FVec F S256x1 .f32 := k0_pay40 (F := F)
def V213 (I : Dev nD → Inp F) (c : Dev nD) : FVec F S256x64 .f32 := k0_pay41 (F := F)
def V214 (I : Dev nD → Inp F) (c : Dev nD) : FVec F S256x1 .f32 := k0_pay42 (F := F)
def V215 (I : Dev nD → Inp F) (c : Dev nD) : FVec F S256x64 .f32 := k0_pay43 (F := F)
def V216 (I : Dev nD → Inp F) (c : Dev nD) : FVec F S256x1 .f32 := k0_pay44 (F := F)
def V217 (I : Dev nD → Inp F) (c : Dev nD) : FVec F S256x64 .f32 := k0_pay45 (F := F)
def V218 (I : Dev nD → Inp F) (c : Dev nD) : FVec F S256x1 .f32 := k0_pay46 (F := F)
def V219 (I : Dev nD → Inp F) (c : Dev nD) : FVec F S256x64 .f32 := k0_pay47 (F := F)
def V222 (I : Dev nD → Inp F) (c : Dev nD) : FVec F S256x768 .bf16 := k0_pay48 (V220 I c)
def C0_i32_164 (I : Dev nD → Inp F) (c : Dev nD) : BitVec 32 := 0#32
def V319 (I : Dev nD → Inp F) (c : Dev nD) : BitVec 32 := Scalar.xori (V5 I c) 4#32
def V320 (I : Dev nD → Inp F) (c : Dev nD) : BitVec 32 := Scalar.shrsi (V319 I c) 1#32
def V321 (I : Dev nD → Inp F) (c : Dev nD) : BitVec 32 := Scalar.andi (V320 I c) 1#32
def V322 (I : Dev nD → Inp F) (c : Dev nD) : BitVec 32 := Scalar.xori (V319 I c) (V321 I c)
def V361 (I : Dev nD → Inp F) (c : Dev nD) : FVec F S256x1 .f32 := k0_pay50 (V160 I c) (V170 I c) (V204 I c)
def V364 (I : Dev nD → Inp F) (c : Dev nD) : FVec F S256x64 .f32 := k0_pay51 (V160 I c) (V170 I c) (V205 I c)
def V371 (I : Dev nD → Inp F) (c : Dev nD) : FVec F S256x1 .f32 := k0_pay53 (V161 I c) (V170 I c) (V206 I c)
def V374 (I : Dev nD → Inp F) (c : Dev nD) : FVec F S256x64 .f32 := k0_pay54 (V161 I c) (V170 I c) (V207 I c)
def V381 (I : Dev nD → Inp F) (c : Dev nD) : FVec F S256x1 .f32 := k0_pay56 (V162 I c) (V170 I c) (V208 I c)
def V384 (I : Dev nD → Inp F) (c : Dev nD) : FVec F S256x64 .f32 := k0_pay57 (V162 I c) (V170 I c) (V209 I c)
def V391 (I : Dev nD → Inp F) (c : Dev nD) : FVec F S256x1 .f32 := k0_pay59 (V163 I c) (V170 I c) (V210 I c)
def V394 (I : Dev nD → Inp F) (c : Dev nD) : FVec F S256x64 .f32 := k0_pay60 (V163 I c) (V170 I c) (V211 I c)
def V396 (I : Dev nD → Inp F) (c : Dev nD) : FVec F S256x64 .bf16 := k0_pay61 (V199 I c)
def V397 (I : Dev nD → Inp F) (c : Dev nD) : FVec F S256x256 .f32 := k0_pay62 (V189 I c) (V199 I c)
def V439 (I : Dev nD → Inp F) (c : Dev nD) : BitVec 32 := Scalar.xori (V5 I c) 1#32
def V440 (I : Dev nD → Inp F) (c : Dev nD) : BitVec 32 := Scalar.shrsi (V439 I c) 1#32
def V401 (I : Dev nD → Inp F) (c : Dev nD) : FVec F S256x1 .f32 := k0_pay64 (V212 I c) (V397 I c)
def V404 (I : Dev nD → Inp F) (c : Dev nD) : FVec F S256x64 .f32 := k0_pay65 (V213 I c) (V396 I c) (V397 I c)
def V411 (I : Dev nD → Inp F) (c : Dev nD) : FVec F S256x1 .f32 := k0_pay67 (V190 I c) (V199 I c) (V214 I c)
def V414 (I : Dev nD → Inp F) (c : Dev nD) : FVec F S256x64 .f32 := k0_pay68 (V190 I c) (V199 I c) (V215 I c)
def V421 (I : Dev nD → Inp F) (c : Dev nD) : FVec F S256x1 .f32 := k0_pay70 (V191 I c) (V199 I c) (V216 I c)
def V424 (I : Dev nD → Inp F) (c : Dev nD) : FVec F S256x64 .f32 := k0_pay71 (V191 I c) (V199 I c) (V217 I c)
def V431 (I : Dev nD → Inp F) (c : Dev nD) : FVec F S256x1 .f32 := k0_pay73 (V192 I c) (V199 I c) (V218 I c)
def V434 (I : Dev nD → Inp F) (c : Dev nD) : FVec F S256x64 .f32 := k0_pay74 (V192 I c) (V199 I c) (V219 I c)
def C1_i32_253 (I : Dev nD → Inp F) (c : Dev nD) : BitVec 32 := 1#32
def V463 (I : Dev nD → Inp F) (c : Dev nD) : BitVec 32 := Scalar.xori (V5 I c) 2#32
def V464 (I : Dev nD → Inp F) (c : Dev nD) : BitVec 32 := Scalar.shrsi (V463 I c) 1#32
def V465 (I : Dev nD → Inp F) (c : Dev nD) : BitVec 32 := Scalar.andi (V464 I c) 1#32
def V466 (I : Dev nD → Inp F) (c : Dev nD) : BitVec 32 := Scalar.xori (V463 I c) (V465 I c)
def V467 (I : Dev nD → Inp F) (c : Dev nD) : BitVec 32 := Scalar.muli (V466 I c) 1#32
def C0_i32_285 (I : Dev nD → Inp F) (c : Dev nD) : BitVec 32 := 0#32
def V497 (I : Dev nD → Inp F) (c : Dev nD) : BitVec 32 := Scalar.xori (V5 I c) 2#32
def V498 (I : Dev nD → Inp F) (c : Dev nD) : BitVec 32 := Scalar.shrsi (V497 I c) 1#32
def V527 (I : Dev nD → Inp F) (c : Dev nD) : BitVec 32 := Scalar.xori (V5 I c) 2#32
def V528 (I : Dev nD → Inp F) (c : Dev nD) : BitVec 32 := Scalar.shrsi (V527 I c) 1#32
def V529 (I : Dev nD → Inp F) (c : Dev nD) : BitVec 32 := Scalar.andi (V528 I c) 1#32
def V585 (I : Dev nD → Inp F) (c : Dev nD) : BitVec 32 := Scalar.xori (V5 I c) 4#32
def V586 (I : Dev nD → Inp F) (c : Dev nD) : BitVec 32 := Scalar.shrsi (V585 I c) 1#32
def C1_i32_399 (I : Dev nD → Inp F) (c : Dev nD) : BitVec 32 := 1#32
def V611 (I : Dev nD → Inp F) (c : Dev nD) : BitVec 32 := Scalar.xori (V5 I c) 4#32
def V612 (I : Dev nD → Inp F) (c : Dev nD) : BitVec 32 := Scalar.shrsi (V611 I c) 1#32
def V613 (I : Dev nD → Inp F) (c : Dev nD) : BitVec 32 := Scalar.andi (V612 I c) 1#32
def V614 (I : Dev nD → Inp F) (c : Dev nD) : BitVec 32 := Scalar.xori (V611 I c) (V613 I c)
def C1_i32_430 (I : Dev nD → Inp F) (c : Dev nD) : BitVec 32 := 1#32
def V645 (I : Dev nD → Inp F) (c : Dev nD) : BitVec 32 := Scalar.xori (V5 I c) 1#32
def V673 (I : Dev nD → Inp F) (c : Dev nD) : BitVec 32 := Scalar.xori (V5 I c) 2#32
def V674 (I : Dev nD → Inp F) (c : Dev nD) : BitVec 32 := Scalar.shrsi (V673 I c) 1#32
def V675 (I : Dev nD → Inp F) (c : Dev nD) : BitVec 32 := Scalar.andi (V674 I c) 1#32
def V692 (I : Dev nD → Inp F) (c : Dev nD) : Vec F S1x1x256x512 .bf16 := K0 I (nb c 1)
def V693 (I : Dev nD → Inp F) (c : Dev nD) : FVec F S256x512 .bf16 := k0_pay75 (V692 I c)
def V700 (I : Dev nD → Inp F) (c : Dev nD) : FVec F S256x1 .f32 := k0_pay77 (V160 I c) (V361 I c) (V692 I c)
def V703 (I : Dev nD → Inp F) (c : Dev nD) : FVec F S256x64 .f32 := k0_pay78 (V160 I c) (V364 I c) (V692 I c)
def V705 (I : Dev nD → Inp F) (c : Dev nD) : FVec F S256x64 .bf16 := k0_pay79 (V692 I c)
def V710 (I : Dev nD → Inp F) (c : Dev nD) : FVec F S256x1 .f32 := k0_pay81 (V161 I c) (V371 I c) (V692 I c)
def V711 (I : Dev nD → Inp F) (c : Dev nD) : FVec F S256x256 .bf16 := k0_pay82 (V161 I c) (V692 I c)
def V739 (I : Dev nD → Inp F) (c : Dev nD) : Vec F S1x1x256x512 .bf16 := K1 I (nb c 1)
def V713 (I : Dev nD → Inp F) (c : Dev nD) : FVec F S256x64 .f32 := k0_pay83 (V374 I c) (V705 I c) (V711 I c)
def V720 (I : Dev nD → Inp F) (c : Dev nD) : FVec F S256x1 .f32 := k0_pay85 (V162 I c) (V381 I c) (V693 I c)
def V723 (I : Dev nD → Inp F) (c : Dev nD) : FVec F S256x64 .f32 := k0_pay86 (V162 I c) (V384 I c) (V693 I c)
def V730 (I : Dev nD → Inp F) (c : Dev nD) : FVec F S256x1 .f32 := k0_pay88 (V163 I c) (V391 I c) (V693 I c)
def V733 (I : Dev nD → Inp F) (c : Dev nD) : FVec F S256x64 .f32 := k0_pay89 (V163 I c) (V394 I c) (V693 I c)
def V740 (I : Dev nD → Inp F) (c : Dev nD) : FVec F S256x512 .bf16 := k0_pay90 (V739 I c)
def V747 (I : Dev nD → Inp F) (c : Dev nD) : FVec F S256x1 .f32 := k0_pay92 (V189 I c) (V401 I c) (V739 I c)
def V750 (I : Dev nD → Inp F) (c : Dev nD) : FVec F S256x64 .f32 := k0_pay93 (V189 I c) (V404 I c) (V739 I c)
def V752 (I : Dev nD → Inp F) (c : Dev nD) : FVec F S256x64 .bf16 := k0_pay94 (V739 I c)
def V754 (I : Dev nD → Inp F) (c : Dev nD) : FVec F S256x256 .f32 := k0_pay95 (V190 I c) (V739 I c)
def V786 (I : Dev nD → Inp F) (c : Dev nD) : Vec F S1x1x256x512 .bf16 := K0 I (nb c 2)
def V757 (I : Dev nD → Inp F) (c : Dev nD) : FVec F S256x1 .f32 := k0_pay96 (V411 I c) (V754 I c)
def V760 (I : Dev nD → Inp F) (c : Dev nD) : FVec F S256x64 .f32 := k0_pay97 (V414 I c) (V752 I c) (V754 I c)
def V767 (I : Dev nD → Inp F) (c : Dev nD) : FVec F S256x1 .f32 := k0_pay99 (V191 I c) (V421 I c) (V740 I c)
def V770 (I : Dev nD → Inp F) (c : Dev nD) : FVec F S256x64 .f32 := k0_pay100 (V191 I c) (V424 I c) (V740 I c)
def V777 (I : Dev nD → Inp F) (c : Dev nD) : FVec F S256x1 .f32 := k0_pay102 (V192 I c) (V431 I c) (V740 I c)
def V780 (I : Dev nD → Inp F) (c : Dev nD) : FVec F S256x64 .f32 := k0_pay103 (V192 I c) (V434 I c) (V740 I c)
def V787 (I : Dev nD → Inp F) (c : Dev nD) : FVec F S256x512 .bf16 := k0_pay104 (V786 I c)
def V794 (I : Dev nD → Inp F) (c : Dev nD) : FVec F S256x1 .f32 := k0_pay106 (V160 I c) (V700 I c) (V786 I c)
def V797 (I : Dev nD → Inp F) (c : Dev nD) : FVec F S256x64 .f32 := k0_pay107 (V160 I c) (V703 I c) (V786 I c)
def V833 (I : Dev nD → Inp F) (c : Dev nD) : Vec F S1x1x256x512 .bf16 := K1 I (nb c 2)
def V804 (I : Dev nD → Inp F) (c : Dev nD) : FVec F S256x1 .f32 := k0_pay109 (V161 I c) (V710 I c) (V787 I c)
def V807 (I : Dev nD → Inp F) (c : Dev nD) : FVec F S256x64 .f32 := k0_pay110 (V161 I c) (V713 I c) (V787 I c)
def V814 (I : Dev nD → Inp F) (c : Dev nD) : FVec F S256x1 .f32 := k0_pay112 (V162 I c) (V720 I c) (V787 I c)
def V817 (I : Dev nD → Inp F) (c : Dev nD) : FVec F S256x64 .f32 := k0_pay113 (V162 I c) (V723 I c) (V787 I c)
def V824 (I : Dev nD → Inp F) (c : Dev nD) : FVec F S256x1 .f32 := k0_pay115 (V163 I c) (V730 I c) (V787 I c)
def V827 (I : Dev nD → Inp F) (c : Dev nD) : FVec F S256x64 .f32 := k0_pay116 (V163 I c) (V733 I c) (V787 I c)
def V834 (I : Dev nD → Inp F) (c : Dev nD) : FVec F S256x512 .bf16 := k0_pay117 (V833 I c)
def V836 (I : Dev nD → Inp F) (c : Dev nD) : FVec F S256x64 .bf16 := k0_pay118 (V833 I c)
def V838 (I : Dev nD → Inp F) (c : Dev nD) : FVec F S256x256 .f32 := k0_pay119 (V189 I c) (V833 I c)
def V840 (I : Dev nD → Inp F) (c : Dev nD) : FVec F S256x1 .f32 := k0_pay120 (V189 I c) (V833 I c)
def V880 (I : Dev nD → Inp F) (c : Dev nD) : Vec F S1x1x256x512 .bf16 := K0 I (nb c 4)
def Cst_577 (I : Dev nD → Inp F) (c : Dev nD) : FVec F S256x256 .f32 := constant S256x256 .f32 0x00000000#32
def V841 (I : Dev nD → Inp F) (c : Dev nD) : FVec F S256x1 .f32 := k0_pay121 (V747 I c) (V840 I c)
def V844 (I : Dev nD → Inp F) (c : Dev nD) : FVec F S256x64 .f32 := k0_pay122 (V750 I c) (V836 I c) (V838 I c)
def V851 (I : Dev nD → Inp F) (c : Dev nD) : FVec F S256x1 .f32 := k0_pay124 (V190 I c) (V757 I c) (V834 I c)
def V854 (I : Dev nD → Inp F) (c : Dev nD) : FVec F S256x64 .f32 := k0_pay125 (V190 I c) (V760 I c) (V834 I c)
def V861 (I : Dev nD → Inp F) (c : Dev nD) : FVec F S256x1 .f32 := k0_pay127 (V191 I c) (V767 I c) (V834 I c)
def V864 (I : Dev nD → Inp F) (c : Dev nD) : FVec F S256x64 .f32 := k0_pay128 (V191 I c) (V770 I c) (V834 I c)
def V871 (I : Dev nD → Inp F) (c : Dev nD) : FVec F S256x1 .f32 := k0_pay130 (V192 I c) (V777 I c) (V834 I c)
def V874 (I : Dev nD → Inp F) (c : Dev nD) : FVec F S256x64 .f32 := k0_pay131 (V192 I c) (V780 I c) (V834 I c)
def V881 (I : Dev nD → Inp F) (c : Dev nD) : FVec F S256x512 .bf16 := k0_pay132 (V880 I c)
def V882 (I : Dev nD → Inp F) (c : Dev nD) : FVec F S256x64 .bf16 := k0_pay133 (V880 I c)
def V883 (I : Dev nD → Inp F) (c : Dev nD) : FVec F S256x64 .bf16 := k0_pay134 (V880 I c)
def V888 (I : Dev nD → Inp F) (c : Dev nD) : FVec F S256x1 .f32 := k0_pay136 (V160 I c) (V794 I c) (V882 I c) (Cst_577 I c)
def V891 (I : Dev nD → Inp F) (c : Dev nD) : FVec F S256x64 .f32 := k0_pay137 (V160 I c) (V797 I c) (V882 I c) (V883 I c) (Cst_577 I c)
def V898 (I : Dev nD → Inp F) (c : Dev nD) : FVec F S256x1 .f32 := k0_pay139 (V161 I c) (V804 I c) (V881 I c)
def V901 (I : Dev nD → Inp F) (c : Dev nD) : FVec F S256x64 .f32 := k0_pay140 (V161 I c) (V807 I c) (V881 I c)
def V908 (I : Dev nD → Inp F) (c : Dev nD) : FVec F S256x1 .f32 := k0_pay142 (V162 I c) (V814 I c) (V881 I c)
def V911 (I : Dev nD → Inp F) (c : Dev nD) : FVec F S256x64 .f32 := k0_pay143 (V162 I c) (V817 I c) (V881 I c)
def V918 (I : Dev nD → Inp F) (c : Dev nD) : FVec F S256x1 .f32 := k0_pay145 (V163 I c) (V824 I c) (V881 I c)
def V921 (I : Dev nD → Inp F) (c : Dev nD) : FVec F S256x64 .f32 := k0_pay146 (V163 I c) (V827 I c) (V881 I c)
def V927 (I : Dev nD → Inp F) (c : Dev nD) : Vec F S1x1x256x512 .bf16 := K1 I (nb c 4)
def V969 (I : Dev nD → Inp F) (c : Dev nD) : BitVec 32 := Scalar.xori (V5 I c) 3#32
def V970 (I : Dev nD → Inp F) (c : Dev nD) : BitVec 32 := Scalar.shrsi (V969 I c) 1#32
def V971 (I : Dev nD → Inp F) (c : Dev nD) : BitVec 32 := Scalar.andi (V970 I c) 1#32
def V935 (I : Dev nD → Inp F) (c : Dev nD) : FVec F S256x1 .f32 := k0_pay149 (V189 I c) (V841 I c) (V927 I c)
def V938 (I : Dev nD → Inp F) (c : Dev nD) : FVec F S256x64 .f32 := k0_pay150 (V189 I c) (V844 I c) (V927 I c)
def V945 (I : Dev nD → Inp F) (c : Dev nD) : FVec F S256x1 .f32 := k0_pay152 (V190 I c) (V851 I c) (V927 I c)
def V948 (I : Dev nD → Inp F) (c : Dev nD) : FVec F S256x64 .f32 := k0_pay153 (V190 I c) (V854 I c) (V927 I c)
def V955 (I : Dev nD → Inp F) (c : Dev nD) : FVec F S256x1 .f32 := k0_pay155 (V191 I c) (V861 I c) (V927 I c)
def V958 (I : Dev nD → Inp F) (c : Dev nD) : FVec F S256x64 .f32 := k0_pay156 (V191 I c) (V864 I c) (V927 I c)
def V965 (I : Dev nD → Inp F) (c : Dev nD) : FVec F S256x1 .f32 := k0_pay158 (V192 I c) (V871 I c) (V927 I c)
def V968 (I : Dev nD → Inp F) (c : Dev nD) : FVec F S256x64 .f32 := k0_pay159 (V192 I c) (V874 I c) (V927 I c)
def V997 (I : Dev nD → Inp F) (c : Dev nD) : BitVec 32 := Scalar.xori (V5 I c) 4#32
def V998 (I : Dev nD → Inp F) (c : Dev nD) : BitVec 32 := Scalar.shrsi (V997 I c) 1#32
def V999 (I : Dev nD → Inp F) (c : Dev nD) : BitVec 32 := Scalar.andi (V998 I c) 1#32
def V1000 (I : Dev nD → Inp F) (c : Dev nD) : BitVec 32 := Scalar.xori (V997 I c) (V999 I c)
def C3_i32_756 (I : Dev nD → Inp F) (c : Dev nD) : BitVec 32 := 3#32
def V1138 (I : Dev nD → Inp F) (c : Dev nD) : Vec F S1x1x256x512 .bf16 := K0 I (nb c 3)
def V1139 (I : Dev nD → Inp F) (c : Dev nD) : FVec F S256x512 .bf16 := k0_pay160 (V1138 I c)
def V1146 (I : Dev nD → Inp F) (c : Dev nD) : FVec F S256x1 .f32 := k0_pay162 (V160 I c) (V888 I c) (V1138 I c)
def V1149 (I : Dev nD → Inp F) (c : Dev nD) : FVec F S256x64 .f32 := k0_pay163 (V160 I c) (V891 I c) (V1138 I c)
def V1185 (I : Dev nD → Inp F) (c : Dev nD) : Vec F S1x1x256x512 .bf16 := K1 I (nb c 3)
def V1156 (I : Dev nD → Inp F) (c : Dev nD) : FVec F S256x1 .f32 := k0_pay165 (V161 I c) (V898 I c) (V1139 I c)
def V1159 (I : Dev nD → Inp F) (c : Dev nD) : FVec F S256x64 .f32 := k0_pay166 (V161 I c) (V901 I c) (V1139 I c)
def V1166 (I : Dev nD → Inp F) (c : Dev nD) : FVec F S256x1 .f32 := k0_pay168 (V162 I c) (V908 I c) (V1139 I c)
def V1169 (I : Dev nD → Inp F) (c : Dev nD) : FVec F S256x64 .f32 := k0_pay169 (V162 I c) (V911 I c) (V1139 I c)
def V1176 (I : Dev nD → Inp F) (c : Dev nD) : FVec F S256x1 .f32 := k0_pay171 (V163 I c) (V918 I c) (V1139 I c)
def V1179 (I : Dev nD → Inp F) (c : Dev nD) : FVec F S256x64 .f32 := k0_pay172 (V163 I c) (V921 I c) (V1139 I c)
def V1186 (I : Dev nD → Inp F) (c : Dev nD) : FVec F S256x512 .bf16 := k0_pay173 (V1185 I c)
def V1188 (I : Dev nD → Inp F) (c : Dev nD) : FVec F S256x64 .bf16 := k0_pay174 (V1185 I c)
def V1190 (I : Dev nD → Inp F) (c : Dev nD) : FVec F S256x256 .f32 := k0_pay175 (V189 I c) (V1185 I c)
def V1192 (I : Dev nD → Inp F) (c : Dev nD) : FVec F S256x1 .f32 := k0_pay176 (V189 I c) (V1185 I c)
def V1232 (I : Dev nD → Inp F) (c : Dev nD) : Vec F S1x1x256x512 .bf16 := K0 I (nb c 6)
def Cst_816 (I : Dev nD → Inp F) (c : Dev nD) : FVec F S256x256 .f32 := constant S256x256 .f32 0x00000000#32
def V1193 (I : Dev nD → Inp F) (c : Dev nD) : FVec F S256x1 .f32 := k0_pay177 (V935 I c) (V1192 I c)
def V1196 (I : Dev nD → Inp F) (c : Dev nD) : FVec F S256x64 .f32 := k0_pay178 (V938 I c) (V1188 I c) (V1190 I c)
def V1203 (I : Dev nD → Inp F) (c : Dev nD) : FVec F S256x1 .f32 := k0_pay180 (V190 I c) (V945 I c) (V1186 I c)
def V1206 (I : Dev nD → Inp F) (c : Dev nD) : FVec F S256x64 .f32 := k0_pay181 (V190 I c) (V948 I c) (V1186 I c)
def V1213 (I : Dev nD → Inp F) (c : Dev nD) : FVec F S256x1 .f32 := k0_pay183 (V191 I c) (V955 I c) (V1186 I c)
def V1216 (I : Dev nD → Inp F) (c : Dev nD) : FVec F S256x64 .f32 := k0_pay184 (V191 I c) (V958 I c) (V1186 I c)
def V1223 (I : Dev nD → Inp F) (c : Dev nD) : FVec F S256x1 .f32 := k0_pay186 (V192 I c) (V965 I c) (V1186 I c)
def V1226 (I : Dev nD → Inp F) (c : Dev nD) : FVec F S256x64 .f32 := k0_pay187 (V192 I c) (V968 I c) (V1186 I c)
def V1233 (I : Dev nD → Inp F) (c : Dev nD) : FVec F S256x512 .bf16 := k0_pay188 (V1232 I c)
def V1234 (I : Dev nD → Inp F) (c : Dev nD) : FVec F S256x64 .bf16 := k0_pay189 (V1232 I c)
def V1235 (I : Dev nD → Inp F) (c : Dev nD) : FVec F S256x64 .bf16 := k0_pay190 (V1232 I c)
def V1240 (I : Dev nD → Inp F) (c : Dev nD) : FVec F S256x1 .f32 := k0_pay192 (V160 I c) (V1146 I c) (V1234 I c) (Cst_816 I c)
def V1243 (I : Dev nD → Inp F) (c : Dev nD) : FVec F S256x64 .f32 := k0_pay193 (V160 I c) (V1149 I c) (V1234 I c) (V1235 I c) (Cst_816 I c)
def V1250 (I : Dev nD → Inp F) (c : Dev nD) : FVec F S256x1 .f32 := k0_pay195 (V161 I c) (V1156 I c) (V1233 I c)
def V1253 (I : Dev nD → Inp F) (c : Dev nD) : FVec F S256x64 .f32 := k0_pay196 (V161 I c) (V1159 I c) (V1233 I c)
def V1260 (I : Dev nD → Inp F) (c : Dev nD) : FVec F S256x1 .f32 := k0_pay198 (V162 I c) (V1166 I c) (V1233 I c)
def V1263 (I : Dev nD → Inp F) (c : Dev nD) : FVec F S256x64 .f32 := k0_pay199 (V162 I c) (V1169 I c) (V1233 I c)
def V1270 (I : Dev nD → Inp F) (c : Dev nD) : FVec F S256x1 .f32 := k0_pay201 (V163 I c) (V1176 I c) (V1233 I c)
def V1273 (I : Dev nD → Inp F) (c : Dev nD) : FVec F S256x64 .f32 := k0_pay202 (V163 I c) (V1179 I c) (V1233 I c)
def V1279 (I : Dev nD → Inp F) (c : Dev nD) : Vec F S1x1x256x512 .bf16 := K1 I (nb c 6)
def V1321 (I : Dev nD → Inp F) (c : Dev nD) : BitVec 32 := Scalar.xori (V5 I c) 5#32
def V1322 (I : Dev nD → Inp F) (c : Dev nD) : BitVec 32 := Scalar.shrsi (V1321 I c) 1#32
def V1323 (I : Dev nD → Inp F) (c : Dev nD) : BitVec 32 := Scalar.andi (V1322 I c) 1#32
def V1287 (I : Dev nD → Inp F) (c : Dev nD) : FVec F S256x1 .f32 := k0_pay205 (V189 I c) (V1193 I c) (V1279 I c)
def V1290 (I : Dev nD → Inp F) (c : Dev nD) : FVec F S256x64 .f32 := k0_pay206 (V189 I c) (V1196 I c) (V1279 I c)
def V1297 (I : Dev nD → Inp F) (c : Dev nD) : FVec F S256x1 .f32 := k0_pay208 (V190 I c) (V1203 I c) (V1279 I c)
def V1300 (I : Dev nD → Inp F) (c : Dev nD) : FVec F S256x64 .f32 := k0_pay209 (V190 I c) (V1206 I c) (V1279 I c)
def V1307 (I : Dev nD → Inp F) (c : Dev nD) : FVec F S256x1 .f32 := k0_pay211 (V191 I c) (V1213 I c) (V1279 I c)
def V1310 (I : Dev nD → Inp F) (c : Dev nD) : FVec F S256x64 .f32 := k0_pay212 (V191 I c) (V1216 I c) (V1279 I c)
def V1317 (I : Dev nD → Inp F) (c : Dev nD) : FVec F S256x1 .f32 := k0_pay214 (V192 I c) (V1223 I c) (V1279 I c)
def V1320 (I : Dev nD → Inp F) (c : Dev nD) : FVec F S256x64 .f32 := k0_pay215 (V192 I c) (V1226 I c) (V1279 I c)
def V1326 (I : Dev nD → Inp F) (c : Dev nD) : Vec F S1x1x256x512 .bf16 := K0 I (nb c 5)
def V1334 (I : Dev nD → Inp F) (c : Dev nD) : FVec F S256x1 .f32 := k0_pay218 (V160 I c) (V1240 I c) (V1326 I c)
def V1337 (I : Dev nD → Inp F) (c : Dev nD) : FVec F S256x64 .f32 := k0_pay219 (V160 I c) (V1243 I c) (V1326 I c)
def V1344 (I : Dev nD → Inp F) (c : Dev nD) : FVec F S256x1 .f32 := k0_pay221 (V161 I c) (V1250 I c) (V1326 I c)
def V1347 (I : Dev nD → Inp F) (c : Dev nD) : FVec F S256x64 .f32 := k0_pay222 (V161 I c) (V1253 I c) (V1326 I c)
def V1354 (I : Dev nD → Inp F) (c : Dev nD) : FVec F S256x1 .f32 := k0_pay224 (V162 I c) (V1260 I c) (V1326 I c)
def V1357 (I : Dev nD → Inp F) (c : Dev nD) : FVec F S256x64 .f32 := k0_pay225 (V162 I c) (V1263 I c) (V1326 I c)
def V1364 (I : Dev nD → Inp F) (c : Dev nD) : FVec F S256x1 .f32 := k0_pay227 (V163 I c) (V1270 I c) (V1326 I c)
def V1367 (I : Dev nD → Inp F) (c : Dev nD) : FVec F S256x64 .f32 := k0_pay228 (V163 I c) (V1273 I c) (V1326 I c)
def C5_i32_864 (I : Dev nD → Inp F) (c : Dev nD) : BitVec 32 := 5#32
def V1373 (I : Dev nD → Inp F) (c : Dev nD) : Vec F S1x1x256x512 .bf16 := K1 I (nb c 5)
def V1381 (I : Dev nD → Inp F) (c : Dev nD) : FVec F S256x1 .f32 := k0_pay231 (V189 I c) (V1287 I c) (V1373 I c)
def V1384 (I : Dev nD → Inp F) (c : Dev nD) : FVec F S256x64 .f32 := k0_pay232 (V189 I c) (V1290 I c) (V1373 I c)
def V1391 (I : Dev nD → Inp F) (c : Dev nD) : FVec F S256x1 .f32 := k0_pay234 (V190 I c) (V1297 I c) (V1373 I c)
def V1394 (I : Dev nD → Inp F) (c : Dev nD) : FVec F S256x64 .f32 := k0_pay235 (V190 I c) (V1300 I c) (V1373 I c)
def V1401 (I : Dev nD → Inp F) (c : Dev nD) : FVec F S256x1 .f32 := k0_pay237 (V191 I c) (V1307 I c) (V1373 I c)
def V1404 (I : Dev nD → Inp F) (c : Dev nD) : FVec F S256x64 .f32 := k0_pay238 (V191 I c) (V1310 I c) (V1373 I c)
def V1406 (I : Dev nD → Inp F) (c : Dev nD) : FVec F S256x64 .bf16 := k0_pay239 (V1373 I c)
def V1408 (I : Dev nD → Inp F) (c : Dev nD) : FVec F S256x256 .f32 := k0_pay240 (V192 I c) (V1373 I c)
def V1411 (I : Dev nD → Inp F) (c : Dev nD) : FVec F S256x1 .f32 := k0_pay241 (V192 I c) (V1317 I c) (V1373 I c)
def V1440 (I : Dev nD → Inp F) (c : Dev nD) : Vec F S1x1x256x512 .bf16 := K0 I (nb c 7)
def V1414 (I : Dev nD → Inp F) (c : Dev nD) : FVec F S256x64 .f32 := k0_pay242 (V1320 I c) (V1406 I c) (V1408 I c)
def V1441 (I : Dev nD → Inp F) (c : Dev nD) : FVec F S256x512 .bf16 := k0_pay243 (V1440 I c)
def V1442 (I : Dev nD → Inp F) (c : Dev nD) : FVec F S256x64 .bf16 := k0_pay244 (V1440 I c)
def V1478 (I : Dev nD → Inp F) (c : Dev nD) : FVec F S256x1 .f32 := k0_pay246 (V163 I c) (V1364 I c) (V1441 I c)
def V1481 (I : Dev nD → Inp F) (c : Dev nD) : FVec F S256x64 .f32 := k0_pay247 (V163 I c) (V1367 I c) (V1441 I c)
def V1484 (I : Dev nD → Inp F) (c : Dev nD) : FVec F S256x64 .bf16 := k0_pay248 (V160 I c) (V1334 I c) (V1337 I c) (V1441 I c) (V1442 I c)
def V1487 (I : Dev nD → Inp F) (c : Dev nD) : FVec F S256x64 .bf16 := k0_pay249 (V161 I c) (V1344 I c) (V1347 I c) (V1441 I c)
def V1490 (I : Dev nD → Inp F) (c : Dev nD) : FVec F S256x64 .bf16 := k0_pay250 (V162 I c) (V1354 I c) (V1357 I c) (V1441 I c)
def O0 (I : Dev nD → Inp F) (c : Dev nD) : Vec F S1x256x768 .f32 := k0_pay251 (V222 I c) (V1478 I c) (V1481 I c) (V1484 I c) (V1487 I c) (V1490 I c)
def V1519 (I : Dev nD → Inp F) (c : Dev nD) : BitVec 32 := Scalar.xori (V5 I c) 7#32
def V1520 (I : Dev nD → Inp F) (c : Dev nD) : BitVec 32 := Scalar.shrsi (V1519 I c) 1#32
def C1_i32_947 (I : Dev nD → Inp F) (c : Dev nD) : BitVec 32 := 1#32
def V1524 (I : Dev nD → Inp F) (c : Dev nD) : Vec F S1x1x256x512 .bf16 := K1 I (nb c 7)
def V1532 (I : Dev nD → Inp F) (c : Dev nD) : FVec F S256x1 .f32 := k0_pay254 (V189 I c) (V1381 I c) (V1524 I c)
def V1535 (I : Dev nD → Inp F) (c : Dev nD) : FVec F S256x64 .f32 := k0_pay255 (V189 I c) (V1384 I c) (V1524 I c)
def V1542 (I : Dev nD → Inp F) (c : Dev nD) : FVec F S256x1 .f32 := k0_pay257 (V190 I c) (V1391 I c) (V1524 I c)
def V1545 (I : Dev nD → Inp F) (c : Dev nD) : FVec F S256x64 .f32 := k0_pay258 (V190 I c) (V1394 I c) (V1524 I c)
def V1552 (I : Dev nD → Inp F) (c : Dev nD) : FVec F S256x1 .f32 := k0_pay260 (V191 I c) (V1401 I c) (V1524 I c)
def V1555 (I : Dev nD → Inp F) (c : Dev nD) : FVec F S256x64 .f32 := k0_pay261 (V191 I c) (V1404 I c) (V1524 I c)
def V1562 (I : Dev nD → Inp F) (c : Dev nD) : FVec F S256x1 .f32 := k0_pay263 (V192 I c) (V1411 I c) (V1524 I c)
def V1565 (I : Dev nD → Inp F) (c : Dev nD) : FVec F S256x64 .f32 := k0_pay264 (V192 I c) (V1414 I c) (V1524 I c)
def O1 (I : Dev nD → Inp F) (c : Dev nD) : Vec F S1x256x768 .f32 := k0_pay265 (V222 I c) (V1532 I c) (V1535 I c) (V1542 I c) (V1545 I c) (V1552 I c) (V1555 I c) (V1562 I c) (V1565 I c)

/-- The index inside a slot of an index of the scratch. -/
def inSlot (i : S8x2x256x512.Idx) : S1x1x256x512.Idx := fun a =>
  match a with
  | 0 => ⟨0, by decide⟩
  | 1 => ⟨0, by decide⟩
  | 2 => i 2
  | 3 => i 3

/-- The scratch's contents once every slot is filled: slot `(j, t)` holds half `t` of device `j`. -/
def KV (I : Dev nD → Inp F) : scr.ty.Contents (Elt F) := fun i : S8x2x256x512.Idx =>
  if (i 1).val = 0 then K0 I ⟨(i 0).val, (i 0).isLt⟩ (inSlot i) else K1 I ⟨(i 0).val, (i 0).isLt⟩ (inSlot i)

theorem inSlot_eq (x : S1x1x256x512.Idx) (i : S8x2x256x512.Idx) (h2 : (i 2).val = (x 2).val) (h3 : (i 3).val = (x 3).val) : inSlot i = x := by
  funext a
  match a with
  | 0 => exact Fin.ext (by have h : (x 0).val < 1 := (x 0).isLt; show 0 = (x 0).val; omega)
  | 1 => exact Fin.ext (by have h : (x 1).val < 1 := (x 1).isLt; show 0 = (x 1).val; omega)
  | 2 => exact Fin.ext h2
  | 3 => exact Fin.ext h3

theorem KV_0 (I : Dev nD → Inp F) (j : Dev nD) (x : S1x1x256x512.Idx) (i : S8x2x256x512.Idx) (h0 : (i 0).val = j.val) (h1 : (i 1).val = 0)
    (h2 : (i 2).val = (x 2).val) (h3 : (i 3).val = (x 3).val) : KV I i = K0 I j x := by
  unfold KV
  rw [if_pos h1, inSlot_eq x i h2 h3, show (⟨(i 0).val, (i 0).isLt⟩ : Dev nD) = j from Fin.ext h0]

theorem KV_1 (I : Dev nD → Inp F) (j : Dev nD) (x : S1x1x256x512.Idx) (i : S8x2x256x512.Idx) (h0 : (i 0).val = j.val) (h1 : (i 1).val = 1)
    (h2 : (i 2).val = (x 2).val) (h3 : (i 3).val = (x 3).val) : KV I i = K1 I j x := by
  unfold KV
  rw [if_neg (by rw [h1]; decide), inSlot_eq x i h2 h3, show (⟨(i 0).val, (i 0).isLt⟩ : Dev nD) = j from Fin.ext h0]

theorem slotVec_0 (I : Dev nD → Inp F) (j : Dev nD) : slotVec (KV I) j 0 = K0 I j := by
  funext x
  have h0 : (x 0).val < 1 := (x 0).isLt
  have h1 : (x 1).val < 1 := (x 1).isLt
  exact KV_0 I j x _ (by show j.val + (x 0).val = _; omega) (by show 0 + (x 1).val = _; omega) (by show 0 + (x 2).val = _; omega)
    (by show 0 + (x 3).val = _; omega)

theorem slotVec_1 (I : Dev nD → Inp F) (j : Dev nD) : slotVec (KV I) j 1 = K1 I j := by
  funext x
  have h0 : (x 0).val < 1 := (x 0).isLt
  have h1 : (x 1).val < 1 := (x 1).isLt
  exact KV_1 I j x _ (by show j.val + (x 0).val = _; omega) (by show 1 + (x 1).val = _; omega) (by show 0 + (x 2).val = _; omega)
    (by show 0 + (x 3).val = _; omega)

/-- Storing half `0` at a device's own slot makes the slot hold the filled scratch. -/
theorem store_0 (I : Dev nD → Inp F) (c : Dev nD) {off : Fin 4 → ℕ} (ho : off = soff c 0) (hin) (f : scr.ty.Contents (Elt F)) :
    ∀ i ∈ slotSet c 0, ((Memref.whole scr : Memref sig .tc .vmem S8x2x256x512 .bf16).access (Rect.unit (s := S8x2x256x512) off S1x1x256x512.size hin)
      : View sig .tc _ _ _).write (Elt F) f (K0 I c) Finset.univ i = KV I i := by
  intro i hi
  rw [← access_set (hin := hin) c 0 ho] at hi
  obtain ⟨x, hx, rfl⟩ := Finset.mem_map.mp hi
  rw [View.write_emb_of_mem _ _ (Finset.mem_univ x)]
  subst ho
  have h0 : (x 0).val < 1 := (x 0).isLt
  have h1 : (x 1).val < 1 := (x 1).isLt
  refine (KV_0 I c x _ ?_ ?_ ?_ ?_).symm
  · show c.val + 1 * (x 0).val = _; omega
  · show 0 + 1 * (x 1).val = _; omega
  · show 0 + 1 * (x 2).val = _; omega
  · show 0 + 1 * (x 3).val = _; omega

theorem store_1 (I : Dev nD → Inp F) (c : Dev nD) {off : Fin 4 → ℕ} (ho : off = soff c 1) (hin) (f : scr.ty.Contents (Elt F)) :
    ∀ i ∈ slotSet c 1, ((Memref.whole scr : Memref sig .tc .vmem S8x2x256x512 .bf16).access (Rect.unit (s := S8x2x256x512) off S1x1x256x512.size hin)
      : View sig .tc _ _ _).write (Elt F) f (K1 I c) Finset.univ i = KV I i := by
  intro i hi
  rw [← access_set (hin := hin) c 1 ho] at hi
  obtain ⟨x, hx, rfl⟩ := Finset.mem_map.mp hi
  rw [View.write_emb_of_mem _ _ (Finset.mem_univ x)]
  subst ho
  have h0 : (x 0).val < 1 := (x 0).isLt
  have h1 : (x 1).val < 1 := (x 1).isLt
  refine (KV_1 I c x _ ?_ ?_ ?_ ?_).symm
  · show c.val + 1 * (x 0).val = _; omega
  · show 1 + 1 * (x 1).val = _; omega
  · show 0 + 1 * (x 2).val = _; omega
  · show 0 + 1 * (x 3).val = _; omega

end Cert.KernelIdealRun

end
-- ==== Proof.KernelIdealRun.Steps.lean ====
/-
The closed forms of the kernel's slot offsets and neighbours, and the loads of a slot received.
-/
module

public import proofs.«01_k».proof.Proof.KernelIdealRun.Values

@[expose] public section

set_option maxRecDepth 16384

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem off3_0 : ∀ c : Dev nD, k0_off3 c 0#32 = soff (nb c 0) 0 := by decide +kernel
theorem off3_1 : ∀ c : Dev nD, k0_off3 c 1#32 = soff (nb c 1) 0 := by decide +kernel
theorem off3_2 : ∀ c : Dev nD, k0_off3 c 2#32 = soff (nb c 2) 0 := by decide +kernel
theorem off3_3 : ∀ c : Dev nD, k0_off3 c 3#32 = soff (nb c 3) 0 := by decide +kernel
theorem off3_4 : ∀ c : Dev nD, k0_off3 c 4#32 = soff (nb c 4) 0 := by decide +kernel
theorem off4_0 : ∀ c : Dev nD, k0_off4 c 0#32 = soff (nb c 0) 1 := by decide +kernel
theorem off4_1 : ∀ c : Dev nD, k0_off4 c 1#32 = soff (nb c 1) 1 := by decide +kernel
theorem off4_2 : ∀ c : Dev nD, k0_off4 c 2#32 = soff (nb c 2) 1 := by decide +kernel
theorem off4_4 : ∀ c : Dev nD, k0_off4 c 4#32 = soff (nb c 4) 1 := by decide +kernel
theorem off4_6 : ∀ c : Dev nD, k0_off4 c 6#32 = soff (nb c 6) 1 := by decide +kernel
theorem off5_1 : ∀ c : Dev nD, k0_off5 c 1#32 = soff (nb c 1) 0 := by decide +kernel
theorem off5_2 : ∀ c : Dev nD, k0_off5 c 2#32 = soff (nb c 2) 0 := by decide +kernel
theorem off5_3 : ∀ c : Dev nD, k0_off5 c 3#32 = soff (nb c 3) 0 := by decide +kernel
theorem off5_4 : ∀ c : Dev nD, k0_off5 c 4#32 = soff (nb c 4) 0 := by decide +kernel
theorem off5_5 : ∀ c : Dev nD, k0_off5 c 5#32 = soff (nb c 5) 0 := by decide +kernel
theorem off5_6 : ∀ c : Dev nD, k0_off5 c 6#32 = soff (nb c 6) 0 := by decide +kernel
theorem off5_7 : ∀ c : Dev nD, k0_off5 c 7#32 = soff (nb c 7) 0 := by decide +kernel
theorem off6_1 : ∀ c : Dev nD, k0_off6 c 1#32 = soff (nb c 1) 1 := by decide +kernel
theorem off6_2 : ∀ c : Dev nD, k0_off6 c 2#32 = soff (nb c 2) 1 := by decide +kernel
theorem off6_3 : ∀ c : Dev nD, k0_off6 c 3#32 = soff (nb c 3) 1 := by decide +kernel
theorem off6_4 : ∀ c : Dev nD, k0_off6 c 4#32 = soff (nb c 4) 1 := by decide +kernel
theorem off6_5 : ∀ c : Dev nD, k0_off6 c 5#32 = soff (nb c 5) 1 := by decide +kernel
theorem off6_6 : ∀ c : Dev nD, k0_off6 c 6#32 = soff (nb c 6) 1 := by decide +kernel
theorem off6_7 : ∀ c : Dev nD, k0_off6 c 7#32 = soff (nb c 7) 1 := by decide +kernel
theorem dev_4 : ∀ c : Dev nD, (⟨k0_dev4 c, k0_dev4_lt c⟩ : Dev nD) = nbr (axis (0, 0)) c := by decide +kernel
theorem dev_5 : ∀ c : Dev nD, (⟨k0_dev5 c, k0_dev5_lt c⟩ : Dev nD) = nbr (axis (1, 1)) c := by decide +kernel
theorem dev_6 : ∀ c : Dev nD, (⟨k0_dev6 c, k0_dev6_lt c⟩ : Dev nD) = nbr (axis (1, 0)) c := by decide +kernel
theorem dev_7 : ∀ c : Dev nD, (⟨k0_dev7 c, k0_dev7_lt c⟩ : Dev nD) = nbr (axis (3, 1)) c := by decide +kernel
theorem dev_8 : ∀ c : Dev nD, (⟨k0_dev8 c, k0_dev8_lt c⟩ : Dev nD) = nbr (axis (3, 0)) c := by decide +kernel
theorem dev_9 : ∀ c : Dev nD, (⟨k0_dev9 c, k0_dev9_lt c⟩ : Dev nD) = nbr (axis (0, 1)) c := by decide +kernel
theorem dev_10 : ∀ c : Dev nD, (⟨k0_dev10 c, k0_dev10_lt c⟩ : Dev nD) = nbr (axis (2, 0)) c := by decide +kernel
theorem dev_11 : ∀ c : Dev nD, (⟨k0_dev11 c, k0_dev11_lt c⟩ : Dev nD) = nbr (axis (5, 1)) c := by decide +kernel
theorem dev_12 : ∀ c : Dev nD, (⟨k0_dev12 c, k0_dev12_lt c⟩ : Dev nD) = nbr (axis (5, 0)) c := by decide +kernel
theorem dev_13 : ∀ c : Dev nD, (⟨k0_dev13 c, k0_dev13_lt c⟩ : Dev nD) = nbr (axis (4, 1)) c := by decide +kernel
theorem dev_14 : ∀ c : Dev nD, (⟨k0_dev14 c, k0_dev14_lt c⟩ : Dev nD) = nbr (axis (4, 0)) c := by decide +kernel
theorem dev_15 : ∀ c : Dev nD, (⟨k0_dev15 c, k0_dev15_lt c⟩ : Dev nD) = nbr (axis (2, 1)) c := by decide +kernel
theorem dev_16 : ∀ c : Dev nD, (⟨k0_dev16 c, k0_dev16_lt c⟩ : Dev nD) = nbr (axis (6, 0)) c := by decide +kernel
theorem dev_17 : ∀ c : Dev nD, (⟨k0_dev17 c, k0_dev17_lt c⟩ : Dev nD) = nbr (axis (6, 1)) c := by decide +kernel
theorem dev_1 : ∀ c : Dev nD, (⟨k0_dev1 c, k0_dev1_lt c⟩ : Dev nD) = nbr 0 c := by decide +kernel
theorem dev_2 : ∀ c : Dev nD, (⟨k0_dev2 c, k0_dev2_lt c⟩ : Dev nD) = nbr 1 c := by decide +kernel
theorem dev_3 : ∀ c : Dev nD, (⟨k0_dev3 c, k0_dev3_lt c⟩ : Dev nD) = nbr 2 c := by decide +kernel

theorem off1 (c : Dev nD) : k0_off1 c = soff c 0 := by revert c; decide +kernel
theorem off2 (c : Dev nD) : k0_off2 c = soff c 1 := by revert c; decide +kernel

variable (I : Dev nD → Inp F) (c : Dev nD)

theorem step_load_0 (n : ℕ) (e : Link) (m : Fin 8) (hm : wm e = m) (h : Op.wrv e ∈ done n) {off : Fin 4 → ℕ} (ho : off = soff (nb c (wm e)) e.2) {hin}
    {hl : (Memref.whole scr : Memref sig .tc .vmem S8x2x256x512 .bf16).view.LoadsAt (Rect.unit (s := S8x2x256x512) off S1x1x256x512.size hin).toLoadRect}
    {α : Type} {Q : α → sProp 𝕄} {k : Vec F S1x1x256x512 .bf16 → Prog (TpuEff nD τ sig (Elt F) Λ₀ .tc) α} (ht : e.2 = 0 := by rfl) :
    St (KV I) c n
      ⊢ iprop((St (KV I) c n -∗ wp frame (wpE (defs₀ (F := F)) 𝒱₀ (c : Thread nD τ) none) Set.univ (k (K0 I (nb c m))) Q)
          -∗ wp frame (wpE (defs₀ (F := F)) 𝒱₀ (c : Thread nD τ) none) Set.univ
              (.op (.load (Memref.whole scr : Memref sig .tc .vmem S8x2x256x512 .bf16) (Rect.unit (s := S8x2x256x512) off S1x1x256x512.size hin).toLoadRect hl) k) Q) := by
  subst hm
  have hs := step_load (KV I) c n e h ho (hin := hin) (hl := hl) (Q := Q) (k := k)
  rw [show slotVec (KV I) (nb c (wm e)) e.2 = K0 I (nb c (wm e)) by rw [ht]; exact slotVec_0 I _] at hs
  exact hs

theorem step_load_1 (n : ℕ) (e : Link) (m : Fin 8) (hm : wm e = m) (h : Op.wrv e ∈ done n) {off : Fin 4 → ℕ} (ho : off = soff (nb c (wm e)) e.2) {hin}
    {hl : (Memref.whole scr : Memref sig .tc .vmem S8x2x256x512 .bf16).view.LoadsAt (Rect.unit (s := S8x2x256x512) off S1x1x256x512.size hin).toLoadRect}
    {α : Type} {Q : α → sProp 𝕄} {k : Vec F S1x1x256x512 .bf16 → Prog (TpuEff nD τ sig (Elt F) Λ₀ .tc) α} (ht : e.2 = 1 := by rfl) :
    St (KV I) c n
      ⊢ iprop((St (KV I) c n -∗ wp frame (wpE (defs₀ (F := F)) 𝒱₀ (c : Thread nD τ) none) Set.univ (k (K1 I (nb c m))) Q)
          -∗ wp frame (wpE (defs₀ (F := F)) 𝒱₀ (c : Thread nD τ) none) Set.univ
              (.op (.load (Memref.whole scr : Memref sig .tc .vmem S8x2x256x512 .bf16) (Rect.unit (s := S8x2x256x512) off S1x1x256x512.size hin).toLoadRect hl) k) Q) := by
  subst hm
  have hs := step_load (KV I) c n e h ho (hin := hin) (hl := hl) (Q := Q) (k := k)
  rw [show slotVec (KV I) (nb c (wm e)) e.2 = K1 I (nb c (wm e)) by rw [ht]; exact slotVec_1 I _] at hs
  exact hs

end Cert.KernelIdealRun

end
-- ==== Proof.KernelIdealRun.Start.lean ====
/-
The body's parts outside its transfers: the barrier, the reads of the inputs, the stores of the device's own slots and of
the result, and the scratch put together again.
-/
module

public import proofs.«01_k».proof.Proof.KernelIdealRun.Steps

@[expose] public section

set_option maxRecDepth 16384

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The scratch and its slots -/

/-- The slots as device `c` names them: its own two and one per link. -/
def slotOf (c : Dev nD) : Fin 2 ⊕ Link → Finset S8x2x256x512.Idx
  | .inl t => slotSet c t
  | .inr e => slotSet (nb c (wm e)) e.2

theorem nb_cover : ∀ c j : Dev nD, c = j ∨ ∃ w : Fin 7, nb c (wm (w, 0)) = j := by decide
theorem nb_inj : ∀ (c : Dev nD) (e e' : Link), nb c (wm e) = nb c (wm e') → e.1 = e'.1 := by decide
theorem nb_ne : ∀ (c : Dev nD) (e : Link), nb c (wm e) ≠ c := by decide
theorem wm_fst (w : Fin 7) (t : Fin 2) : wm (w, t) = wm (w, 0) := rfl

theorem slot_disj {j j' : Dev nD} {t t' : Fin 2} (h : ¬ (j = j' ∧ t = t')) : Disjoint (slotSet j t) (slotSet j' t') := by
  rw [Finset.disjoint_left]
  intro i hi hi'
  rw [mem_slotSet] at hi hi'
  exact h ⟨Fin.ext (hi.1.symm.trans hi'.1), Fin.ext (hi.2.symm.trans hi'.2)⟩

theorem slots_cover (c : Dev nD) : Finset.univ.biUnion (slotOf c) = Finset.univ := by
  ext i
  simp only [Finset.mem_biUnion, Finset.mem_univ, true_and, iff_true]
  have h0 : (i 0).val < 8 := (i 0).isLt
  have h1 : (i 1).val < 2 := (i 1).isLt
  rcases nb_cover c ⟨(i 0).val, h0⟩ with h | ⟨w, h⟩
  · exact ⟨.inl ⟨(i 1).val, h1⟩, mem_slotSet.mpr ⟨by rw [h], rfl⟩⟩
  · refine ⟨.inr (w, ⟨(i 1).val, h1⟩), ?_⟩
    show i ∈ slotSet (nb c (wm (w, _))) _
    rw [wm_fst, h]
    exact mem_slotSet.mpr ⟨rfl, rfl⟩

theorem slots_disj (c : Dev nD) : ∀ a ∈ (Finset.univ : Finset (Fin 2 ⊕ Link)), ∀ b ∈ (Finset.univ : Finset (Fin 2 ⊕ Link)), a ≠ b → Disjoint (slotOf c a) (slotOf c b) := by
  rintro (t | e) - (t' | e') - hne
  · exact slot_disj fun h => hne (by rw [h.2])
  · exact slot_disj fun h => nb_ne c e' h.1.symm
  · exact slot_disj fun h => nb_ne c e h.1
  · exact slot_disj fun h => hne (by rw [Prod.ext (nb_inj c e e' h.1) h.2])

omit [FloatOps F] in
/-- The scratch held whole is its slots held. -/
theorem scratch_slots (c : Dev nD) (q : PosShare TreeShare) (f : scr.ty.Contents (Elt F)) :
    (((c : Thread nD τ).loc scr ↦{q} f : sProp 𝕄))
      = iprop((slotPts c c 0 q f ∗ slotPts c c 1 q f) ∗ bigSep Finset.univ fun e : Link => slotPts c (nb c (wm e)) e.2 q f) := by
  have h := pointsTo_biUnion (Ix := Unit) (Val := Elt F) (Name := ℕ) (U := UU) (Lvl := ℕ) (ℓ := (c : Thread nD τ).loc scr) (q := q) (f := f) Finset.univ (slotOf c) (slots_disj c)
  rw [show (Finset.univ.biUnion (slotOf c) : Finset (Idx ((c : Thread nD τ).loc scr))) = Finset.univ from slots_cover c] at h
  refine h.trans ?_
  rw [bigSep_univ_sum, bigSep_univ_two]
  unfold slotPts
  rfl

/-! ## The sources -/

section Src
variable (kv : scr.ty.Contents (Elt F)) (c : Dev nD)

theorem hasSrc_0 : ∀ e : Link, HasSrc 0 e ↔ par e = 0 := by decide
theorem hasSrc_42 : ∀ e : Link, HasSrc 42 e := by decide

abbrev links : List Link := [(0, 0), (0, 1), (1, 0), (1, 1), (2, 0), (2, 1), (3, 0), (3, 1), (4, 0), (4, 1), (5, 0), (5, 1), (6, 0), (6, 1)]
theorem bigSep_links (Φ : Link → sProp 𝕄) : bigSep Finset.univ Φ
    = iprop(Φ (0, 0) ∗ Φ (0, 1) ∗ Φ (1, 0) ∗ Φ (1, 1) ∗ Φ (2, 0) ∗ Φ (2, 1) ∗ Φ (3, 0) ∗ Φ (3, 1) ∗ Φ (4, 0) ∗ Φ (4, 1) ∗ Φ (5, 0) ∗ Φ (5, 1) ∗ Φ (6, 0) ∗ Φ (6, 1)) := by
  rw [bigSep_univ_eq_bigSepL links (by decide) (by decide)]
  simp only [bigSepL_cons_cons, bigSepL_singleton]
  rfl

theorem own_src (e : Link) (t : Fin 2) (ht : e.2 = t) (h : par e = 0) : sendPay kv c e = slotPts c c t (srcShare e) kv := by
  unfold sendPay; rw [h, nb_zero, ht]

theorem src_0 : bigSep Finset.univ (srcSt kv c 0)
    = iprop(slotPts c c 0 (srcShare (0, 0)) kv ∗ slotPts c c 1 (srcShare (0, 1)) kv ∗ slotPts c c 0 (srcShare (1, 0)) kv ∗ slotPts c c 1 (srcShare (1, 1)) kv
      ∗ emp ∗ emp ∗ slotPts c c 0 (srcShare (3, 0)) kv ∗ slotPts c c 1 (srcShare (3, 1)) kv ∗ emp ∗ emp ∗ emp ∗ emp ∗ emp ∗ emp) := by
  rw [bigSep_links]
  have hp : ∀ e : Link, par e = 0 → srcSt kv c 0 e = sendPay kv c e := fun e h => if_pos ((hasSrc_0 e).mpr h)
  have hn : ∀ e : Link, par e ≠ 0 → srcSt kv c 0 e = iprop(emp) := fun e h => if_neg (fun h' => h ((hasSrc_0 e).mp h'))
  rw [hp (0, 0) (by decide), hp (0, 1) (by decide), hp (1, 0) (by decide), hp (1, 1) (by decide), hp (3, 0) (by decide), hp (3, 1) (by decide),
    hn (2, 0) (by decide), hn (2, 1) (by decide), hn (4, 0) (by decide), hn (4, 1) (by decide), hn (5, 0) (by decide), hn (5, 1) (by decide),
    hn (6, 0) (by decide), hn (6, 1) (by decide)]
  rw [own_src kv c (0, 0) 0 rfl rfl, own_src kv c (0, 1) 1 rfl rfl, own_src kv c (1, 0) 0 rfl rfl, own_src kv c (1, 1) 1 rfl rfl, own_src kv c (3, 0) 0 rfl rfl,
    own_src kv c (3, 1) 1 rfl rfl]

omit [FloatOps F] in
theorem own_split (t : Fin 2) : slotPts c c t fullShare kv
    ⊣⊢ iprop(slotPts c c t (srcShare (0, t)) kv ∗ slotPts c c t (srcShare (1, t)) kv ∗ slotPts c c t (srcShare (3, t)) kv) := by
  have e0 : ∀ t : Fin 2, srcShare (0, t) = fullShare.left := fun t => by fin_cases t <;> rfl
  have e1 : ∀ t : Fin 2, srcShare (1, t) = fullShare.right.left := fun t => by fin_cases t <;> rfl
  have e3 : ∀ t : Fin 2, srcShare (3, t) = fullShare.right.right := fun t => by fin_cases t <;> rfl
  rw [e0, e1, e3]
  constructor
  · iintro H
    ihave H := (share_split c c t fullShare kv).1 $$ H
    icases H with ⟨H1, H2⟩
    ihave H2 := (share_split c c t fullShare.right kv).1 $$ H2
    icases H2 with ⟨H2, H3⟩
    isplitl [H1]; · iexact H1
    isplitl [H2] <;> iassumption
  · iintro ⟨H1, H2, H3⟩
    iapply (share_split c c t fullShare kv).2
    isplitl [H1]; · iexact H1
    iapply (share_split c c t fullShare.right kv).2
    isplitl [H2] <;> iassumption

theorem src_start : iprop(slotPts c c 0 fullShare kv ∗ slotPts c c 1 fullShare kv) ⊢ bigSep Finset.univ (srcSt kv c 0) := by
  rw [src_0]
  iintro ⟨H0, H1⟩
  ihave H0 := (own_split kv c 0).1 $$ H0
  ihave H1 := (own_split kv c 1).1 $$ H1
  icases H0 with ⟨A0, A1, A2⟩
  icases H1 with ⟨B0, B1, B2⟩
  isplitl [A0]; · iexact A0
  isplitl [B0]; · iexact B0
  isplitl [A1]; · iexact A1
  isplitl [B1]; · iexact B1
  isplitr; · iempintro
  isplitr; · iempintro
  isplitl [A2]; · iexact A2
  isplitl [B2]; · iexact B2
  repeat (isplitr; · iempintro)
  iempintro

theorem keep_join (e f : Link) (h : child e = some f) : iprop(keepPts kv c e ∗ sendPay kv c f) ⊢ slotPts c (nb c (wm e)) e.2 fullShare kv := by
  obtain ⟨g1, g2, g3⟩ := child_facts h
  unfold keepPts keepShare sendPay
  rw [h, g1, g2, g3, if_pos (by simp)]
  iintro ⟨H1, H2⟩
  iapply (share_split c (nb c (wm e)) e.2 fullShare kv).2
  isplitl [H2] <;> iassumption

theorem keep_leaf (e : Link) (h : child e = none) : keepPts kv c e ⊢ slotPts c (nb c (wm e)) e.2 fullShare kv := by
  unfold keepPts keepShare
  rw [h, if_neg (by simp)]

/-- After the last operation the scratch is whole again. -/
theorem scratch_back : iprop(bigSep Finset.univ (fun e => keepPts kv c e) ∗ bigSep Finset.univ (srcSt kv c 42))
    ⊢ (((c : Thread nD τ).loc scr ↦{fullShare} kv : sProp 𝕄)) := by
  have h42 : bigSep Finset.univ (srcSt kv c 42) = bigSep Finset.univ (fun e => sendPay kv c e) := bigSep_congr fun e _ => if_pos (hasSrc_42 e)
  rw [scratch_slots, h42, bigSep_links, bigSep_links, bigSep_links]
  rw [own_src kv c (0, 0) 0 rfl rfl, own_src kv c (0, 1) 1 rfl rfl, own_src kv c (1, 0) 0 rfl rfl, own_src kv c (1, 1) 1 rfl rfl, own_src kv c (3, 0) 0 rfl rfl,
    own_src kv c (3, 1) 1 rfl rfl]
  iintro ⟨⟨k00, k01, k10, k11, k20, k21, k30, k31, k40, k41, k50, k51, k60, k61⟩, s00, s01, s10, s11, s20, s21, s30, s31, s40, s41, s50, s51, s60, s61⟩
  isplitl [s00 s10 s30 s01 s11 s31]
  · isplitl [s00 s10 s30]
    · iapply (own_split kv c 0).2
      isplitl [s00]; · iexact s00
      isplitl [s10] <;> iassumption
    · iapply (own_split kv c 1).2
      isplitl [s01]; · iexact s01
      isplitl [s11] <;> iassumption
  isplitl [k00 s20]
  · iapply (keep_join kv c (0, 0) (2, 0) rfl); isplitl [k00] <;> iassumption
  isplitl [k01 s21]
  · iapply (keep_join kv c (0, 1) (2, 1) rfl); isplitl [k01] <;> iassumption
  isplitl [k10 s50]
  · iapply (keep_join kv c (1, 0) (5, 0) rfl); isplitl [k10] <;> iassumption
  isplitl [k11 s51]
  · iapply (keep_join kv c (1, 1) (5, 1) rfl); isplitl [k11] <;> iassumption
  isplitl [k20 s60]
  · iapply (keep_join kv c (2, 0) (6, 0) rfl); isplitl [k20] <;> iassumption
  isplitl [k21]
  · iapply (keep_leaf kv c (2, 1) rfl); iexact k21
  isplitl [k30 s40]
  · iapply (keep_join kv c (3, 0) (4, 0) rfl); isplitl [k30] <;> iassumption
  isplitl [k31 s41]
  · iapply (keep_join kv c (3, 1) (4, 1) rfl); isplitl [k31] <;> iassumption
  isplitl [k40]
  · iapply (keep_leaf kv c (4, 0) rfl); iexact k40
  isplitl [k41]
  · iapply (keep_leaf kv c (4, 1) rfl); iexact k41
  isplitl [k50]
  · iapply (keep_leaf kv c (5, 0) rfl); iexact k50
  isplitl [k51 s61]
  · iapply (keep_join kv c (5, 1) (6, 1) rfl); isplitl [k51] <;> iassumption
  isplitl [k60]
  · iapply (keep_leaf kv c (6, 0) rfl); iexact k60
  iapply (keep_leaf kv c (6, 1) rfl); iexact k61

/-- What the last state gives back. -/
theorem St_end : St kv c 42 ⊢ iprop(bigSep Finset.univ (fun e => semVal (sendCell c e) 0) ∗ bigSep Finset.univ (fun e => semVal (recvCell c e) 0)
    ∗ ((c : Thread nD τ).loc scr ↦{fullShare} kv) ∗ ∃ W, owes (c : Thread nD τ) (0 : CellTallies nD τ sig Unit) W) := by
  have hs : bigSep Finset.univ (sendSt (F := F) c 42) = bigSep Finset.univ (fun e => semVal (sendCell c e) 0) :=
    bigSep_congr fun e _ => if_pos (by revert e; decide)
  have hr : bigSep Finset.univ (recvSt kv c 42) = iprop(bigSep Finset.univ (fun e => semVal (recvCell c e) 0) ∗ bigSep Finset.univ (fun e => keepPts kv c e)) := by
    rw [← bigSep_sep']
    exact bigSep_congr fun e _ => if_pos (by revert e; decide)
  have ho : owed c 42 = 0 := by
    unfold owed
    rw [Finset.filter_false_of_mem (by decide), Finset.sum_empty]
  unfold St
  rw [hs, hr, ho]
  iintro ⟨Hs, ⟨Hr, Hk⟩, Hx, HO⟩
  isplitl [Hs]; · iexact Hs
  isplitl [Hr]; · iexact Hr
  isplitl [Hk Hx]
  · iapply (scratch_back kv c); isplitl [Hk] <;> iassumption
  iexact HO

end Src

end Cert.KernelIdealRun

end
-- ==== Proof.KernelIdealRun.Parts0.lean ====
/-
The body's parts outside its transfers: the barrier, the reads of the inputs, the stores of the device's own slots and of
the result.
-/
module

public import proofs.«01_k».proof.Proof.KernelIdealRun.Start

@[expose] public section

set_option maxRecDepth 16384

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Inp F) (c : Dev nD)

/-! ## The barrier -/

/-- What a device owes at launch: its transfers' credits and one unit to each neighbour's barrier. -/
def O₀ (c : Dev nD) : CellTallies nD τ sig Unit :=
  ((owed c 0 + tallyAt (barCell (nbr 2 c)) () 1) + tallyAt (barCell (nbr 1 c)) () 1) + tallyAt (barCell (nbr 0 c)) () 1

def sendTok (c : Dev nD) (e : Link) : sProp 𝕄 :=
  iprop(atPos ER (sendCell c e) 0 ∅ 0 ∗ dutyTok ER (sendCell c e) 0 0 ∗ dutyTok ER (recvCell (nbr (axis e) c) e) 0 0)
def recvTok (c : Dev nD) (e : Link) : sProp 𝕄 := iprop(atPos ER (recvCell c e) 0 ∅ 0 ∗ cred (tallyAt (recvCell c e) () N))

/-- What the body starts from besides the records and its buffers. -/
def Pre (c : Dev nD) : sProp 𝕄 :=
  iprop(atPos ER (barCell c) 0 ∅ 0 ∗ cred (tallyAt (barCell c) () 3)
    ∗ (dutyTok ER (barCell (nbr 0 c)) 0 0 ∗ dutyTok ER (barCell (nbr 1 c)) 0 1 ∗ dutyTok ER (barCell (nbr 2 c)) 0 2)
    ∗ bigSep Finset.univ (sendTok (F := F) c) ∗ bigSep Finset.univ (recvTok (F := F) c))

/-- After the barrier: the state without its sources. -/
def Mid (kv : scr.ty.Contents (Elt F)) (c : Dev nD) : sProp 𝕄 :=
  iprop(bigSep Finset.univ (sendSt (F := F) c 0) ∗ bigSep Finset.univ (recvSt kv c 0) ∗ ∃ W, owes (c : Thread nD τ) (owed c 0) W)

/-- The slots of a neighbour's links along the axis between are what its barrier's payload names. -/
theorem give (kv : scr.ty.Contents (Elt F)) (a : Fin 3) (f : scr.ty.Contents (Elt F)) :
    iprop(records (F := F) kv ∗ bigSep (Finset.univ.filter fun e => axis e = a) fun e => slotPts (F := F) c (nb c (wm e)) e.2 fullShare f)
      ⊢ barPay (F := F) (nbr a c) a := by
  unfold barPay
  refine BI.bigSep_with_persistent fun e he => ?_
  have ha : axis e = a := (Finset.mem_filter.mp he).2
  have hn := nb_nbr e (nbr a c)
  rw [ha, nbr_nbr] at hn
  unfold dstPay
  rw [ha, nbr_nbr, ← hn]
  iintro ⟨#HR, H⟩
  isplitl [H]; · iexists f; iexact H
  ihave H := (reached_at kv (c, some (e, true))) $$ HR
  iexact H

omit [FloatOps F] in
theorem by_axis (Φ : Link → sProp 𝕄) : bigSep Finset.univ Φ
    = iprop(bigSep (Finset.univ.filter fun e => axis e = 0) Φ ∗ bigSep (Finset.univ.filter fun e => axis e = 1) Φ ∗ bigSep (Finset.univ.filter fun e => axis e = 2) Φ) := by
  rw [bigSep_fiberwise Finset.univ axis, show (Finset.univ.image axis) = (Finset.univ : Finset (Fin 3)) by decide]
  exact bigSep_univ_eq_bigSepL [0, 1, 2] (by decide) (by decide) _

/-- One signal, along an axis: the slots the neighbour's links along it will fill go with it. -/
theorem signal_axis (kv : scr.ty.Contents (Elt F)) (a : Fin 3) {d : Dev nD} (hd : d = nbr a c) (f : scr.ty.Contents (Elt F))
    {O₁ : CellTallies nD τ sig Unit} {W : Waits sig Unit} (O : CellTallies nD τ sig Unit) (hO : O₁ = O + tallyAt (barCell (nbr a c)) () 1)
    {α : Type} {Q : α → sProp 𝕄} {k : PUnit → Prog (TpuEff nD τ sig (Elt F) Λ₀ .tc) α} :
    iprop(records (F := F) kv ∗ owes (c : Thread nD τ) O₁ W ∗ dutyTok ER (barCell (nbr a c)) 0 a
        ∗ bigSep (Finset.univ.filter fun e => axis e = a) fun e => slotPts (F := F) c (nb c (wm e)) e.2 fullShare f)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (d : Thread nD τ) barS 1) k) Q) := by
  subst hd
  iintro ⟨#HR, HO, Ht, Hp⟩ Hk
  ihave HI := (inv_at kv (nbr a c, none)) $$ HR
  icases HI with ⟨%κ, #HI⟩
  iapply (Rounds.wp_signal 𝒱₀ ER (ringRd (F := F) kv) (c : Thread nD τ) none (dst := (nbr a c : Thread nD τ)) (κ := κ)
      (d := a) (by rw [duties_bar]; exact Finset.mem_univ _) (amount_bar kv (nbr a c) a) () O hO) $$ [HO Ht Hp]
  · isplitr; · iexact HI
    isplitl [HO]; · iexact HO
    isplitl [Ht]; · iexact Ht
    isplitl [Hp]
    · rw [payload_bar]
      iapply (give c kv a f)
      isplitr; · iexact HR
      iexact Hp
    ihave Hr := (reached_at kv (nbr a c, none)) $$ HR
    iexact Hr
  iexact Hk

theorem depth_pos : ∀ e : Link, 1 < 1 + depth e := by decide

/-- The wait for the three neighbours. -/
theorem wait_bar (kv : scr.ty.Contents (Elt F)) {W : Waits sig Unit}
    {α : Type} {Q : α → sProp 𝕄} {k : PUnit → Prog (TpuEff nD τ sig (Elt F) Λ₀ .tc) α} :
    iprop(records (F := F) kv ∗ owes (c : Thread nD τ) (owed c 0) W ∗ atPos ER (barCell c) 0 ∅ 0 ∗ cred (tallyAt (barCell c) () 3))
      ⊢ iprop(((∃ W, owes (c : Thread nD τ) (owed c 0) W) ∗ semVal (barCell c) 0 ∗ (bigSep Finset.univ fun e => dstPay (F := F) c e)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 3) k) Q) := by
  iintro ⟨#HR, HO, Hat, Hc⟩ Hk
  ihave HI := (inv_at kv (c, none)) $$ HR
  icases HI with ⟨%κ, #HI⟩
  iapply (Rounds.wp_wait_rest_token 𝒱₀ ER (ringRd (F := F) kv) (c : Thread nD τ) none (κ := κ)
      (wpE_semWait_eq 𝒱₀ (c : Thread nD τ) none Set.univ) (Set.mem_univ _) () (O := owed c 0) (W := W) (R := 0) (m := 0) (T := ∅)
      (by rw [Nat.zero_add, expect_bar])) $$ [Hc HO Hat]
  · isplitr; · iexact HI
    isplitl [Hc]; · iexact Hc
    isplitl [HO]; · iexact HO
    isplitr
    · iapply (mayWait_owed c 0 _ 1 (le_of_eq (lv_bar c ())) (fun e' _ => depth_pos e'))
      iapply (lev_at kv); iexact HR
    iexact Hat
  iintro ⟨HO, Hat, -, Hpay⟩
  ihave Hp := (rest_bar kv c) $$ Hpay
  imod (Rounds.cell_close ER (ringRd (F := F) kv) (Set.mem_univ κ) (fun h => h) (R := 0 + 1) (duties_later kv (barCell c))) $$ [Hat] with Hz
  · isplitr; · iexact HI
    iexact Hat
  iapply Hk
  isplitl [HO]; · iexists _; iexact HO
  isplitl [Hz] <;> iassumption

theorem send_start (kv : scr.ty.Contents (Elt F)) : iprop(bigSep Finset.univ (sendTok (F := F) c) ∗ bigSep Finset.univ fun e => dstPay (F := F) c e)
    ⊢ bigSep Finset.univ (sendSt (F := F) c 0) := by
  rw [← bigSep_sep']
  refine bigSep_mono fun e _ => ?_
  unfold sendSt sendTok
  rw [if_neg (by simp [done]), if_neg (by simp [done])]
  show iprop((atPos ER (sendCell c e) 0 ∅ 0 ∗ dutyTok ER (sendCell c e) 0 0 ∗ dutyTok ER (recvCell (nbr (axis e) c) e) 0 0) ∗ dstPay (F := F) c e) ⊢ _
  iintro ⟨⟨H1, H2, H3⟩, H4⟩
  isplitl [H1]; · iexact H1
  isplitl [H2]; · iexact H2
  isplitl [H3] <;> iassumption

theorem recv_start (kv : scr.ty.Contents (Elt F)) : bigSep Finset.univ (recvTok (F := F) c) = bigSep Finset.univ (recvSt kv c 0) := by
  refine bigSep_congr fun e _ => ?_
  unfold recvSt recvTok
  rw [if_neg (by simp [done])]

section P
variable (h0 : (Memref.whole cc0_stg0_0 : Memref sig .tc .vmem S2x256x768 .f32).IsWhole)
  (h1 : (Memref.whole cc0_stg1_0 : Memref sig .tc .vmem S768x256 .f32).IsWhole)
  (h2 : (Memref.whole cc0_stg2_0 : Memref sig .tc .vmem S768x256 .f32).IsWhole)
  (h3 : (Memref.whole cc0_stg3_0 : Memref sig .tc .vmem S768x256 .f32).IsWhole)
  (h4 : (Memref.whole cc0_stg4_0 : Memref sig .tc .vmem S256x768 .f32).IsWhole)
  (h5 : (Memref.whole cc0_stg5_0 : Memref sig .tc .vmem S2x256x768 .f32).IsWhole)
  (h6 : (Memref.whole cc0_scratch0 : Memref sig .tc .vmem S8x2x256x512 .bf16).IsWhole)

set_option maxHeartbeats 400000 in
theorem wp_part1 {Q : (Σ' (d0 : Dev nD) (v2 : BitVec 32) (v5 : BitVec 32) (v25 : IVec S256x256 32), BitVec 32) → sProp 𝕄} :
    iprop(records (F := F) (KV I) ∗ Pre (F := F) c ∗ (∃ W, owes (c : Thread nD τ) (O₀ c) W) ∗ (∃ f : scr.ty.Contents (Elt F), ((c : Thread nD τ).loc scr ↦{fullShare} f))
        ∗ ((Mid (KV I) c ∗ semVal (barCell c) 0 ∗ ∃ f : scr.ty.Contents (Elt F), slotPts (F := F) c c 0 fullShare f ∗ slotPts c c 1 fullShare f) -∗ Q ⟨c, (V2 I c), (V5 I c), (V25 I c), (V27 I c)⟩))
      ⊢ wp frame (wpE (defs₀ (F := F)) 𝒱₀ (c : Thread nD τ) none) Set.univ (k0_part1 (Memref.whole cc0_stg0_0) h0 (Memref.whole cc0_stg1_0) h1 (Memref.whole cc0_stg2_0) h2 (Memref.whole cc0_stg3_0) h3 (Memref.whole cc0_stg4_0) h4 (Memref.whole cc0_stg5_0) h5 (Memref.whole cc0_scratch0) h6 cc0_scratch1 cc0_scratch2) Q := by
  rw [k0_part1_eq_skeleton]
  unfold k0_part1_skel
  simp only [semSignalWord, semWaitWord, Prog.lift, Prog.bind_op, Prog.bind_ret, Prog.pure_eq_ret, wp_deviceId]
  show iprop(records (F := F) (KV I) ∗ Pre (F := F) c ∗ (∃ W, owes (c : Thread nD τ) (O₀ c) W) ∗ (∃ f : scr.ty.Contents (Elt F), ((c : Thread nD τ).loc scr ↦{fullShare} f))
        ∗ ((Mid (KV I) c ∗ semVal (barCell c) 0 ∗ ∃ f : scr.ty.Contents (Elt F), slotPts (F := F) c c 0 fullShare f ∗ slotPts c c 1 fullShare f) -∗ Q ⟨c, (Scalar.remsi (Scalar.divsi (Dev.word c) 1#32) 8#32), (Scalar.xori (Scalar.remsi (Scalar.divsi (Dev.word c) 1#32) 8#32) (Scalar.andi (Scalar.shrsi (Scalar.remsi (Scalar.divsi (Dev.word c) 1#32) 8#32) 1#32) 1#32)), (iota .tc S256x256 32 [1] iota_S256x256_d1_w32), (Scalar.select (Scalar.cmpi .eq 64#32 0#32) 1#32 64#32)⟩)) ⊢ _
  unfold Pre
  iintro ⟨#HR, ⟨Hat, Hc, ⟨Ht0, Ht1, Ht2⟩, Hs, Hr⟩, ⟨%W, HO⟩, ⟨%f, Hf⟩, HK⟩
  ihave Hf := (Entails.of_eq (scratch_slots c fullShare f)) $$ Hf
  icases Hf with ⟨⟨Hf0, Hf1⟩, Hl⟩
  ihave Hl := (Entails.of_eq (by_axis _)) $$ Hl
  icases Hl with ⟨Hl0, Hl1, Hl2⟩
  iapply (signal_axis c (KV I) 0 (dev_1 c) f (O₁ := O₀ c) _ rfl) $$ [HO Ht0 Hl0]
  · isplitr; · iexact HR
    isplitl [HO]; · iexact HO
    isplitl [Ht0] <;> iassumption
  iintro HO
  iapply (signal_axis c (KV I) 1 (dev_2 c) f _ rfl) $$ [HO Ht1 Hl1]
  · isplitr; · iexact HR
    isplitl [HO]; · iexact HO
    isplitl [Ht1] <;> iassumption
  iintro HO
  iapply (signal_axis c (KV I) 2 (dev_3 c) f _ rfl) $$ [HO Ht2 Hl2]
  · isplitr; · iexact HR
    isplitl [HO]; · iexact HO
    isplitl [Ht2] <;> iassumption
  iintro HO
  iapply (wait_bar c (KV I)) $$ [HO Hat Hc]
  · isplitr; · iexact HR
    isplitl [HO]; · iexact HO
    isplitl [Hat] <;> iassumption
  iintro ⟨HO, Hz, Hd⟩
  rw [wp_ret]
  imodintro
  iapply HK
  unfold Mid
  isplitl [HO Hs Hr Hd]
  · isplitl [Hs Hd]
    · iapply (send_start c (KV I)); isplitl [Hs] <;> iassumption
    isplitl [Hr]
    · ihave Hr := (Entails.of_eq (recv_start c (KV I))) $$ Hr
      iexact Hr
    iexact HO
  isplitl [Hz]; · iexact Hz
  iexists f
  isplitl [Hf0] <;> iassumption

/-! ## The inputs and the device's own slots -/

omit [FloatOps F] in
theorem hz : (![0, 0] : Fin 2 → Nat) = fun _ => 0 := funext fun a => by fin_cases a <;> rfl

theorem read_1 (f : Vec F S768x256 .f32) : (Memref.whole cc0_stg1_0 : Memref sig .tc .vmem S768x256 .f32).view.readAt (Elt F) (Rect.unit (s := S768x256) ![0, 0] ![768, 256] inb_S768x256_S768x256_0_0).toLoadRect f = f :=
  Memref.readAt_unit_zero (Elt F) cc0_stg1_0 hz _ f
theorem read_2 (f : Vec F S768x256 .f32) : (Memref.whole cc0_stg2_0 : Memref sig .tc .vmem S768x256 .f32).view.readAt (Elt F) (Rect.unit (s := S768x256) ![0, 0] ![768, 256] inb_S768x256_S768x256_0_0).toLoadRect f = f :=
  Memref.readAt_unit_zero (Elt F) cc0_stg2_0 hz _ f
theorem read_3 (f : Vec F S768x256 .f32) : (Memref.whole cc0_stg3_0 : Memref sig .tc .vmem S768x256 .f32).view.readAt (Elt F) (Rect.unit (s := S768x256) ![0, 0] ![768, 256] inb_S768x256_S768x256_0_0).toLoadRect f = f :=
  Memref.readAt_unit_zero (Elt F) cc0_stg3_0 hz _ f
theorem read_4 (f : Vec F S256x768 .f32) : (Memref.whole cc0_stg4_0 : Memref sig .tc .vmem S256x768 .f32).view.readAt (Elt F) (Rect.unit (s := S256x768) ![0, 0] ![256, 768] inb_S256x768_S256x768_0_0).toLoadRect f = f :=
  Memref.readAt_unit_zero (Elt F) cc0_stg4_0 hz _ f

/-- The inputs' buffers. -/
def Ins : sProp 𝕄 :=
  iprop(((c : Thread nD τ).loc cc0_stg0_0 ↦{fullShare} (I c).x) ∗ ((c : Thread nD τ).loc cc0_stg1_0 ↦{fullShare} (I c).wq) ∗ ((c : Thread nD τ).loc cc0_stg2_0 ↦{fullShare} (I c).wk)
    ∗ ((c : Thread nD τ).loc cc0_stg3_0 ↦{fullShare} (I c).wv) ∗ ((c : Thread nD τ).loc cc0_stg4_0 ↦{fullShare} (I c).wo))

theorem wp_part4 {Q : (Σ' (v136 : FVec F S256x256 .bf16) (v139 : FVec F S768x256 .bf16) (v142 : FVec F S768x256 .bf16) (v145 : FVec F S768x256 .bf16) (v150 : FVec F S256x256 .f32) (v151 : FVec F S256x256 .f32), FVec F S256x256 .f32) → sProp 𝕄} :
    iprop(Ins I c ∗ (Ins I c -∗ Q ⟨(V136 I c), (V139 I c), (V142 I c), (V145 I c), (V150 I c), (V151 I c), (V158 I c)⟩)) ⊢ wp frame (wpE (defs₀ (F := F)) 𝒱₀ (c : Thread nD τ) none) Set.univ (k0_part4 (Memref.whole cc0_stg0_0) h0 (Memref.whole cc0_stg1_0) h1 (Memref.whole cc0_stg2_0) h2 (Memref.whole cc0_stg3_0) h3 (Memref.whole cc0_stg4_0) h4 (Memref.whole cc0_stg5_0) h5 (Memref.whole cc0_scratch0) h6 cc0_scratch1 cc0_scratch2 (V81 I c) (V82 I c) (V109 I c) (V112 I c) (V114 I c) (V116 I c) (V117 I c)) Q := by
  rw [k0_part4_eq_skeleton]
  unfold k0_part4_skel
  simp only [Prog.lift, Prog.bind_op, Prog.bind_ret, Prog.pure_eq_ret]
  show iprop(Ins I c ∗ (Ins I c -∗ Q ⟨k0_pay9 (V109 I c) (V112 I c) (V114 I c) (V116 I c) (V117 I c), k0_pay10 (I c).wq, k0_pay11 (I c).wk, k0_pay12 (I c).wv, k0_pay14 (I c).wk (V146 I c), k0_pay15 (I c).wv (V146 I c), k0_pay16 (V81 I c) (V82 I c) (V109 I c) (V112 I c) (V114 I c) (V116 I c) (V117 I c) (I c).wq (V146 I c)⟩)) ⊢ _
  unfold Ins V146
  iintro ⟨⟨Hx, Hq, Hk, Hv, Ho⟩, HK⟩
  iapply (wp_load 𝒱₀ (c : Thread nD τ) none Set.univ (m := (Memref.whole cc0_stg1_0 : Memref sig .tc .vmem S768x256 .f32)) (Finset.subset_univ _)) $$ Hq; iintro Hq
  rw [read_1 (I c).wq]
  iapply (wp_load 𝒱₀ (c : Thread nD τ) none Set.univ (m := (Memref.whole cc0_stg2_0 : Memref sig .tc .vmem S768x256 .f32)) (Finset.subset_univ _)) $$ Hk; iintro Hk
  rw [read_2 (I c).wk]
  iapply (wp_load 𝒱₀ (c : Thread nD τ) none Set.univ (m := (Memref.whole cc0_stg3_0 : Memref sig .tc .vmem S768x256 .f32)) (Finset.subset_univ _)) $$ Hv; iintro Hv
  rw [read_3 (I c).wv]
  iapply (wp_load 𝒱₀ (c : Thread nD τ) none Set.univ (m := (Memref.whole cc0_stg0_0 : Memref sig .tc .vmem S2x256x768 .f32)) (Finset.subset_univ _)) $$ Hx; iintro Hx
  rw [wp_ret]
  imodintro
  iapply HK
  isplitl [Hx]; · iexact Hx
  isplitl [Hq]; · iexact Hq
  isplitl [Hk]; · iexact Hk
  isplitl [Hv] <;> iassumption

abbrev scrM : Memref sig .tc .vmem S8x2x256x512 .bf16 := Memref.whole scr

omit [FloatOps F] in
theorem store_sub (j : Dev nD) (t : Fin 2) {off : Fin 4 → Nat} (ho : off = soff j t) {hin} :
    (scrM.access (Rect.unit (s := S8x2x256x512) off S1x1x256x512.size hin) : View sig .tc _ _ _).setOn Finset.univ ⊆ slotSet j t := by
  rw [View.setOn_univ]; exact (access_set j t ho).le

theorem wp_part5 {Q : (Σ' (v160 : FVec F S256x64 .bf16) (v161 : FVec F S256x64 .bf16) (v162 : FVec F S256x64 .bf16) (v163 : FVec F S256x64 .bf16) (v170 : FVec F S256x512 .bf16) (v189 : FVec F S256x64 .bf16) (v190 : FVec F S256x64 .bf16) (v191 : FVec F S256x64 .bf16) (v192 : FVec F S256x64 .bf16) (v199 : FVec F S256x512 .bf16), Vec F S1x1x256x512 .bf16) → sProp 𝕄} (f : scr.ty.Contents (Elt F)) :
    iprop(slotPts (F := F) c c 0 fullShare f ∗ slotPts c c 1 fullShare f ∗ Ins I c
        ∗ (∀ w201, (slotPts (F := F) c c 0 fullShare (KV I) ∗ slotPts c c 1 fullShare f ∗ Ins I c) -∗ Q ⟨(V160 I c), (V161 I c), (V162 I c), (V163 I c), (V170 I c), (V189 I c), (V190 I c), (V191 I c), (V192 I c), (V199 I c), w201⟩))
      ⊢ wp frame (wpE (defs₀ (F := F)) 𝒱₀ (c : Thread nD τ) none) Set.univ (k0_part5 (Memref.whole cc0_stg0_0) h0 (Memref.whole cc0_stg1_0) h1 (Memref.whole cc0_stg2_0) h2 (Memref.whole cc0_stg3_0) h3 (Memref.whole cc0_stg4_0) h4 (Memref.whole cc0_stg5_0) h5 (Memref.whole cc0_scratch0) h6 cc0_scratch1 cc0_scratch2 c (V2 I c) (V81 I c) (V82 I c) (V136 I c) (V139 I c) (V142 I c) (V145 I c) (V150 I c) (V151 I c) (V158 I c)) Q := by
  rw [k0_part5_eq_skeleton]
  unfold k0_part5_skel
  simp only [Prog.lift, Prog.bind_op, Prog.bind_ret, Prog.pure_eq_ret]
  show iprop(slotPts (F := F) c c 0 fullShare f ∗ slotPts c c 1 fullShare f ∗ Ins I c
        ∗ (∀ w201, (slotPts (F := F) c c 0 fullShare (KV I) ∗ slotPts c c 1 fullShare f ∗ Ins I c) -∗ Q ⟨k0_pay18 (V158 I c), k0_pay19 (V158 I c), k0_pay20 (V158 I c), k0_pay21 (V158 I c), k0_pay22 (V81 I c) (V82 I c) (V136 I c) (V150 I c) (V151 I c), k0_pay26 (V81 I c) (V82 I c) (V136 I c) (V139 I c) (V175 I c), k0_pay27 (V81 I c) (V82 I c) (V136 I c) (V139 I c) (V175 I c), k0_pay28 (V81 I c) (V82 I c) (V136 I c) (V139 I c) (V175 I c), k0_pay29 (V81 I c) (V82 I c) (V136 I c) (V139 I c) (V175 I c), k0_pay30 (V81 I c) (V82 I c) (V136 I c) (V142 I c) (V145 I c) (V175 I c), w201⟩)) ⊢ _
  unfold Ins V175
  iintro ⟨H0, H1, ⟨Hx, Hrest⟩, HK⟩
  unfold slotPts
  iapply (wp_load 𝒱₀ (c : Thread nD τ) none Set.univ (m := scrM) (S := slotSet c 0) (f := f) (load_set c 0 (off1 c) _)) $$ H0; iintro H0
  iapply (wp_store 𝒱₀ (c : Thread nD τ) none Set.univ (m := scrM) (r := Rect.unit (s := S8x2x256x512) (k0_off1 c) S1x1x256x512.size (k0_off1_inb c)) (S := slotSet c 0) (f := f) (Mk := Finset.univ) (store_sub c 0 (off1 c))) $$ H0
  iintro H0
  ihave H0 := (Entails.of_eq (pointsTo_congr (store_0 I c (off1 c) _ f))) $$ H0
  iapply (wp_load 𝒱₀ (c : Thread nD τ) none Set.univ (m := (Memref.whole cc0_stg0_0 : Memref sig .tc .vmem S2x256x768 .f32)) (Finset.subset_univ _)) $$ Hx; iintro Hx
  iapply (wp_load 𝒱₀ (c : Thread nD τ) none Set.univ (m := scrM) (S := slotSet c 1) (f := f) (load_set c 1 (off2 c) _)) $$ H1; iintro H1
  rw [wp_ret]
  imodintro
  iapply HK
  isplitl [H0]; · iexact H0
  isplitl [H1]; · iexact H1
  isplitl [Hx] <;> iassumption

theorem wp_part6 {Q : (Σ' (v204 : FVec F S256x1 .f32) (v205 : FVec F S256x64 .f32) (v206 : FVec F S256x1 .f32) (v207 : FVec F S256x64 .f32) (v208 : FVec F S256x1 .f32) (v209 : FVec F S256x64 .f32) (v210 : FVec F S256x1 .f32) (v211 : FVec F S256x64 .f32) (v212 : FVec F S256x1 .f32) (v213 : FVec F S256x64 .f32) (v214 : FVec F S256x1 .f32) (v215 : FVec F S256x64 .f32) (v216 : FVec F S256x1 .f32) (v217 : FVec F S256x64 .f32) (v218 : FVec F S256x1 .f32) (v219 : FVec F S256x64 .f32) (v222 : FVec F S256x768 .bf16) (v231 : BitVec 32), BitVec 32) → sProp 𝕄} (f : scr.ty.Contents (Elt F)) (w201 : Vec F S1x1x256x512 .bf16) :
    iprop(Mid (KV I) c ∗ slotPts (F := F) c c 0 fullShare (KV I) ∗ slotPts c c 1 fullShare f ∗ Ins I c
        ∗ ((St (KV I) c 0 ∗ Ins I c) -∗ Q ⟨(V204 I c), (V205 I c), (V206 I c), (V207 I c), (V208 I c), (V209 I c), (V210 I c), (V211 I c), (V212 I c), (V213 I c), (V214 I c), (V215 I c), (V216 I c), (V217 I c), (V218 I c), (V219 I c), (V222 I c), (V231 I c), (V233 I c)⟩))
      ⊢ wp frame (wpE (defs₀ (F := F)) 𝒱₀ (c : Thread nD τ) none) Set.univ (k0_part6 (Memref.whole cc0_stg0_0) h0 (Memref.whole cc0_stg1_0) h1 (Memref.whole cc0_stg2_0) h2 (Memref.whole cc0_stg3_0) h3 (Memref.whole cc0_stg4_0) h4 (Memref.whole cc0_stg5_0) h5 (Memref.whole cc0_scratch0) h6 cc0_scratch1 cc0_scratch2 c (V5 I c) (V199 I c) w201) Q := by
  rw [k0_part6_eq_skeleton]
  unfold k0_part6_skel
  simp only [Prog.lift, Prog.bind_op, Prog.bind_ret, Prog.pure_eq_ret]
  show iprop(Mid (KV I) c ∗ slotPts (F := F) c c 0 fullShare (KV I) ∗ slotPts c c 1 fullShare f ∗ Ins I c
        ∗ ((St (KV I) c 0 ∗ Ins I c) -∗ Q ⟨k0_pay32 (F := F), k0_pay33 (F := F), k0_pay34 (F := F), k0_pay35 (F := F), k0_pay36 (F := F), k0_pay37 (F := F), k0_pay38 (F := F), k0_pay39 (F := F), k0_pay40 (F := F), k0_pay41 (F := F), k0_pay42 (F := F), k0_pay43 (F := F), k0_pay44 (F := F), k0_pay45 (F := F), k0_pay46 (F := F), k0_pay47 (F := F), k0_pay48 (I c).wo, (Scalar.xori (V5 I c) 1#32), (Scalar.andi (Scalar.shrsi (Scalar.xori (V5 I c) 1#32) 1#32) 1#32)⟩)) ⊢ _
  unfold Ins Mid
  iintro ⟨⟨Hs, Hr, HO⟩, H0, H1, ⟨Hx, Hq, Hk, Hv, Ho⟩, HK⟩
  ihave H1 := (Entails.of_eq (show slotPts (F := F) c c 1 fullShare f = (((c : Thread nD τ).loc scr) ↦[slotSet c 1]{fullShare} f) from rfl)) $$ H1
  iapply (wp_store 𝒱₀ (c : Thread nD τ) none Set.univ (m := scrM) (r := Rect.unit (s := S8x2x256x512) (k0_off2 c) S1x1x256x512.size (k0_off2_inb c)) (S := slotSet c 1) (f := f) (Mk := Finset.univ) (store_sub c 1 (off2 c))) $$ H1
  iintro H1
  ihave H1 := (Entails.of_eq (pointsTo_congr (store_1 I c (off2 c) _ f))) $$ H1
  iapply (wp_load 𝒱₀ (c : Thread nD τ) none Set.univ (m := (Memref.whole cc0_stg4_0 : Memref sig .tc .vmem S256x768 .f32)) (Finset.subset_univ _)) $$ Ho; iintro Ho
  rw [read_4 (I c).wo]
  rw [wp_ret]
  imodintro
  iapply HK
  unfold St
  isplitl [Hs Hr HO H0 H1]
  · isplitl [Hs]; · iexact Hs
    isplitl [Hr]; · iexact Hr
    isplitl [H0 H1]
    · iapply (src_start (KV I) c)
      isplitl [H0]; · iexact H0
      unfold slotPts
      iexact H1
    iexact HO
  isplitl [Hx]; · iexact Hx
  isplitl [Hq]; · iexact Hq
  isplitl [Hk]; · iexact Hk
  isplitl [Hv] <;> iassumption

/-! ## The result -/

abbrev oM : Memref sig .tc .vmem S2x256x768 .f32 := Memref.whole cc0_stg5_0
abbrev rO0 : Rect S2x256x768 := Rect.unit (s := S2x256x768) ![0, 0, 0] S1x256x768.size inb_S2x256x768_S1x256x768_0_0_0
abbrev rO1 : Rect S2x256x768 := Rect.unit (s := S2x256x768) ![1, 0, 0] S1x256x768.size inb_S2x256x768_S1x256x768_1_0_0

/-- The index inside a batch row of an index of the result. -/
def inRow (i : S2x256x768.Idx) : S1x256x768.Idx := fun a =>
  match a with
  | 0 => ⟨0, by decide⟩
  | 1 => i 1
  | 2 => i 2

/-- The kernel's result on device `c`. -/
def OUT : Vec F S2x256x768 .f32 := fun i => if (i 0).val = 0 then O0 I c (inRow i) else O1 I c (inRow i)

theorem out_eq (f : (cc0_stg5_0 : Ref sig .tc).ty.Contents (Elt F)) :
    (oM.access rO1 : View sig .tc _ _ _).write (Elt F) ((oM.access rO0 : View sig .tc _ _ _).write (Elt F) f (O0 I c) Finset.univ) (O1 I c) Finset.univ = OUT I c := by
  funext i
  have hi : (i 0).val < 2 := (i 0).isLt
  unfold OUT
  by_cases h : (i 0).val = 0
  · rw [if_pos h]
    rw [View.write_of_not_mem]
    · have e : i = (oM.access rO0 : View sig .tc _ _ _).emb (inRow i) := by
        funext a
        match a with
        | 0 => exact Fin.ext (by show (i 0).val = 0 + 1 * 0; omega)
        | 1 => exact Fin.ext (by show (i 1).val = 0 + 1 * (i 1).val; omega)
        | 2 => exact Fin.ext (by show (i 2).val = 0 + 1 * (i 2).val; omega)
      conv_lhs => rw [e]
      exact View.write_emb_of_mem _ _ (Finset.mem_univ _)
    · rw [View.setOn_univ]
      intro hm
      obtain ⟨x, -, hx⟩ := Finset.mem_map.mp hm
      have := congrArg (fun j : S2x256x768.Idx => (j 0).val) hx
      have h1 : 1 + 1 * (x 0).val = (i 0).val := this
      omega
  · rw [if_neg h]
    have e : i = (oM.access rO1 : View sig .tc _ _ _).emb (inRow i) := by
      funext a
      match a with
      | 0 => exact Fin.ext (by show (i 0).val = 1 + 1 * 0; omega)
      | 1 => exact Fin.ext (by show (i 1).val = 0 + 1 * (i 1).val; omega)
      | 2 => exact Fin.ext (by show (i 2).val = 0 + 1 * (i 2).val; omega)
    conv_lhs => rw [e]
    exact View.write_emb_of_mem _ _ (Finset.mem_univ _)

theorem wp_part42 {Q : (Σ' (v1519 : BitVec 32) (v1520 : BitVec 32), BitVec 32) → sProp 𝕄} (f : (cc0_stg5_0 : Ref sig .tc).ty.Contents (Elt F)) :
    iprop(records (F := F) (KV I) ∗ St (KV I) c 27 ∗ ((c : Thread nD τ).loc cc0_stg5_0 ↦{fullShare} f)
        ∗ ((St (KV I) c 28 ∗ ((c : Thread nD τ).loc cc0_stg5_0 ↦{fullShare} (oM.access rO0 : View sig .tc _ _ _).write (Elt F) f (O0 I c) Finset.univ)) -∗ Q ⟨(V1519 I c), (V1520 I c), (C1_i32_947 I c)⟩))
      ⊢ wp frame (wpE (defs₀ (F := F)) 𝒱₀ (c : Thread nD τ) none) Set.univ (k0_part42 (Memref.whole cc0_stg0_0) h0 (Memref.whole cc0_stg1_0) h1 (Memref.whole cc0_stg2_0) h2 (Memref.whole cc0_stg3_0) h3 (Memref.whole cc0_stg4_0) h4 (Memref.whole cc0_stg5_0) h5 (Memref.whole cc0_scratch0) h6 cc0_scratch1 cc0_scratch2 c (V5 I c) (V222 I c) (V1478 I c) (V1481 I c) (V1484 I c) (V1487 I c) (V1490 I c)) Q := by
  rw [k0_part42_eq_skeleton]
  unfold k0_part42_skel
  simp only [Prog.lift, Prog.bind_op, Prog.bind_ret, Prog.pure_eq_ret]
  show iprop(records (F := F) (KV I) ∗ St (KV I) c 27 ∗ ((c : Thread nD τ).loc cc0_stg5_0 ↦{fullShare} f)
        ∗ ((St (KV I) c 28 ∗ ((c : Thread nD τ).loc cc0_stg5_0 ↦{fullShare} (oM.access rO0 : View sig .tc _ _ _).write (Elt F) f (O0 I c) Finset.univ)) -∗ Q ⟨(Scalar.xori (V5 I c) 7#32), (Scalar.shrsi (Scalar.xori (V5 I c) 7#32) 1#32), 1#32⟩)) ⊢ _
  unfold O0
  iintro ⟨#HR, HS, Ho, HK⟩
  iapply (wp_load 𝒱₀ (c : Thread nD τ) none Set.univ (m := oM) (Finset.subset_univ _)) $$ Ho; iintro Ho
  iapply (wp_store 𝒱₀ (c : Thread nD τ) none Set.univ (m := oM) (r := rO0) (Mk := Finset.univ) (Finset.subset_univ _)) $$ Ho; iintro Ho
  iapply (step_recv (KV I) c 27 (6, 1) rfl (by decide) (by decide) (by decide) rfl) $$ [HS]
  · isplitr; iexact HR; iexact HS
  iintro HS
  rw [wp_ret]
  imodintro
  iapply HK
  isplitl [HS] <;> iassumption

theorem wp_part44 {Q : (PUnit) → sProp 𝕄} (f : (cc0_stg5_0 : Ref sig .tc).ty.Contents (Elt F)) :
    iprop(records (F := F) (KV I) ∗ St (KV I) c 28 ∗ ((c : Thread nD τ).loc cc0_stg5_0 ↦{fullShare} f)
        ∗ ((St (KV I) c 30 ∗ ((c : Thread nD τ).loc cc0_stg5_0 ↦{fullShare} (oM.access rO1 : View sig .tc _ _ _).write (Elt F) f (O1 I c) Finset.univ)) -∗ Q ⟨⟩))
      ⊢ wp frame (wpE (defs₀ (F := F)) 𝒱₀ (c : Thread nD τ) none) Set.univ (k0_part44 (Memref.whole cc0_stg0_0) h0 (Memref.whole cc0_stg1_0) h1 (Memref.whole cc0_stg2_0) h2 (Memref.whole cc0_stg3_0) h3 (Memref.whole cc0_stg4_0) h4 (Memref.whole cc0_stg5_0) h5 (Memref.whole cc0_scratch0) h6 cc0_scratch1 cc0_scratch2 c (V222 I c) (V1532 I c) (V1535 I c) (V1542 I c) (V1545 I c) (V1552 I c) (V1555 I c) (V1562 I c) (V1565 I c)) Q := by
  rw [k0_part44_eq_skeleton]
  unfold k0_part44_skel
  simp only [Prog.lift, Prog.bind_op, Prog.bind_ret, Prog.pure_eq_ret]
  unfold O1
  iintro ⟨#HR, HS, Ho, HK⟩
  iapply (wp_load 𝒱₀ (c : Thread nD τ) none Set.univ (m := oM) (Finset.subset_univ _)) $$ Ho; iintro Ho
  iapply (wp_store 𝒱₀ (c : Thread nD τ) none Set.univ (m := oM) (r := rO1) (Mk := Finset.univ) (Finset.subset_univ _)) $$ Ho; iintro Ho
  iapply (step_sent (KV I) c 28 (0, 0) rfl (by decide) (by decide) (by decide) (by decide) rfl) $$ [HS]
  · isplitr; iexact HR; iexact HS
  iintro HS
  iapply (step_sent (KV I) c 29 (1, 1) rfl (by decide) (by decide) (by decide) (by decide) rfl) $$ [HS]
  · isplitr; iexact HR; iexact HS
  iintro HS
  rw [wp_ret]
  imodintro
  iapply HK
  isplitl [HS] <;> iassumption

end P

end Cert.KernelIdealRun

end
-- ==== Proof.KernelIdealRun.Parts1.lean ====
/-
The parts of the body that move and read the slots, each as one lemma.
-/
module

public import proofs.«01_k».proof.Proof.KernelIdealRun.Steps

@[expose] public section

set_option maxRecDepth 16384

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Inp F) (c : Dev nD)
variable (h0 : (Memref.whole cc0_stg0_0 : Memref sig .tc .vmem S2x256x768 .f32).IsWhole)
  (h1 : (Memref.whole cc0_stg1_0 : Memref sig .tc .vmem S768x256 .f32).IsWhole)
  (h2 : (Memref.whole cc0_stg2_0 : Memref sig .tc .vmem S768x256 .f32).IsWhole)
  (h3 : (Memref.whole cc0_stg3_0 : Memref sig .tc .vmem S768x256 .f32).IsWhole)
  (h4 : (Memref.whole cc0_stg4_0 : Memref sig .tc .vmem S256x768 .f32).IsWhole)
  (h5 : (Memref.whole cc0_stg5_0 : Memref sig .tc .vmem S2x256x768 .f32).IsWhole)
  (h6 : (Memref.whole cc0_scratch0 : Memref sig .tc .vmem S8x2x256x512 .bf16).IsWhole)

theorem wp_part2 {Q : (FVec F S256x256 .f32) → sProp 𝕄} :
    Q (V73 I c) ⊢ wp frame (wpE (defs₀ (F := F)) 𝒱₀ (c : Thread nD τ) none) Set.univ (k0_part2 (Memref.whole cc0_stg0_0) h0 (Memref.whole cc0_stg1_0) h1 (Memref.whole cc0_stg2_0) h2 (Memref.whole cc0_stg3_0) h3 (Memref.whole cc0_stg4_0) h4 (Memref.whole cc0_stg5_0) h5 (Memref.whole cc0_scratch0) h6 cc0_scratch1 cc0_scratch2 (V25 I c) (V27 I c)) Q := by
  rw [k0_part2_eq_skeleton]
  unfold k0_part2_skel
  simp only [Prog.lift, Prog.bind_op, Prog.bind_ret, Prog.pure_eq_ret]
  show Q (k0_pay1 (F := F) (V25 I c) (V27 I c)) ⊢ _
  iintro HK
  rw [wp_ret]
  imodintro
  iexact HK

theorem wp_part3 {Q : (Σ' (v81 : FVec F S256x256 .f32) (v82 : FVec F S256x256 .f32) (v109 : FVec F S256x256 .f32) (v112 : IVec S256x256 1) (v114 : BitVec 32) (v116 : IVec S256x256 32), IVec S256x256 32) → sProp 𝕄} :
    Q ⟨(V81 I c), (V82 I c), (V109 I c), (V112 I c), (V114 I c), (V116 I c), (V117 I c)⟩ ⊢ wp frame (wpE (defs₀ (F := F)) 𝒱₀ (c : Thread nD τ) none) Set.univ (k0_part3 (Memref.whole cc0_stg0_0) h0 (Memref.whole cc0_stg1_0) h1 (Memref.whole cc0_stg2_0) h2 (Memref.whole cc0_stg3_0) h3 (Memref.whole cc0_stg4_0) h4 (Memref.whole cc0_stg5_0) h5 (Memref.whole cc0_scratch0) h6 cc0_scratch1 cc0_scratch2 (V2 I c) (V73 I c)) Q := by
  rw [k0_part3_eq_skeleton]
  unfold k0_part3_skel
  simp only [Prog.lift, Prog.bind_op, Prog.bind_ret, Prog.pure_eq_ret]
  show Q ⟨k0_pay3 (V2 I c) (V73 I c), k0_pay4 (V2 I c) (V73 I c), k0_pay5 (F := F), k0_pay6, (Scalar.select (Scalar.cmpi .eq 2#32 0#32) 1#32 2#32), k0_pay7, k0_pay8⟩ ⊢ _
  iintro HK
  rw [wp_ret]
  imodintro
  iexact HK

theorem wp_part7 {Q : (PUnit) → sProp 𝕄} :
    iprop(records (F := F) (KV I) ∗ St (KV I) c 0 ∗ (St (KV I) c 1 -∗ Q ⟨⟩))
      ⊢ wp frame (wpE (defs₀ (F := F)) 𝒱₀ (c : Thread nD τ) none) Set.univ (k0_part7 (Memref.whole cc0_stg0_0) h0 (Memref.whole cc0_stg1_0) h1 (Memref.whole cc0_stg2_0) h2 (Memref.whole cc0_stg3_0) h3 (Memref.whole cc0_stg4_0) h4 (Memref.whole cc0_stg5_0) h5 (Memref.whole cc0_scratch0) h6 cc0_scratch1 cc0_scratch2 c (V5 I c) (V231 I c) (V233 I c)) Q := by
  rw [k0_part7_eq_skeleton]
  unfold k0_part7_skel
  simp only [Prog.lift, Prog.bind_op, Prog.bind_ret, Prog.pure_eq_ret]
  show iprop(records (F := F) (KV I) ∗ St (KV I) c 0 ∗ (St (KV I) c 1 -∗ Q ⟨⟩)) ⊢ _
  iintro ⟨#HR, HS, HK⟩
  iapply (step_send (KV I) c 0 (0, 0) rfl (by decide) (by decide) (by decide) (off3_0 c) (dev_4 c) rfl rfl) $$ [HS]
  · isplitr; iexact HR; iexact HS
  iintro HS
  rw [wp_ret]
  imodintro
  iapply HK
  iexact HS

theorem wp_part8 {Q : (BitVec 32) → sProp 𝕄} :
    iprop(records (F := F) (KV I) ∗ St (KV I) c 1 ∗ (St (KV I) c 3 -∗ Q (C0_i32_164 I c)))
      ⊢ wp frame (wpE (defs₀ (F := F)) 𝒱₀ (c : Thread nD τ) none) Set.univ (k0_part8 (Memref.whole cc0_stg0_0) h0 (Memref.whole cc0_stg1_0) h1 (Memref.whole cc0_stg2_0) h2 (Memref.whole cc0_stg3_0) h3 (Memref.whole cc0_stg4_0) h4 (Memref.whole cc0_stg5_0) h5 (Memref.whole cc0_scratch0) h6 cc0_scratch1 cc0_scratch2 c (V5 I c)) Q := by
  rw [k0_part8_eq_skeleton]
  unfold k0_part8_skel
  simp only [Prog.lift, Prog.bind_op, Prog.bind_ret, Prog.pure_eq_ret]
  show iprop(records (F := F) (KV I) ∗ St (KV I) c 1 ∗ (St (KV I) c 3 -∗ Q (0#32))) ⊢ _
  iintro ⟨#HR, HS, HK⟩
  iapply (step_send (KV I) c 1 (1, 1) rfl (by decide) (by decide) (by decide) (off4_0 c) (dev_5 c) rfl rfl) $$ [HS]
  · isplitr; iexact HR; iexact HS
  iintro HS
  iapply (step_send (KV I) c 2 (1, 0) rfl (by decide) (by decide) (by decide) (off3_0 c) (dev_6 c) rfl rfl) $$ [HS]
  · isplitr; iexact HR; iexact HS
  iintro HS
  rw [wp_ret]
  imodintro
  iapply HK
  iexact HS

theorem wp_part9 {Q : (BitVec 32) → sProp 𝕄} :
    iprop(records (F := F) (KV I) ∗ St (KV I) c 3 ∗ (St (KV I) c 4 -∗ Q (V322 I c)))
      ⊢ wp frame (wpE (defs₀ (F := F)) 𝒱₀ (c : Thread nD τ) none) Set.univ (k0_part9 (Memref.whole cc0_stg0_0) h0 (Memref.whole cc0_stg1_0) h1 (Memref.whole cc0_stg2_0) h2 (Memref.whole cc0_stg3_0) h3 (Memref.whole cc0_stg4_0) h4 (Memref.whole cc0_stg5_0) h5 (Memref.whole cc0_scratch0) h6 cc0_scratch1 cc0_scratch2 c (V5 I c) (C0_i32_164 I c)) Q := by
  rw [k0_part9_eq_skeleton]
  unfold k0_part9_skel
  simp only [Prog.lift, Prog.bind_op, Prog.bind_ret, Prog.pure_eq_ret]
  show iprop(records (F := F) (KV I) ∗ St (KV I) c 3 ∗ (St (KV I) c 4 -∗ Q ((Scalar.xori (Scalar.xori (V5 I c) 4#32) (Scalar.andi (Scalar.shrsi (Scalar.xori (V5 I c) 4#32) 1#32) 1#32))))) ⊢ _
  iintro ⟨#HR, HS, HK⟩
  iapply (step_send (KV I) c 3 (3, 1) rfl (by decide) (by decide) (by decide) (off4_0 c) (dev_7 c) rfl rfl) $$ [HS]
  · isplitr; iexact HR; iexact HS
  iintro HS
  rw [wp_ret]
  imodintro
  iapply HK
  iexact HS

theorem wp_part10 {Q : (PUnit) → sProp 𝕄} :
    iprop(records (F := F) (KV I) ∗ St (KV I) c 4 ∗ (St (KV I) c 5 -∗ Q ⟨⟩))
      ⊢ wp frame (wpE (defs₀ (F := F)) 𝒱₀ (c : Thread nD τ) none) Set.univ (k0_part10 (Memref.whole cc0_stg0_0) h0 (Memref.whole cc0_stg1_0) h1 (Memref.whole cc0_stg2_0) h2 (Memref.whole cc0_stg3_0) h3 (Memref.whole cc0_stg4_0) h4 (Memref.whole cc0_stg5_0) h5 (Memref.whole cc0_scratch0) h6 cc0_scratch1 cc0_scratch2 c (V5 I c) (V322 I c)) Q := by
  rw [k0_part10_eq_skeleton]
  unfold k0_part10_skel
  simp only [Prog.lift, Prog.bind_op, Prog.bind_ret, Prog.pure_eq_ret]
  show iprop(records (F := F) (KV I) ∗ St (KV I) c 4 ∗ (St (KV I) c 5 -∗ Q ⟨⟩)) ⊢ _
  iintro ⟨#HR, HS, HK⟩
  iapply (step_send (KV I) c 4 (3, 0) rfl (by decide) (by decide) (by decide) (off3_0 c) (dev_8 c) rfl rfl) $$ [HS]
  · isplitr; iexact HR; iexact HS
  iintro HS
  rw [wp_ret]
  imodintro
  iapply HK
  iexact HS

theorem wp_part11 {Q : (Σ' (v361 : FVec F S256x1 .f32) (v364 : FVec F S256x64 .f32) (v371 : FVec F S256x1 .f32) (v374 : FVec F S256x64 .f32) (v381 : FVec F S256x1 .f32) (v384 : FVec F S256x64 .f32) (v391 : FVec F S256x1 .f32) (v394 : FVec F S256x64 .f32) (v396 : FVec F S256x64 .bf16), FVec F S256x256 .f32) → sProp 𝕄} :
    iprop(records (F := F) (KV I) ∗ St (KV I) c 5 ∗ (St (KV I) c 6 -∗ Q ⟨(V361 I c), (V364 I c), (V371 I c), (V374 I c), (V381 I c), (V384 I c), (V391 I c), (V394 I c), (V396 I c), (V397 I c)⟩))
      ⊢ wp frame (wpE (defs₀ (F := F)) 𝒱₀ (c : Thread nD τ) none) Set.univ (k0_part11 (Memref.whole cc0_stg0_0) h0 (Memref.whole cc0_stg1_0) h1 (Memref.whole cc0_stg2_0) h2 (Memref.whole cc0_stg3_0) h3 (Memref.whole cc0_stg4_0) h4 (Memref.whole cc0_stg5_0) h5 (Memref.whole cc0_scratch0) h6 cc0_scratch1 cc0_scratch2 c (V160 I c) (V161 I c) (V162 I c) (V163 I c) (V170 I c) (V189 I c) (V199 I c) (V204 I c) (V205 I c) (V206 I c) (V207 I c) (V208 I c) (V209 I c) (V210 I c) (V211 I c)) Q := by
  rw [k0_part11_eq_skeleton]
  unfold k0_part11_skel
  simp only [Prog.lift, Prog.bind_op, Prog.bind_ret, Prog.pure_eq_ret]
  show iprop(records (F := F) (KV I) ∗ St (KV I) c 5 ∗ (St (KV I) c 6 -∗ Q ⟨k0_pay50 (V160 I c) (V170 I c) (V204 I c), k0_pay51 (V160 I c) (V170 I c) (V205 I c), k0_pay53 (V161 I c) (V170 I c) (V206 I c), k0_pay54 (V161 I c) (V170 I c) (V207 I c), k0_pay56 (V162 I c) (V170 I c) (V208 I c), k0_pay57 (V162 I c) (V170 I c) (V209 I c), k0_pay59 (V163 I c) (V170 I c) (V210 I c), k0_pay60 (V163 I c) (V170 I c) (V211 I c), k0_pay61 (V199 I c), k0_pay62 (V189 I c) (V199 I c)⟩)) ⊢ _
  iintro ⟨#HR, HS, HK⟩
  iapply (step_send (KV I) c 5 (0, 1) rfl (by decide) (by decide) (by decide) (off4_0 c) (dev_9 c) rfl rfl) $$ [HS]
  · isplitr; iexact HR; iexact HS
  iintro HS
  rw [wp_ret]
  imodintro
  iapply HK
  iexact HS

theorem wp_part12 {Q : (Σ' (v401 : FVec F S256x1 .f32) (v404 : FVec F S256x64 .f32) (v411 : FVec F S256x1 .f32) (v414 : FVec F S256x64 .f32) (v421 : FVec F S256x1 .f32) (v424 : FVec F S256x64 .f32) (v431 : FVec F S256x1 .f32) (v434 : FVec F S256x64 .f32) (v439 : BitVec 32) (v440 : BitVec 32), BitVec 32) → sProp 𝕄} :
    Q ⟨(V401 I c), (V404 I c), (V411 I c), (V414 I c), (V421 I c), (V424 I c), (V431 I c), (V434 I c), (V439 I c), (V440 I c), (C1_i32_253 I c)⟩ ⊢ wp frame (wpE (defs₀ (F := F)) 𝒱₀ (c : Thread nD τ) none) Set.univ (k0_part12 (Memref.whole cc0_stg0_0) h0 (Memref.whole cc0_stg1_0) h1 (Memref.whole cc0_stg2_0) h2 (Memref.whole cc0_stg3_0) h3 (Memref.whole cc0_stg4_0) h4 (Memref.whole cc0_stg5_0) h5 (Memref.whole cc0_scratch0) h6 cc0_scratch1 cc0_scratch2 (V5 I c) (V190 I c) (V191 I c) (V192 I c) (V199 I c) (V212 I c) (V213 I c) (V214 I c) (V215 I c) (V216 I c) (V217 I c) (V218 I c) (V219 I c) (V396 I c) (V397 I c)) Q := by
  rw [k0_part12_eq_skeleton]
  unfold k0_part12_skel
  simp only [Prog.lift, Prog.bind_op, Prog.bind_ret, Prog.pure_eq_ret]
  show Q ⟨k0_pay64 (V212 I c) (V397 I c), k0_pay65 (V213 I c) (V396 I c) (V397 I c), k0_pay67 (V190 I c) (V199 I c) (V214 I c), k0_pay68 (V190 I c) (V199 I c) (V215 I c), k0_pay70 (V191 I c) (V199 I c) (V216 I c), k0_pay71 (V191 I c) (V199 I c) (V217 I c), k0_pay73 (V192 I c) (V199 I c) (V218 I c), k0_pay74 (V192 I c) (V199 I c) (V219 I c), (Scalar.xori (V5 I c) 1#32), (Scalar.shrsi (Scalar.xori (V5 I c) 1#32) 1#32), 1#32⟩ ⊢ _
  iintro HK
  rw [wp_ret]
  imodintro
  iexact HK

theorem wp_part13 {Q : (Σ' (v467 : BitVec 32), BitVec 32) → sProp 𝕄} :
    iprop(records (F := F) (KV I) ∗ St (KV I) c 6 ∗ (St (KV I) c 7 -∗ Q ⟨(V467 I c), (C0_i32_285 I c)⟩))
      ⊢ wp frame (wpE (defs₀ (F := F)) 𝒱₀ (c : Thread nD τ) none) Set.univ (k0_part13 (Memref.whole cc0_stg0_0) h0 (Memref.whole cc0_stg1_0) h1 (Memref.whole cc0_stg2_0) h2 (Memref.whole cc0_stg3_0) h3 (Memref.whole cc0_stg4_0) h4 (Memref.whole cc0_stg5_0) h5 (Memref.whole cc0_scratch0) h6 cc0_scratch1 cc0_scratch2 c (V5 I c) (V439 I c) (V440 I c) (C1_i32_253 I c)) Q := by
  rw [k0_part13_eq_skeleton]
  unfold k0_part13_skel
  simp only [Prog.lift, Prog.bind_op, Prog.bind_ret, Prog.pure_eq_ret]
  show iprop(records (F := F) (KV I) ∗ St (KV I) c 6 ∗ (St (KV I) c 7 -∗ Q ⟨(Scalar.muli (Scalar.xori (Scalar.xori (V5 I c) 2#32) (Scalar.andi (Scalar.shrsi (Scalar.xori (V5 I c) 2#32) 1#32) 1#32)) 1#32), 0#32⟩)) ⊢ _
  iintro ⟨#HR, HS, HK⟩
  iapply (step_recv (KV I) c 6 (0, 0) rfl (by decide) (by decide) (by decide) rfl) $$ [HS]
  · isplitr; iexact HR; iexact HS
  iintro HS
  rw [wp_ret]
  imodintro
  iapply HK
  iexact HS

theorem wp_part14 {Q : (Σ' (v497 : BitVec 32), BitVec 32) → sProp 𝕄} :
    iprop(records (F := F) (KV I) ∗ St (KV I) c 7 ∗ (St (KV I) c 9 -∗ Q ⟨(V497 I c), (V498 I c)⟩))
      ⊢ wp frame (wpE (defs₀ (F := F)) 𝒱₀ (c : Thread nD τ) none) Set.univ (k0_part14 (Memref.whole cc0_stg0_0) h0 (Memref.whole cc0_stg1_0) h1 (Memref.whole cc0_stg2_0) h2 (Memref.whole cc0_stg3_0) h3 (Memref.whole cc0_stg4_0) h4 (Memref.whole cc0_stg5_0) h5 (Memref.whole cc0_scratch0) h6 cc0_scratch1 cc0_scratch2 c (V5 I c) (V467 I c) (C0_i32_285 I c)) Q := by
  rw [k0_part14_eq_skeleton]
  unfold k0_part14_skel
  simp only [Prog.lift, Prog.bind_op, Prog.bind_ret, Prog.pure_eq_ret]
  show iprop(records (F := F) (KV I) ∗ St (KV I) c 7 ∗ (St (KV I) c 9 -∗ Q ⟨(Scalar.xori (V5 I c) 2#32), (Scalar.shrsi (Scalar.xori (V5 I c) 2#32) 1#32)⟩)) ⊢ _
  iintro ⟨#HR, HS, HK⟩
  iapply (step_send (KV I) c 7 (2, 0) rfl (by decide) (by decide) (by decide) (off3_1 c) (dev_10 c) rfl rfl) $$ [HS]
  · isplitr; iexact HR; iexact HS
  iintro HS
  iapply (step_recv (KV I) c 8 (1, 1) rfl (by decide) (by decide) (by decide) rfl) $$ [HS]
  · isplitr; iexact HR; iexact HS
  iintro HS
  rw [wp_ret]
  imodintro
  iapply HK
  iexact HS

theorem wp_part15 {Q : (Σ' (v527 : BitVec 32), BitVec 32) → sProp 𝕄} :
    iprop(records (F := F) (KV I) ∗ St (KV I) c 9 ∗ (St (KV I) c 10 -∗ Q ⟨(V527 I c), (V529 I c)⟩))
      ⊢ wp frame (wpE (defs₀ (F := F)) 𝒱₀ (c : Thread nD τ) none) Set.univ (k0_part15 (Memref.whole cc0_stg0_0) h0 (Memref.whole cc0_stg1_0) h1 (Memref.whole cc0_stg2_0) h2 (Memref.whole cc0_stg3_0) h3 (Memref.whole cc0_stg4_0) h4 (Memref.whole cc0_stg5_0) h5 (Memref.whole cc0_scratch0) h6 cc0_scratch1 cc0_scratch2 c (V5 I c) (V497 I c) (V498 I c)) Q := by
  rw [k0_part15_eq_skeleton]
  unfold k0_part15_skel
  simp only [Prog.lift, Prog.bind_op, Prog.bind_ret, Prog.pure_eq_ret]
  show iprop(records (F := F) (KV I) ∗ St (KV I) c 9 ∗ (St (KV I) c 10 -∗ Q ⟨(Scalar.xori (V5 I c) 2#32), (Scalar.andi (Scalar.shrsi (Scalar.xori (V5 I c) 2#32) 1#32) 1#32)⟩)) ⊢ _
  iintro ⟨#HR, HS, HK⟩
  iapply (step_send (KV I) c 9 (5, 1) rfl (by decide) (by decide) (by decide) (off4_2 c) (dev_11 c) rfl rfl) $$ [HS]
  · isplitr; iexact HR; iexact HS
  iintro HS
  rw [wp_ret]
  imodintro
  iapply HK
  iexact HS

end Cert.KernelIdealRun

end
-- ==== Proof.KernelIdealRun.Parts2.lean ====
/-
The parts of the body that move and read the slots, each as one lemma.
-/
module

public import proofs.«01_k».proof.Proof.KernelIdealRun.Steps

@[expose] public section

set_option maxRecDepth 16384

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Inp F) (c : Dev nD)
variable (h0 : (Memref.whole cc0_stg0_0 : Memref sig .tc .vmem S2x256x768 .f32).IsWhole)
  (h1 : (Memref.whole cc0_stg1_0 : Memref sig .tc .vmem S768x256 .f32).IsWhole)
  (h2 : (Memref.whole cc0_stg2_0 : Memref sig .tc .vmem S768x256 .f32).IsWhole)
  (h3 : (Memref.whole cc0_stg3_0 : Memref sig .tc .vmem S768x256 .f32).IsWhole)
  (h4 : (Memref.whole cc0_stg4_0 : Memref sig .tc .vmem S256x768 .f32).IsWhole)
  (h5 : (Memref.whole cc0_stg5_0 : Memref sig .tc .vmem S2x256x768 .f32).IsWhole)
  (h6 : (Memref.whole cc0_scratch0 : Memref sig .tc .vmem S8x2x256x512 .bf16).IsWhole)

theorem wp_part16 {Q : (PUnit) → sProp 𝕄} :
    iprop(records (F := F) (KV I) ∗ St (KV I) c 10 ∗ (St (KV I) c 11 -∗ Q ⟨⟩))
      ⊢ wp frame (wpE (defs₀ (F := F)) 𝒱₀ (c : Thread nD τ) none) Set.univ (k0_part16 (Memref.whole cc0_stg0_0) h0 (Memref.whole cc0_stg1_0) h1 (Memref.whole cc0_stg2_0) h2 (Memref.whole cc0_stg3_0) h3 (Memref.whole cc0_stg4_0) h4 (Memref.whole cc0_stg5_0) h5 (Memref.whole cc0_scratch0) h6 cc0_scratch1 cc0_scratch2 c (V5 I c) (V527 I c) (V529 I c)) Q := by
  rw [k0_part16_eq_skeleton]
  unfold k0_part16_skel
  simp only [Prog.lift, Prog.bind_op, Prog.bind_ret, Prog.pure_eq_ret]
  show iprop(records (F := F) (KV I) ∗ St (KV I) c 10 ∗ (St (KV I) c 11 -∗ Q ⟨⟩)) ⊢ _
  iintro ⟨#HR, HS, HK⟩
  iapply (step_recv (KV I) c 10 (1, 0) rfl (by decide) (by decide) (by decide) rfl) $$ [HS]
  · isplitr; iexact HR; iexact HS
  iintro HS
  rw [wp_ret]
  imodintro
  iapply HK
  iexact HS

theorem wp_part17 {Q : (Σ' (v585 : BitVec 32) (v586 : BitVec 32), BitVec 32) → sProp 𝕄} :
    iprop(records (F := F) (KV I) ∗ St (KV I) c 11 ∗ (St (KV I) c 13 -∗ Q ⟨(V585 I c), (V586 I c), (C1_i32_399 I c)⟩))
      ⊢ wp frame (wpE (defs₀ (F := F)) 𝒱₀ (c : Thread nD τ) none) Set.univ (k0_part17 (Memref.whole cc0_stg0_0) h0 (Memref.whole cc0_stg1_0) h1 (Memref.whole cc0_stg2_0) h2 (Memref.whole cc0_stg3_0) h3 (Memref.whole cc0_stg4_0) h4 (Memref.whole cc0_stg5_0) h5 (Memref.whole cc0_scratch0) h6 cc0_scratch1 cc0_scratch2 c (V5 I c)) Q := by
  rw [k0_part17_eq_skeleton]
  unfold k0_part17_skel
  simp only [Prog.lift, Prog.bind_op, Prog.bind_ret, Prog.pure_eq_ret]
  show iprop(records (F := F) (KV I) ∗ St (KV I) c 11 ∗ (St (KV I) c 13 -∗ Q ⟨(Scalar.xori (V5 I c) 4#32), (Scalar.shrsi (Scalar.xori (V5 I c) 4#32) 1#32), 1#32⟩)) ⊢ _
  iintro ⟨#HR, HS, HK⟩
  iapply (step_send (KV I) c 11 (5, 0) rfl (by decide) (by decide) (by decide) (off3_2 c) (dev_12 c) rfl rfl) $$ [HS]
  · isplitr; iexact HR; iexact HS
  iintro HS
  iapply (step_recv (KV I) c 12 (3, 1) rfl (by decide) (by decide) (by decide) rfl) $$ [HS]
  · isplitr; iexact HR; iexact HS
  iintro HS
  rw [wp_ret]
  imodintro
  iapply HK
  iexact HS

theorem wp_part18 {Q : (Σ' (v614 : BitVec 32), BitVec 32) → sProp 𝕄} :
    iprop(records (F := F) (KV I) ∗ St (KV I) c 13 ∗ (St (KV I) c 14 -∗ Q ⟨(V614 I c), (C1_i32_430 I c)⟩))
      ⊢ wp frame (wpE (defs₀ (F := F)) 𝒱₀ (c : Thread nD τ) none) Set.univ (k0_part18 (Memref.whole cc0_stg0_0) h0 (Memref.whole cc0_stg1_0) h1 (Memref.whole cc0_stg2_0) h2 (Memref.whole cc0_stg3_0) h3 (Memref.whole cc0_stg4_0) h4 (Memref.whole cc0_stg5_0) h5 (Memref.whole cc0_scratch0) h6 cc0_scratch1 cc0_scratch2 c (V5 I c) (V585 I c) (V586 I c) (C1_i32_399 I c)) Q := by
  rw [k0_part18_eq_skeleton]
  unfold k0_part18_skel
  simp only [Prog.lift, Prog.bind_op, Prog.bind_ret, Prog.pure_eq_ret]
  show iprop(records (F := F) (KV I) ∗ St (KV I) c 13 ∗ (St (KV I) c 14 -∗ Q ⟨(Scalar.xori (Scalar.xori (V5 I c) 4#32) (Scalar.andi (Scalar.shrsi (Scalar.xori (V5 I c) 4#32) 1#32) 1#32)), 1#32⟩)) ⊢ _
  iintro ⟨#HR, HS, HK⟩
  iapply (step_send (KV I) c 13 (4, 1) rfl (by decide) (by decide) (by decide) (off4_4 c) (dev_13 c) rfl rfl) $$ [HS]
  · isplitr; iexact HR; iexact HS
  iintro HS
  rw [wp_ret]
  imodintro
  iapply HK
  iexact HS

theorem wp_part19 {Q : (BitVec 32) → sProp 𝕄} :
    iprop(records (F := F) (KV I) ∗ St (KV I) c 14 ∗ (St (KV I) c 16 -∗ Q (V645 I c)))
      ⊢ wp frame (wpE (defs₀ (F := F)) 𝒱₀ (c : Thread nD τ) none) Set.univ (k0_part19 (Memref.whole cc0_stg0_0) h0 (Memref.whole cc0_stg1_0) h1 (Memref.whole cc0_stg2_0) h2 (Memref.whole cc0_stg3_0) h3 (Memref.whole cc0_stg4_0) h4 (Memref.whole cc0_stg5_0) h5 (Memref.whole cc0_scratch0) h6 cc0_scratch1 cc0_scratch2 c (V5 I c) (V614 I c) (C1_i32_430 I c)) Q := by
  rw [k0_part19_eq_skeleton]
  unfold k0_part19_skel
  simp only [Prog.lift, Prog.bind_op, Prog.bind_ret, Prog.pure_eq_ret]
  show iprop(records (F := F) (KV I) ∗ St (KV I) c 14 ∗ (St (KV I) c 16 -∗ Q ((Scalar.xori (V5 I c) 1#32)))) ⊢ _
  iintro ⟨#HR, HS, HK⟩
  iapply (step_recv (KV I) c 14 (3, 0) rfl (by decide) (by decide) (by decide) rfl) $$ [HS]
  · isplitr; iexact HR; iexact HS
  iintro HS
  iapply (step_send (KV I) c 15 (4, 0) rfl (by decide) (by decide) (by decide) (off3_4 c) (dev_14 c) rfl rfl) $$ [HS]
  · isplitr; iexact HR; iexact HS
  iintro HS
  rw [wp_ret]
  imodintro
  iapply HK
  iexact HS

theorem wp_part20 {Q : (Σ' (v673 : BitVec 32), BitVec 32) → sProp 𝕄} :
    iprop(records (F := F) (KV I) ∗ St (KV I) c 16 ∗ (St (KV I) c 17 -∗ Q ⟨(V673 I c), (V675 I c)⟩))
      ⊢ wp frame (wpE (defs₀ (F := F)) 𝒱₀ (c : Thread nD τ) none) Set.univ (k0_part20 (Memref.whole cc0_stg0_0) h0 (Memref.whole cc0_stg1_0) h1 (Memref.whole cc0_stg2_0) h2 (Memref.whole cc0_stg3_0) h3 (Memref.whole cc0_stg4_0) h4 (Memref.whole cc0_stg5_0) h5 (Memref.whole cc0_scratch0) h6 cc0_scratch1 cc0_scratch2 c (V5 I c) (V645 I c)) Q := by
  rw [k0_part20_eq_skeleton]
  unfold k0_part20_skel
  simp only [Prog.lift, Prog.bind_op, Prog.bind_ret, Prog.pure_eq_ret]
  show iprop(records (F := F) (KV I) ∗ St (KV I) c 16 ∗ (St (KV I) c 17 -∗ Q ⟨(Scalar.xori (V5 I c) 2#32), (Scalar.andi (Scalar.shrsi (Scalar.xori (V5 I c) 2#32) 1#32) 1#32)⟩)) ⊢ _
  iintro ⟨#HR, HS, HK⟩
  iapply (step_recv (KV I) c 16 (0, 1) rfl (by decide) (by decide) (by decide) rfl) $$ [HS]
  · isplitr; iexact HR; iexact HS
  iintro HS
  rw [wp_ret]
  imodintro
  iapply HK
  iexact HS

theorem wp_part21 {Q : (Σ' (v693 : FVec F S256x512 .bf16) (v700 : FVec F S256x1 .f32) (v703 : FVec F S256x64 .f32) (v705 : FVec F S256x64 .bf16) (v710 : FVec F S256x1 .f32), FVec F S256x256 .bf16) → sProp 𝕄} :
    iprop(records (F := F) (KV I) ∗ St (KV I) c 17 ∗ (St (KV I) c 18 -∗ Q ⟨(V693 I c), (V700 I c), (V703 I c), (V705 I c), (V710 I c), (V711 I c)⟩))
      ⊢ wp frame (wpE (defs₀ (F := F)) 𝒱₀ (c : Thread nD τ) none) Set.univ (k0_part21 (Memref.whole cc0_stg0_0) h0 (Memref.whole cc0_stg1_0) h1 (Memref.whole cc0_stg2_0) h2 (Memref.whole cc0_stg3_0) h3 (Memref.whole cc0_stg4_0) h4 (Memref.whole cc0_stg5_0) h5 (Memref.whole cc0_scratch0) h6 cc0_scratch1 cc0_scratch2 c (V5 I c) (V160 I c) (V161 I c) (V361 I c) (V364 I c) (V371 I c) (V673 I c) (V675 I c)) Q := by
  rw [k0_part21_eq_skeleton]
  unfold k0_part21_skel
  simp only [Prog.lift, Prog.bind_op, Prog.bind_ret, Prog.pure_eq_ret]
  show iprop(records (F := F) (KV I) ∗ St (KV I) c 17 ∗ (St (KV I) c 18 -∗ Q ⟨k0_pay75 (K0 I (nb c 1)), k0_pay77 (V160 I c) (V361 I c) (K0 I (nb c 1)), k0_pay78 (V160 I c) (V364 I c) (K0 I (nb c 1)), k0_pay79 (K0 I (nb c 1)), k0_pay81 (V161 I c) (V371 I c) (K0 I (nb c 1)), k0_pay82 (V161 I c) (K0 I (nb c 1))⟩)) ⊢ _
  iintro ⟨#HR, HS, HK⟩
  iapply (step_send (KV I) c 17 (2, 1) rfl (by decide) (by decide) (by decide) (off4_1 c) (dev_15 c) rfl rfl) $$ [HS]
  · isplitr; iexact HR; iexact HS
  iintro HS
  iapply (step_load_0 I c 18 (0, 0) 1 rfl (by decide) (off5_1 c)) $$ HS
  iintro HS
  rw [wp_ret]
  imodintro
  iapply HK
  iexact HS

theorem wp_part22 {Q : (Σ' (v713 : FVec F S256x64 .f32) (v720 : FVec F S256x1 .f32) (v723 : FVec F S256x64 .f32) (v730 : FVec F S256x1 .f32) (v733 : FVec F S256x64 .f32) (v740 : FVec F S256x512 .bf16) (v747 : FVec F S256x1 .f32) (v750 : FVec F S256x64 .f32) (v752 : FVec F S256x64 .bf16), FVec F S256x256 .f32) → sProp 𝕄} :
    iprop(records (F := F) (KV I) ∗ St (KV I) c 18 ∗ (St (KV I) c 18 -∗ Q ⟨(V713 I c), (V720 I c), (V723 I c), (V730 I c), (V733 I c), (V740 I c), (V747 I c), (V750 I c), (V752 I c), (V754 I c)⟩))
      ⊢ wp frame (wpE (defs₀ (F := F)) 𝒱₀ (c : Thread nD τ) none) Set.univ (k0_part22 (Memref.whole cc0_stg0_0) h0 (Memref.whole cc0_stg1_0) h1 (Memref.whole cc0_stg2_0) h2 (Memref.whole cc0_stg3_0) h3 (Memref.whole cc0_stg4_0) h4 (Memref.whole cc0_stg5_0) h5 (Memref.whole cc0_scratch0) h6 cc0_scratch1 cc0_scratch2 c (V5 I c) (V162 I c) (V163 I c) (V189 I c) (V190 I c) (V374 I c) (V381 I c) (V384 I c) (V391 I c) (V394 I c) (V401 I c) (V404 I c) (V693 I c) (V705 I c) (V711 I c)) Q := by
  rw [k0_part22_eq_skeleton]
  unfold k0_part22_skel
  simp only [Prog.lift, Prog.bind_op, Prog.bind_ret, Prog.pure_eq_ret]
  show iprop(records (F := F) (KV I) ∗ St (KV I) c 18 ∗ (St (KV I) c 18 -∗ Q ⟨k0_pay83 (V374 I c) (V705 I c) (V711 I c), k0_pay85 (V162 I c) (V381 I c) (V693 I c), k0_pay86 (V162 I c) (V384 I c) (V693 I c), k0_pay88 (V163 I c) (V391 I c) (V693 I c), k0_pay89 (V163 I c) (V394 I c) (V693 I c), k0_pay90 (K1 I (nb c 1)), k0_pay92 (V189 I c) (V401 I c) (K1 I (nb c 1)), k0_pay93 (V189 I c) (V404 I c) (K1 I (nb c 1)), k0_pay94 (K1 I (nb c 1)), k0_pay95 (V190 I c) (K1 I (nb c 1))⟩)) ⊢ _
  iintro ⟨#HR, HS, HK⟩
  iapply (step_load_1 I c 18 (0, 1) 1 rfl (by decide) (off6_1 c)) $$ HS
  iintro HS
  rw [wp_ret]
  imodintro
  iapply HK
  iexact HS

theorem wp_part23 {Q : (Σ' (v757 : FVec F S256x1 .f32) (v760 : FVec F S256x64 .f32) (v767 : FVec F S256x1 .f32) (v770 : FVec F S256x64 .f32) (v777 : FVec F S256x1 .f32) (v780 : FVec F S256x64 .f32) (v787 : FVec F S256x512 .bf16) (v794 : FVec F S256x1 .f32), FVec F S256x64 .f32) → sProp 𝕄} :
    iprop(records (F := F) (KV I) ∗ St (KV I) c 18 ∗ (St (KV I) c 18 -∗ Q ⟨(V757 I c), (V760 I c), (V767 I c), (V770 I c), (V777 I c), (V780 I c), (V787 I c), (V794 I c), (V797 I c)⟩))
      ⊢ wp frame (wpE (defs₀ (F := F)) 𝒱₀ (c : Thread nD τ) none) Set.univ (k0_part23 (Memref.whole cc0_stg0_0) h0 (Memref.whole cc0_stg1_0) h1 (Memref.whole cc0_stg2_0) h2 (Memref.whole cc0_stg3_0) h3 (Memref.whole cc0_stg4_0) h4 (Memref.whole cc0_stg5_0) h5 (Memref.whole cc0_scratch0) h6 cc0_scratch1 cc0_scratch2 c (V5 I c) (V160 I c) (V191 I c) (V192 I c) (V411 I c) (V414 I c) (V421 I c) (V424 I c) (V431 I c) (V434 I c) (V700 I c) (V703 I c) (V740 I c) (V752 I c) (V754 I c)) Q := by
  rw [k0_part23_eq_skeleton]
  unfold k0_part23_skel
  simp only [Prog.lift, Prog.bind_op, Prog.bind_ret, Prog.pure_eq_ret]
  show iprop(records (F := F) (KV I) ∗ St (KV I) c 18 ∗ (St (KV I) c 18 -∗ Q ⟨k0_pay96 (V411 I c) (V754 I c), k0_pay97 (V414 I c) (V752 I c) (V754 I c), k0_pay99 (V191 I c) (V421 I c) (V740 I c), k0_pay100 (V191 I c) (V424 I c) (V740 I c), k0_pay102 (V192 I c) (V431 I c) (V740 I c), k0_pay103 (V192 I c) (V434 I c) (V740 I c), k0_pay104 (K0 I (nb c 2)), k0_pay106 (V160 I c) (V700 I c) (K0 I (nb c 2)), k0_pay107 (V160 I c) (V703 I c) (K0 I (nb c 2))⟩)) ⊢ _
  iintro ⟨#HR, HS, HK⟩
  iapply (step_load_0 I c 18 (1, 0) 2 rfl (by decide) (off5_2 c)) $$ HS
  iintro HS
  rw [wp_ret]
  imodintro
  iapply HK
  iexact HS

theorem wp_part24 {Q : (Σ' (v804 : FVec F S256x1 .f32) (v807 : FVec F S256x64 .f32) (v814 : FVec F S256x1 .f32) (v817 : FVec F S256x64 .f32) (v824 : FVec F S256x1 .f32) (v827 : FVec F S256x64 .f32) (v834 : FVec F S256x512 .bf16) (v836 : FVec F S256x64 .bf16) (v838 : FVec F S256x256 .f32), FVec F S256x1 .f32) → sProp 𝕄} :
    iprop(records (F := F) (KV I) ∗ St (KV I) c 18 ∗ (St (KV I) c 18 -∗ Q ⟨(V804 I c), (V807 I c), (V814 I c), (V817 I c), (V824 I c), (V827 I c), (V834 I c), (V836 I c), (V838 I c), (V840 I c)⟩))
      ⊢ wp frame (wpE (defs₀ (F := F)) 𝒱₀ (c : Thread nD τ) none) Set.univ (k0_part24 (Memref.whole cc0_stg0_0) h0 (Memref.whole cc0_stg1_0) h1 (Memref.whole cc0_stg2_0) h2 (Memref.whole cc0_stg3_0) h3 (Memref.whole cc0_stg4_0) h4 (Memref.whole cc0_stg5_0) h5 (Memref.whole cc0_scratch0) h6 cc0_scratch1 cc0_scratch2 c (V5 I c) (V161 I c) (V162 I c) (V163 I c) (V189 I c) (V710 I c) (V713 I c) (V720 I c) (V723 I c) (V730 I c) (V733 I c) (V787 I c)) Q := by
  rw [k0_part24_eq_skeleton]
  unfold k0_part24_skel
  simp only [Prog.lift, Prog.bind_op, Prog.bind_ret, Prog.pure_eq_ret]
  show iprop(records (F := F) (KV I) ∗ St (KV I) c 18 ∗ (St (KV I) c 18 -∗ Q ⟨k0_pay109 (V161 I c) (V710 I c) (V787 I c), k0_pay110 (V161 I c) (V713 I c) (V787 I c), k0_pay112 (V162 I c) (V720 I c) (V787 I c), k0_pay113 (V162 I c) (V723 I c) (V787 I c), k0_pay115 (V163 I c) (V730 I c) (V787 I c), k0_pay116 (V163 I c) (V733 I c) (V787 I c), k0_pay117 (K1 I (nb c 2)), k0_pay118 (K1 I (nb c 2)), k0_pay119 (V189 I c) (K1 I (nb c 2)), k0_pay120 (V189 I c) (K1 I (nb c 2))⟩)) ⊢ _
  iintro ⟨#HR, HS, HK⟩
  iapply (step_load_1 I c 18 (1, 1) 2 rfl (by decide) (off6_2 c)) $$ HS
  iintro HS
  rw [wp_ret]
  imodintro
  iapply HK
  iexact HS

theorem wp_part25 {Q : (Σ' (v841 : FVec F S256x1 .f32) (v844 : FVec F S256x64 .f32) (v851 : FVec F S256x1 .f32) (v854 : FVec F S256x64 .f32) (v861 : FVec F S256x1 .f32) (v864 : FVec F S256x64 .f32) (v871 : FVec F S256x1 .f32) (v874 : FVec F S256x64 .f32) (v881 : FVec F S256x512 .bf16) (v882 : FVec F S256x64 .bf16) (v883 : FVec F S256x64 .bf16), FVec F S256x256 .f32) → sProp 𝕄} :
    iprop(records (F := F) (KV I) ∗ St (KV I) c 18 ∗ (St (KV I) c 18 -∗ Q ⟨(V841 I c), (V844 I c), (V851 I c), (V854 I c), (V861 I c), (V864 I c), (V871 I c), (V874 I c), (V881 I c), (V882 I c), (V883 I c), (Cst_577 I c)⟩))
      ⊢ wp frame (wpE (defs₀ (F := F)) 𝒱₀ (c : Thread nD τ) none) Set.univ (k0_part25 (Memref.whole cc0_stg0_0) h0 (Memref.whole cc0_stg1_0) h1 (Memref.whole cc0_stg2_0) h2 (Memref.whole cc0_stg3_0) h3 (Memref.whole cc0_stg4_0) h4 (Memref.whole cc0_stg5_0) h5 (Memref.whole cc0_scratch0) h6 cc0_scratch1 cc0_scratch2 c (V5 I c) (V190 I c) (V191 I c) (V192 I c) (V747 I c) (V750 I c) (V757 I c) (V760 I c) (V767 I c) (V770 I c) (V777 I c) (V780 I c) (V834 I c) (V836 I c) (V838 I c) (V840 I c)) Q := by
  rw [k0_part25_eq_skeleton]
  unfold k0_part25_skel
  simp only [Prog.lift, Prog.bind_op, Prog.bind_ret, Prog.pure_eq_ret]
  show iprop(records (F := F) (KV I) ∗ St (KV I) c 18 ∗ (St (KV I) c 18 -∗ Q ⟨k0_pay121 (V747 I c) (V840 I c), k0_pay122 (V750 I c) (V836 I c) (V838 I c), k0_pay124 (V190 I c) (V757 I c) (V834 I c), k0_pay125 (V190 I c) (V760 I c) (V834 I c), k0_pay127 (V191 I c) (V767 I c) (V834 I c), k0_pay128 (V191 I c) (V770 I c) (V834 I c), k0_pay130 (V192 I c) (V777 I c) (V834 I c), k0_pay131 (V192 I c) (V780 I c) (V834 I c), k0_pay132 (K0 I (nb c 4)), k0_pay133 (K0 I (nb c 4)), k0_pay134 (K0 I (nb c 4)), (constant S256x256 .f32 0x00000000#32)⟩)) ⊢ _
  iintro ⟨#HR, HS, HK⟩
  iapply (step_load_0 I c 18 (3, 0) 4 rfl (by decide) (off5_4 c)) $$ HS
  iintro HS
  rw [wp_ret]
  imodintro
  iapply HK
  iexact HS

end Cert.KernelIdealRun

end
-- ==== Proof.KernelIdealRun.Parts3.lean ====
/-
The parts of the body that move and read the slots, each as one lemma.
-/
module

public import proofs.«01_k».proof.Proof.KernelIdealRun.Steps

@[expose] public section

set_option maxRecDepth 16384

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Inp F) (c : Dev nD)
variable (h0 : (Memref.whole cc0_stg0_0 : Memref sig .tc .vmem S2x256x768 .f32).IsWhole)
  (h1 : (Memref.whole cc0_stg1_0 : Memref sig .tc .vmem S768x256 .f32).IsWhole)
  (h2 : (Memref.whole cc0_stg2_0 : Memref sig .tc .vmem S768x256 .f32).IsWhole)
  (h3 : (Memref.whole cc0_stg3_0 : Memref sig .tc .vmem S768x256 .f32).IsWhole)
  (h4 : (Memref.whole cc0_stg4_0 : Memref sig .tc .vmem S256x768 .f32).IsWhole)
  (h5 : (Memref.whole cc0_stg5_0 : Memref sig .tc .vmem S2x256x768 .f32).IsWhole)
  (h6 : (Memref.whole cc0_scratch0 : Memref sig .tc .vmem S8x2x256x512 .bf16).IsWhole)

theorem wp_part26 {Q : (Σ' (v888 : FVec F S256x1 .f32) (v891 : FVec F S256x64 .f32) (v898 : FVec F S256x1 .f32) (v901 : FVec F S256x64 .f32) (v908 : FVec F S256x1 .f32) (v911 : FVec F S256x64 .f32) (v918 : FVec F S256x1 .f32), FVec F S256x64 .f32) → sProp 𝕄} :
    Q ⟨(V888 I c), (V891 I c), (V898 I c), (V901 I c), (V908 I c), (V911 I c), (V918 I c), (V921 I c)⟩ ⊢ wp frame (wpE (defs₀ (F := F)) 𝒱₀ (c : Thread nD τ) none) Set.univ (k0_part26 (Memref.whole cc0_stg0_0) h0 (Memref.whole cc0_stg1_0) h1 (Memref.whole cc0_stg2_0) h2 (Memref.whole cc0_stg3_0) h3 (Memref.whole cc0_stg4_0) h4 (Memref.whole cc0_stg5_0) h5 (Memref.whole cc0_scratch0) h6 cc0_scratch1 cc0_scratch2 (V5 I c) (V160 I c) (V161 I c) (V162 I c) (V163 I c) (V794 I c) (V797 I c) (V804 I c) (V807 I c) (V814 I c) (V817 I c) (V824 I c) (V827 I c) (V881 I c) (V882 I c) (V883 I c) (Cst_577 I c)) Q := by
  rw [k0_part26_eq_skeleton]
  unfold k0_part26_skel
  simp only [Prog.lift, Prog.bind_op, Prog.bind_ret, Prog.pure_eq_ret]
  show Q ⟨k0_pay136 (V160 I c) (V794 I c) (V882 I c) (Cst_577 I c), k0_pay137 (V160 I c) (V797 I c) (V882 I c) (V883 I c) (Cst_577 I c), k0_pay139 (V161 I c) (V804 I c) (V881 I c), k0_pay140 (V161 I c) (V807 I c) (V881 I c), k0_pay142 (V162 I c) (V814 I c) (V881 I c), k0_pay143 (V162 I c) (V817 I c) (V881 I c), k0_pay145 (V163 I c) (V824 I c) (V881 I c), k0_pay146 (V163 I c) (V827 I c) (V881 I c)⟩ ⊢ _
  iintro HK
  rw [wp_ret]
  imodintro
  iexact HK

theorem wp_part27 {Q : (Σ' (v935 : FVec F S256x1 .f32) (v938 : FVec F S256x64 .f32) (v945 : FVec F S256x1 .f32) (v948 : FVec F S256x64 .f32) (v955 : FVec F S256x1 .f32) (v958 : FVec F S256x64 .f32) (v965 : FVec F S256x1 .f32) (v968 : FVec F S256x64 .f32) (v969 : BitVec 32), BitVec 32) → sProp 𝕄} :
    iprop(records (F := F) (KV I) ∗ St (KV I) c 18 ∗ (St (KV I) c 18 -∗ Q ⟨(V935 I c), (V938 I c), (V945 I c), (V948 I c), (V955 I c), (V958 I c), (V965 I c), (V968 I c), (V969 I c), (V971 I c)⟩))
      ⊢ wp frame (wpE (defs₀ (F := F)) 𝒱₀ (c : Thread nD τ) none) Set.univ (k0_part27 (Memref.whole cc0_stg0_0) h0 (Memref.whole cc0_stg1_0) h1 (Memref.whole cc0_stg2_0) h2 (Memref.whole cc0_stg3_0) h3 (Memref.whole cc0_stg4_0) h4 (Memref.whole cc0_stg5_0) h5 (Memref.whole cc0_scratch0) h6 cc0_scratch1 cc0_scratch2 c (V5 I c) (V189 I c) (V190 I c) (V191 I c) (V192 I c) (V841 I c) (V844 I c) (V851 I c) (V854 I c) (V861 I c) (V864 I c) (V871 I c) (V874 I c)) Q := by
  rw [k0_part27_eq_skeleton]
  unfold k0_part27_skel
  simp only [Prog.lift, Prog.bind_op, Prog.bind_ret, Prog.pure_eq_ret]
  show iprop(records (F := F) (KV I) ∗ St (KV I) c 18 ∗ (St (KV I) c 18 -∗ Q ⟨k0_pay149 (V189 I c) (V841 I c) (K1 I (nb c 4)), k0_pay150 (V189 I c) (V844 I c) (K1 I (nb c 4)), k0_pay152 (V190 I c) (V851 I c) (K1 I (nb c 4)), k0_pay153 (V190 I c) (V854 I c) (K1 I (nb c 4)), k0_pay155 (V191 I c) (V861 I c) (K1 I (nb c 4)), k0_pay156 (V191 I c) (V864 I c) (K1 I (nb c 4)), k0_pay158 (V192 I c) (V871 I c) (K1 I (nb c 4)), k0_pay159 (V192 I c) (V874 I c) (K1 I (nb c 4)), (Scalar.xori (V5 I c) 3#32), (Scalar.andi (Scalar.shrsi (Scalar.xori (V5 I c) 3#32) 1#32) 1#32)⟩)) ⊢ _
  iintro ⟨#HR, HS, HK⟩
  iapply (step_load_1 I c 18 (3, 1) 4 rfl (by decide) (off6_4 c)) $$ HS
  iintro HS
  rw [wp_ret]
  imodintro
  iapply HK
  iexact HS

theorem wp_part28 {Q : (BitVec 32) → sProp 𝕄} :
    iprop(records (F := F) (KV I) ∗ St (KV I) c 18 ∗ (St (KV I) c 19 -∗ Q (V1000 I c)))
      ⊢ wp frame (wpE (defs₀ (F := F)) 𝒱₀ (c : Thread nD τ) none) Set.univ (k0_part28 (Memref.whole cc0_stg0_0) h0 (Memref.whole cc0_stg1_0) h1 (Memref.whole cc0_stg2_0) h2 (Memref.whole cc0_stg3_0) h3 (Memref.whole cc0_stg4_0) h4 (Memref.whole cc0_stg5_0) h5 (Memref.whole cc0_scratch0) h6 cc0_scratch1 cc0_scratch2 c (V5 I c) (V969 I c) (V971 I c)) Q := by
  rw [k0_part28_eq_skeleton]
  unfold k0_part28_skel
  simp only [Prog.lift, Prog.bind_op, Prog.bind_ret, Prog.pure_eq_ret]
  show iprop(records (F := F) (KV I) ∗ St (KV I) c 18 ∗ (St (KV I) c 19 -∗ Q ((Scalar.xori (Scalar.xori (V5 I c) 4#32) (Scalar.andi (Scalar.shrsi (Scalar.xori (V5 I c) 4#32) 1#32) 1#32))))) ⊢ _
  iintro ⟨#HR, HS, HK⟩
  iapply (step_recv (KV I) c 18 (2, 0) rfl (by decide) (by decide) (by decide) rfl) $$ [HS]
  · isplitr; iexact HR; iexact HS
  iintro HS
  rw [wp_ret]
  imodintro
  iapply HK
  iexact HS

theorem wp_part29 {Q : (PUnit) → sProp 𝕄} :
    iprop(records (F := F) (KV I) ∗ St (KV I) c 19 ∗ (St (KV I) c 20 -∗ Q ⟨⟩))
      ⊢ wp frame (wpE (defs₀ (F := F)) 𝒱₀ (c : Thread nD τ) none) Set.univ (k0_part29 (Memref.whole cc0_stg0_0) h0 (Memref.whole cc0_stg1_0) h1 (Memref.whole cc0_stg2_0) h2 (Memref.whole cc0_stg3_0) h3 (Memref.whole cc0_stg4_0) h4 (Memref.whole cc0_stg5_0) h5 (Memref.whole cc0_scratch0) h6 cc0_scratch1 cc0_scratch2 c (V5 I c) (V1000 I c)) Q := by
  rw [k0_part29_eq_skeleton]
  unfold k0_part29_skel
  simp only [Prog.lift, Prog.bind_op, Prog.bind_ret, Prog.pure_eq_ret]
  show iprop(records (F := F) (KV I) ∗ St (KV I) c 19 ∗ (St (KV I) c 20 -∗ Q ⟨⟩)) ⊢ _
  iintro ⟨#HR, HS, HK⟩
  iapply (step_send (KV I) c 19 (6, 0) rfl (by decide) (by decide) (by decide) (off3_3 c) (dev_16 c) rfl rfl) $$ [HS]
  · isplitr; iexact HR; iexact HS
  iintro HS
  rw [wp_ret]
  imodintro
  iapply HK
  iexact HS

theorem wp_part30 {Q : (PUnit) → sProp 𝕄} :
    iprop(records (F := F) (KV I) ∗ St (KV I) c 20 ∗ (St (KV I) c 22 -∗ Q ⟨⟩))
      ⊢ wp frame (wpE (defs₀ (F := F)) 𝒱₀ (c : Thread nD τ) none) Set.univ (k0_part30 (Memref.whole cc0_stg0_0) h0 (Memref.whole cc0_stg1_0) h1 (Memref.whole cc0_stg2_0) h2 (Memref.whole cc0_stg3_0) h3 (Memref.whole cc0_stg4_0) h4 (Memref.whole cc0_stg5_0) h5 (Memref.whole cc0_scratch0) h6 cc0_scratch1 cc0_scratch2 c (V5 I c)) Q := by
  rw [k0_part30_eq_skeleton]
  unfold k0_part30_skel
  simp only [Prog.lift, Prog.bind_op, Prog.bind_ret, Prog.pure_eq_ret]
  show iprop(records (F := F) (KV I) ∗ St (KV I) c 20 ∗ (St (KV I) c 22 -∗ Q ⟨⟩)) ⊢ _
  iintro ⟨#HR, HS, HK⟩
  iapply (step_recv (KV I) c 20 (5, 1) rfl (by decide) (by decide) (by decide) rfl) $$ [HS]
  · isplitr; iexact HR; iexact HS
  iintro HS
  iapply (step_send (KV I) c 21 (6, 1) rfl (by decide) (by decide) (by decide) (off4_6 c) (dev_17 c) rfl rfl) $$ [HS]
  · isplitr; iexact HR; iexact HS
  iintro HS
  rw [wp_ret]
  imodintro
  iapply HK
  iexact HS

theorem wp_part31 {Q : (PUnit) → sProp 𝕄} :
    iprop(records (F := F) (KV I) ∗ St (KV I) c 22 ∗ (St (KV I) c 23 -∗ Q ⟨⟩))
      ⊢ wp frame (wpE (defs₀ (F := F)) 𝒱₀ (c : Thread nD τ) none) Set.univ (k0_part31 (Memref.whole cc0_stg0_0) h0 (Memref.whole cc0_stg1_0) h1 (Memref.whole cc0_stg2_0) h2 (Memref.whole cc0_stg3_0) h3 (Memref.whole cc0_stg4_0) h4 (Memref.whole cc0_stg5_0) h5 (Memref.whole cc0_scratch0) h6 cc0_scratch1 cc0_scratch2 c (V5 I c)) Q := by
  rw [k0_part31_eq_skeleton]
  unfold k0_part31_skel
  simp only [Prog.lift, Prog.bind_op, Prog.bind_ret, Prog.pure_eq_ret]
  show iprop(records (F := F) (KV I) ∗ St (KV I) c 22 ∗ (St (KV I) c 23 -∗ Q ⟨⟩)) ⊢ _
  iintro ⟨#HR, HS, HK⟩
  iapply (step_recv (KV I) c 22 (5, 0) rfl (by decide) (by decide) (by decide) rfl) $$ [HS]
  · isplitr; iexact HR; iexact HS
  iintro HS
  rw [wp_ret]
  imodintro
  iapply HK
  iexact HS

theorem wp_part32 {Q : (BitVec 32) → sProp 𝕄} :
    iprop(records (F := F) (KV I) ∗ St (KV I) c 23 ∗ (St (KV I) c 25 -∗ Q (C3_i32_756 I c)))
      ⊢ wp frame (wpE (defs₀ (F := F)) 𝒱₀ (c : Thread nD τ) none) Set.univ (k0_part32 (Memref.whole cc0_stg0_0) h0 (Memref.whole cc0_stg1_0) h1 (Memref.whole cc0_stg2_0) h2 (Memref.whole cc0_stg3_0) h3 (Memref.whole cc0_stg4_0) h4 (Memref.whole cc0_stg5_0) h5 (Memref.whole cc0_scratch0) h6 cc0_scratch1 cc0_scratch2 c (V5 I c)) Q := by
  rw [k0_part32_eq_skeleton]
  unfold k0_part32_skel
  simp only [Prog.lift, Prog.bind_op, Prog.bind_ret, Prog.pure_eq_ret]
  show iprop(records (F := F) (KV I) ∗ St (KV I) c 23 ∗ (St (KV I) c 25 -∗ Q (3#32))) ⊢ _
  iintro ⟨#HR, HS, HK⟩
  iapply (step_recv (KV I) c 23 (4, 1) rfl (by decide) (by decide) (by decide) rfl) $$ [HS]
  · isplitr; iexact HR; iexact HS
  iintro HS
  iapply (step_recv (KV I) c 24 (4, 0) rfl (by decide) (by decide) (by decide) rfl) $$ [HS]
  · isplitr; iexact HR; iexact HS
  iintro HS
  rw [wp_ret]
  imodintro
  iapply HK
  iexact HS

theorem wp_part33 {Q : (Σ' (v1139 : FVec F S256x512 .bf16) (v1146 : FVec F S256x1 .f32), FVec F S256x64 .f32) → sProp 𝕄} :
    iprop(records (F := F) (KV I) ∗ St (KV I) c 25 ∗ (St (KV I) c 26 -∗ Q ⟨(V1139 I c), (V1146 I c), (V1149 I c)⟩))
      ⊢ wp frame (wpE (defs₀ (F := F)) 𝒱₀ (c : Thread nD τ) none) Set.univ (k0_part33 (Memref.whole cc0_stg0_0) h0 (Memref.whole cc0_stg1_0) h1 (Memref.whole cc0_stg2_0) h2 (Memref.whole cc0_stg3_0) h3 (Memref.whole cc0_stg4_0) h4 (Memref.whole cc0_stg5_0) h5 (Memref.whole cc0_scratch0) h6 cc0_scratch1 cc0_scratch2 c (V5 I c) (V160 I c) (V888 I c) (V891 I c) (C3_i32_756 I c)) Q := by
  rw [k0_part33_eq_skeleton]
  unfold k0_part33_skel
  simp only [Prog.lift, Prog.bind_op, Prog.bind_ret, Prog.pure_eq_ret]
  show iprop(records (F := F) (KV I) ∗ St (KV I) c 25 ∗ (St (KV I) c 26 -∗ Q ⟨k0_pay160 (K0 I (nb c 3)), k0_pay162 (V160 I c) (V888 I c) (K0 I (nb c 3)), k0_pay163 (V160 I c) (V891 I c) (K0 I (nb c 3))⟩)) ⊢ _
  iintro ⟨#HR, HS, HK⟩
  iapply (step_recv (KV I) c 25 (2, 1) rfl (by decide) (by decide) (by decide) rfl) $$ [HS]
  · isplitr; iexact HR; iexact HS
  iintro HS
  iapply (step_load_0 I c 26 (2, 0) 3 rfl (by decide) (off5_3 c)) $$ HS
  iintro HS
  rw [wp_ret]
  imodintro
  iapply HK
  iexact HS

end Cert.KernelIdealRun

end
-- ==== Proof.KernelIdealRun.Parts4.lean ====
/-
The parts of the body that move and read the slots, each as one lemma.
-/
module

public import proofs.«01_k».proof.Proof.KernelIdealRun.Steps

@[expose] public section

set_option maxRecDepth 16384

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Inp F) (c : Dev nD)
variable (h0 : (Memref.whole cc0_stg0_0 : Memref sig .tc .vmem S2x256x768 .f32).IsWhole)
  (h1 : (Memref.whole cc0_stg1_0 : Memref sig .tc .vmem S768x256 .f32).IsWhole)
  (h2 : (Memref.whole cc0_stg2_0 : Memref sig .tc .vmem S768x256 .f32).IsWhole)
  (h3 : (Memref.whole cc0_stg3_0 : Memref sig .tc .vmem S768x256 .f32).IsWhole)
  (h4 : (Memref.whole cc0_stg4_0 : Memref sig .tc .vmem S256x768 .f32).IsWhole)
  (h5 : (Memref.whole cc0_stg5_0 : Memref sig .tc .vmem S2x256x768 .f32).IsWhole)
  (h6 : (Memref.whole cc0_scratch0 : Memref sig .tc .vmem S8x2x256x512 .bf16).IsWhole)

theorem wp_part34 {Q : (Σ' (v1156 : FVec F S256x1 .f32) (v1159 : FVec F S256x64 .f32) (v1166 : FVec F S256x1 .f32) (v1169 : FVec F S256x64 .f32) (v1176 : FVec F S256x1 .f32) (v1179 : FVec F S256x64 .f32) (v1186 : FVec F S256x512 .bf16) (v1188 : FVec F S256x64 .bf16) (v1190 : FVec F S256x256 .f32), FVec F S256x1 .f32) → sProp 𝕄} :
    iprop(records (F := F) (KV I) ∗ St (KV I) c 26 ∗ (St (KV I) c 26 -∗ Q ⟨(V1156 I c), (V1159 I c), (V1166 I c), (V1169 I c), (V1176 I c), (V1179 I c), (V1186 I c), (V1188 I c), (V1190 I c), (V1192 I c)⟩))
      ⊢ wp frame (wpE (defs₀ (F := F)) 𝒱₀ (c : Thread nD τ) none) Set.univ (k0_part34 (Memref.whole cc0_stg0_0) h0 (Memref.whole cc0_stg1_0) h1 (Memref.whole cc0_stg2_0) h2 (Memref.whole cc0_stg3_0) h3 (Memref.whole cc0_stg4_0) h4 (Memref.whole cc0_stg5_0) h5 (Memref.whole cc0_scratch0) h6 cc0_scratch1 cc0_scratch2 c (V5 I c) (V161 I c) (V162 I c) (V163 I c) (V189 I c) (V898 I c) (V901 I c) (V908 I c) (V911 I c) (V918 I c) (V921 I c) (V1139 I c)) Q := by
  rw [k0_part34_eq_skeleton]
  unfold k0_part34_skel
  simp only [Prog.lift, Prog.bind_op, Prog.bind_ret, Prog.pure_eq_ret]
  show iprop(records (F := F) (KV I) ∗ St (KV I) c 26 ∗ (St (KV I) c 26 -∗ Q ⟨k0_pay165 (V161 I c) (V898 I c) (V1139 I c), k0_pay166 (V161 I c) (V901 I c) (V1139 I c), k0_pay168 (V162 I c) (V908 I c) (V1139 I c), k0_pay169 (V162 I c) (V911 I c) (V1139 I c), k0_pay171 (V163 I c) (V918 I c) (V1139 I c), k0_pay172 (V163 I c) (V921 I c) (V1139 I c), k0_pay173 (K1 I (nb c 3)), k0_pay174 (K1 I (nb c 3)), k0_pay175 (V189 I c) (K1 I (nb c 3)), k0_pay176 (V189 I c) (K1 I (nb c 3))⟩)) ⊢ _
  iintro ⟨#HR, HS, HK⟩
  iapply (step_load_1 I c 26 (2, 1) 3 rfl (by decide) (off6_3 c)) $$ HS
  iintro HS
  rw [wp_ret]
  imodintro
  iapply HK
  iexact HS

theorem wp_part35 {Q : (Σ' (v1193 : FVec F S256x1 .f32) (v1196 : FVec F S256x64 .f32) (v1203 : FVec F S256x1 .f32) (v1206 : FVec F S256x64 .f32) (v1213 : FVec F S256x1 .f32) (v1216 : FVec F S256x64 .f32) (v1223 : FVec F S256x1 .f32) (v1226 : FVec F S256x64 .f32) (v1233 : FVec F S256x512 .bf16) (v1234 : FVec F S256x64 .bf16) (v1235 : FVec F S256x64 .bf16), FVec F S256x256 .f32) → sProp 𝕄} :
    iprop(records (F := F) (KV I) ∗ St (KV I) c 26 ∗ (St (KV I) c 26 -∗ Q ⟨(V1193 I c), (V1196 I c), (V1203 I c), (V1206 I c), (V1213 I c), (V1216 I c), (V1223 I c), (V1226 I c), (V1233 I c), (V1234 I c), (V1235 I c), (Cst_816 I c)⟩))
      ⊢ wp frame (wpE (defs₀ (F := F)) 𝒱₀ (c : Thread nD τ) none) Set.univ (k0_part35 (Memref.whole cc0_stg0_0) h0 (Memref.whole cc0_stg1_0) h1 (Memref.whole cc0_stg2_0) h2 (Memref.whole cc0_stg3_0) h3 (Memref.whole cc0_stg4_0) h4 (Memref.whole cc0_stg5_0) h5 (Memref.whole cc0_scratch0) h6 cc0_scratch1 cc0_scratch2 c (V5 I c) (V190 I c) (V191 I c) (V192 I c) (V935 I c) (V938 I c) (V945 I c) (V948 I c) (V955 I c) (V958 I c) (V965 I c) (V968 I c) (V1186 I c) (V1188 I c) (V1190 I c) (V1192 I c)) Q := by
  rw [k0_part35_eq_skeleton]
  unfold k0_part35_skel
  simp only [Prog.lift, Prog.bind_op, Prog.bind_ret, Prog.pure_eq_ret]
  show iprop(records (F := F) (KV I) ∗ St (KV I) c 26 ∗ (St (KV I) c 26 -∗ Q ⟨k0_pay177 (V935 I c) (V1192 I c), k0_pay178 (V938 I c) (V1188 I c) (V1190 I c), k0_pay180 (V190 I c) (V945 I c) (V1186 I c), k0_pay181 (V190 I c) (V948 I c) (V1186 I c), k0_pay183 (V191 I c) (V955 I c) (V1186 I c), k0_pay184 (V191 I c) (V958 I c) (V1186 I c), k0_pay186 (V192 I c) (V965 I c) (V1186 I c), k0_pay187 (V192 I c) (V968 I c) (V1186 I c), k0_pay188 (K0 I (nb c 6)), k0_pay189 (K0 I (nb c 6)), k0_pay190 (K0 I (nb c 6)), (constant S256x256 .f32 0x00000000#32)⟩)) ⊢ _
  iintro ⟨#HR, HS, HK⟩
  iapply (step_load_0 I c 26 (5, 0) 6 rfl (by decide) (off5_6 c)) $$ HS
  iintro HS
  rw [wp_ret]
  imodintro
  iapply HK
  iexact HS

theorem wp_part36 {Q : (Σ' (v1240 : FVec F S256x1 .f32) (v1243 : FVec F S256x64 .f32) (v1250 : FVec F S256x1 .f32) (v1253 : FVec F S256x64 .f32) (v1260 : FVec F S256x1 .f32) (v1263 : FVec F S256x64 .f32) (v1270 : FVec F S256x1 .f32), FVec F S256x64 .f32) → sProp 𝕄} :
    Q ⟨(V1240 I c), (V1243 I c), (V1250 I c), (V1253 I c), (V1260 I c), (V1263 I c), (V1270 I c), (V1273 I c)⟩ ⊢ wp frame (wpE (defs₀ (F := F)) 𝒱₀ (c : Thread nD τ) none) Set.univ (k0_part36 (Memref.whole cc0_stg0_0) h0 (Memref.whole cc0_stg1_0) h1 (Memref.whole cc0_stg2_0) h2 (Memref.whole cc0_stg3_0) h3 (Memref.whole cc0_stg4_0) h4 (Memref.whole cc0_stg5_0) h5 (Memref.whole cc0_scratch0) h6 cc0_scratch1 cc0_scratch2 (V5 I c) (V160 I c) (V161 I c) (V162 I c) (V163 I c) (V1146 I c) (V1149 I c) (V1156 I c) (V1159 I c) (V1166 I c) (V1169 I c) (V1176 I c) (V1179 I c) (V1233 I c) (V1234 I c) (V1235 I c) (Cst_816 I c)) Q := by
  rw [k0_part36_eq_skeleton]
  unfold k0_part36_skel
  simp only [Prog.lift, Prog.bind_op, Prog.bind_ret, Prog.pure_eq_ret]
  show Q ⟨k0_pay192 (V160 I c) (V1146 I c) (V1234 I c) (Cst_816 I c), k0_pay193 (V160 I c) (V1149 I c) (V1234 I c) (V1235 I c) (Cst_816 I c), k0_pay195 (V161 I c) (V1156 I c) (V1233 I c), k0_pay196 (V161 I c) (V1159 I c) (V1233 I c), k0_pay198 (V162 I c) (V1166 I c) (V1233 I c), k0_pay199 (V162 I c) (V1169 I c) (V1233 I c), k0_pay201 (V163 I c) (V1176 I c) (V1233 I c), k0_pay202 (V163 I c) (V1179 I c) (V1233 I c)⟩ ⊢ _
  iintro HK
  rw [wp_ret]
  imodintro
  iexact HK

theorem wp_part37 {Q : (Σ' (v1287 : FVec F S256x1 .f32) (v1290 : FVec F S256x64 .f32) (v1297 : FVec F S256x1 .f32) (v1300 : FVec F S256x64 .f32) (v1307 : FVec F S256x1 .f32) (v1310 : FVec F S256x64 .f32) (v1317 : FVec F S256x1 .f32) (v1320 : FVec F S256x64 .f32) (v1321 : BitVec 32), BitVec 32) → sProp 𝕄} :
    iprop(records (F := F) (KV I) ∗ St (KV I) c 26 ∗ (St (KV I) c 26 -∗ Q ⟨(V1287 I c), (V1290 I c), (V1297 I c), (V1300 I c), (V1307 I c), (V1310 I c), (V1317 I c), (V1320 I c), (V1321 I c), (V1323 I c)⟩))
      ⊢ wp frame (wpE (defs₀ (F := F)) 𝒱₀ (c : Thread nD τ) none) Set.univ (k0_part37 (Memref.whole cc0_stg0_0) h0 (Memref.whole cc0_stg1_0) h1 (Memref.whole cc0_stg2_0) h2 (Memref.whole cc0_stg3_0) h3 (Memref.whole cc0_stg4_0) h4 (Memref.whole cc0_stg5_0) h5 (Memref.whole cc0_scratch0) h6 cc0_scratch1 cc0_scratch2 c (V5 I c) (V189 I c) (V190 I c) (V191 I c) (V192 I c) (V1193 I c) (V1196 I c) (V1203 I c) (V1206 I c) (V1213 I c) (V1216 I c) (V1223 I c) (V1226 I c)) Q := by
  rw [k0_part37_eq_skeleton]
  unfold k0_part37_skel
  simp only [Prog.lift, Prog.bind_op, Prog.bind_ret, Prog.pure_eq_ret]
  show iprop(records (F := F) (KV I) ∗ St (KV I) c 26 ∗ (St (KV I) c 26 -∗ Q ⟨k0_pay205 (V189 I c) (V1193 I c) (K1 I (nb c 6)), k0_pay206 (V189 I c) (V1196 I c) (K1 I (nb c 6)), k0_pay208 (V190 I c) (V1203 I c) (K1 I (nb c 6)), k0_pay209 (V190 I c) (V1206 I c) (K1 I (nb c 6)), k0_pay211 (V191 I c) (V1213 I c) (K1 I (nb c 6)), k0_pay212 (V191 I c) (V1216 I c) (K1 I (nb c 6)), k0_pay214 (V192 I c) (V1223 I c) (K1 I (nb c 6)), k0_pay215 (V192 I c) (V1226 I c) (K1 I (nb c 6)), (Scalar.xori (V5 I c) 5#32), (Scalar.andi (Scalar.shrsi (Scalar.xori (V5 I c) 5#32) 1#32) 1#32)⟩)) ⊢ _
  iintro ⟨#HR, HS, HK⟩
  iapply (step_load_1 I c 26 (5, 1) 6 rfl (by decide) (off6_6 c)) $$ HS
  iintro HS
  rw [wp_ret]
  imodintro
  iapply HK
  iexact HS

theorem wp_part38 {Q : (Σ' (v1334 : FVec F S256x1 .f32) (v1337 : FVec F S256x64 .f32) (v1344 : FVec F S256x1 .f32) (v1347 : FVec F S256x64 .f32) (v1354 : FVec F S256x1 .f32) (v1357 : FVec F S256x64 .f32) (v1364 : FVec F S256x1 .f32) (v1367 : FVec F S256x64 .f32), BitVec 32) → sProp 𝕄} :
    iprop(records (F := F) (KV I) ∗ St (KV I) c 26 ∗ (St (KV I) c 26 -∗ Q ⟨(V1334 I c), (V1337 I c), (V1344 I c), (V1347 I c), (V1354 I c), (V1357 I c), (V1364 I c), (V1367 I c), (C5_i32_864 I c)⟩))
      ⊢ wp frame (wpE (defs₀ (F := F)) 𝒱₀ (c : Thread nD τ) none) Set.univ (k0_part38 (Memref.whole cc0_stg0_0) h0 (Memref.whole cc0_stg1_0) h1 (Memref.whole cc0_stg2_0) h2 (Memref.whole cc0_stg3_0) h3 (Memref.whole cc0_stg4_0) h4 (Memref.whole cc0_stg5_0) h5 (Memref.whole cc0_scratch0) h6 cc0_scratch1 cc0_scratch2 c (V160 I c) (V161 I c) (V162 I c) (V163 I c) (V1240 I c) (V1243 I c) (V1250 I c) (V1253 I c) (V1260 I c) (V1263 I c) (V1270 I c) (V1273 I c) (V1321 I c) (V1323 I c)) Q := by
  rw [k0_part38_eq_skeleton]
  unfold k0_part38_skel
  simp only [Prog.lift, Prog.bind_op, Prog.bind_ret, Prog.pure_eq_ret]
  show iprop(records (F := F) (KV I) ∗ St (KV I) c 26 ∗ (St (KV I) c 26 -∗ Q ⟨k0_pay218 (V160 I c) (V1240 I c) (K0 I (nb c 5)), k0_pay219 (V160 I c) (V1243 I c) (K0 I (nb c 5)), k0_pay221 (V161 I c) (V1250 I c) (K0 I (nb c 5)), k0_pay222 (V161 I c) (V1253 I c) (K0 I (nb c 5)), k0_pay224 (V162 I c) (V1260 I c) (K0 I (nb c 5)), k0_pay225 (V162 I c) (V1263 I c) (K0 I (nb c 5)), k0_pay227 (V163 I c) (V1270 I c) (K0 I (nb c 5)), k0_pay228 (V163 I c) (V1273 I c) (K0 I (nb c 5)), 5#32⟩)) ⊢ _
  iintro ⟨#HR, HS, HK⟩
  iapply (step_load_0 I c 26 (4, 0) 5 rfl (by decide) (off5_5 c)) $$ HS
  iintro HS
  rw [wp_ret]
  imodintro
  iapply HK
  iexact HS

theorem wp_part39 {Q : (Σ' (v1381 : FVec F S256x1 .f32) (v1384 : FVec F S256x64 .f32) (v1391 : FVec F S256x1 .f32) (v1394 : FVec F S256x64 .f32) (v1401 : FVec F S256x1 .f32) (v1404 : FVec F S256x64 .f32) (v1406 : FVec F S256x64 .bf16) (v1408 : FVec F S256x256 .f32), FVec F S256x1 .f32) → sProp 𝕄} :
    iprop(records (F := F) (KV I) ∗ St (KV I) c 26 ∗ (St (KV I) c 26 -∗ Q ⟨(V1381 I c), (V1384 I c), (V1391 I c), (V1394 I c), (V1401 I c), (V1404 I c), (V1406 I c), (V1408 I c), (V1411 I c)⟩))
      ⊢ wp frame (wpE (defs₀ (F := F)) 𝒱₀ (c : Thread nD τ) none) Set.univ (k0_part39 (Memref.whole cc0_stg0_0) h0 (Memref.whole cc0_stg1_0) h1 (Memref.whole cc0_stg2_0) h2 (Memref.whole cc0_stg3_0) h3 (Memref.whole cc0_stg4_0) h4 (Memref.whole cc0_stg5_0) h5 (Memref.whole cc0_scratch0) h6 cc0_scratch1 cc0_scratch2 c (V5 I c) (V189 I c) (V190 I c) (V191 I c) (V192 I c) (V1287 I c) (V1290 I c) (V1297 I c) (V1300 I c) (V1307 I c) (V1310 I c) (V1317 I c) (C5_i32_864 I c)) Q := by
  rw [k0_part39_eq_skeleton]
  unfold k0_part39_skel
  simp only [Prog.lift, Prog.bind_op, Prog.bind_ret, Prog.pure_eq_ret]
  show iprop(records (F := F) (KV I) ∗ St (KV I) c 26 ∗ (St (KV I) c 26 -∗ Q ⟨k0_pay231 (V189 I c) (V1287 I c) (K1 I (nb c 5)), k0_pay232 (V189 I c) (V1290 I c) (K1 I (nb c 5)), k0_pay234 (V190 I c) (V1297 I c) (K1 I (nb c 5)), k0_pay235 (V190 I c) (V1300 I c) (K1 I (nb c 5)), k0_pay237 (V191 I c) (V1307 I c) (K1 I (nb c 5)), k0_pay238 (V191 I c) (V1310 I c) (K1 I (nb c 5)), k0_pay239 (K1 I (nb c 5)), k0_pay240 (V192 I c) (K1 I (nb c 5)), k0_pay241 (V192 I c) (V1317 I c) (K1 I (nb c 5))⟩)) ⊢ _
  iintro ⟨#HR, HS, HK⟩
  iapply (step_load_1 I c 26 (4, 1) 5 rfl (by decide) (off6_5 c)) $$ HS
  iintro HS
  rw [wp_ret]
  imodintro
  iapply HK
  iexact HS

theorem wp_part40 {Q : (Σ' (v1414 : FVec F S256x64 .f32) (v1441 : FVec F S256x512 .bf16), FVec F S256x64 .bf16) → sProp 𝕄} :
    iprop(records (F := F) (KV I) ∗ St (KV I) c 26 ∗ (St (KV I) c 27 -∗ Q ⟨(V1414 I c), (V1441 I c), (V1442 I c)⟩))
      ⊢ wp frame (wpE (defs₀ (F := F)) 𝒱₀ (c : Thread nD τ) none) Set.univ (k0_part40 (Memref.whole cc0_stg0_0) h0 (Memref.whole cc0_stg1_0) h1 (Memref.whole cc0_stg2_0) h2 (Memref.whole cc0_stg3_0) h3 (Memref.whole cc0_stg4_0) h4 (Memref.whole cc0_stg5_0) h5 (Memref.whole cc0_scratch0) h6 cc0_scratch1 cc0_scratch2 c (V5 I c) (V1320 I c) (V1406 I c) (V1408 I c)) Q := by
  rw [k0_part40_eq_skeleton]
  unfold k0_part40_skel
  simp only [Prog.lift, Prog.bind_op, Prog.bind_ret, Prog.pure_eq_ret]
  show iprop(records (F := F) (KV I) ∗ St (KV I) c 26 ∗ (St (KV I) c 27 -∗ Q ⟨k0_pay242 (V1320 I c) (V1406 I c) (V1408 I c), k0_pay243 (K0 I (nb c 7)), k0_pay244 (K0 I (nb c 7))⟩)) ⊢ _
  iintro ⟨#HR, HS, HK⟩
  iapply (step_recv (KV I) c 26 (6, 0) rfl (by decide) (by decide) (by decide) rfl) $$ [HS]
  · isplitr; iexact HR; iexact HS
  iintro HS
  iapply (step_load_0 I c 27 (6, 0) 7 rfl (by decide) (off5_7 c)) $$ HS
  iintro HS
  rw [wp_ret]
  imodintro
  iapply HK
  iexact HS

theorem wp_part41 {Q : (Σ' (v1478 : FVec F S256x1 .f32) (v1481 : FVec F S256x64 .f32) (v1484 : FVec F S256x64 .bf16) (v1487 : FVec F S256x64 .bf16), FVec F S256x64 .bf16) → sProp 𝕄} :
    Q ⟨(V1478 I c), (V1481 I c), (V1484 I c), (V1487 I c), (V1490 I c)⟩ ⊢ wp frame (wpE (defs₀ (F := F)) 𝒱₀ (c : Thread nD τ) none) Set.univ (k0_part41 (Memref.whole cc0_stg0_0) h0 (Memref.whole cc0_stg1_0) h1 (Memref.whole cc0_stg2_0) h2 (Memref.whole cc0_stg3_0) h3 (Memref.whole cc0_stg4_0) h4 (Memref.whole cc0_stg5_0) h5 (Memref.whole cc0_scratch0) h6 cc0_scratch1 cc0_scratch2 (V160 I c) (V161 I c) (V162 I c) (V163 I c) (V1334 I c) (V1337 I c) (V1344 I c) (V1347 I c) (V1354 I c) (V1357 I c) (V1364 I c) (V1367 I c) (V1441 I c) (V1442 I c)) Q := by
  rw [k0_part41_eq_skeleton]
  unfold k0_part41_skel
  simp only [Prog.lift, Prog.bind_op, Prog.bind_ret, Prog.pure_eq_ret]
  show Q ⟨k0_pay246 (V163 I c) (V1364 I c) (V1441 I c), k0_pay247 (V163 I c) (V1367 I c) (V1441 I c), k0_pay248 (V160 I c) (V1334 I c) (V1337 I c) (V1441 I c) (V1442 I c), k0_pay249 (V161 I c) (V1344 I c) (V1347 I c) (V1441 I c), k0_pay250 (V162 I c) (V1354 I c) (V1357 I c) (V1441 I c)⟩ ⊢ _
  iintro HK
  rw [wp_ret]
  imodintro
  iexact HK

theorem wp_part43 {Q : (Σ' (v1532 : FVec F S256x1 .f32) (v1535 : FVec F S256x64 .f32) (v1542 : FVec F S256x1 .f32) (v1545 : FVec F S256x64 .f32) (v1552 : FVec F S256x1 .f32) (v1555 : FVec F S256x64 .f32) (v1562 : FVec F S256x1 .f32), FVec F S256x64 .f32) → sProp 𝕄} :
    iprop(records (F := F) (KV I) ∗ St (KV I) c 28 ∗ (St (KV I) c 28 -∗ Q ⟨(V1532 I c), (V1535 I c), (V1542 I c), (V1545 I c), (V1552 I c), (V1555 I c), (V1562 I c), (V1565 I c)⟩))
      ⊢ wp frame (wpE (defs₀ (F := F)) 𝒱₀ (c : Thread nD τ) none) Set.univ (k0_part43 (Memref.whole cc0_stg0_0) h0 (Memref.whole cc0_stg1_0) h1 (Memref.whole cc0_stg2_0) h2 (Memref.whole cc0_stg3_0) h3 (Memref.whole cc0_stg4_0) h4 (Memref.whole cc0_stg5_0) h5 (Memref.whole cc0_scratch0) h6 cc0_scratch1 cc0_scratch2 c (V189 I c) (V190 I c) (V191 I c) (V192 I c) (V1381 I c) (V1384 I c) (V1391 I c) (V1394 I c) (V1401 I c) (V1404 I c) (V1411 I c) (V1414 I c) (V1519 I c) (V1520 I c) (C1_i32_947 I c)) Q := by
  rw [k0_part43_eq_skeleton]
  unfold k0_part43_skel
  simp only [Prog.lift, Prog.bind_op, Prog.bind_ret, Prog.pure_eq_ret]
  show iprop(records (F := F) (KV I) ∗ St (KV I) c 28 ∗ (St (KV I) c 28 -∗ Q ⟨k0_pay254 (V189 I c) (V1381 I c) (K1 I (nb c 7)), k0_pay255 (V189 I c) (V1384 I c) (K1 I (nb c 7)), k0_pay257 (V190 I c) (V1391 I c) (K1 I (nb c 7)), k0_pay258 (V190 I c) (V1394 I c) (K1 I (nb c 7)), k0_pay260 (V191 I c) (V1401 I c) (K1 I (nb c 7)), k0_pay261 (V191 I c) (V1404 I c) (K1 I (nb c 7)), k0_pay263 (V192 I c) (V1411 I c) (K1 I (nb c 7)), k0_pay264 (V192 I c) (V1414 I c) (K1 I (nb c 7))⟩)) ⊢ _
  iintro ⟨#HR, HS, HK⟩
  iapply (step_load_1 I c 28 (6, 1) 7 rfl (by decide) (off6_7 c)) $$ HS
  iintro HS
  rw [wp_ret]
  imodintro
  iapply HK
  iexact HS

theorem wp_part45 {Q : (PUnit) → sProp 𝕄} :
    iprop(records (F := F) (KV I) ∗ St (KV I) c 30 ∗ (St (KV I) c 33 -∗ Q ⟨⟩))
      ⊢ wp frame (wpE (defs₀ (F := F)) 𝒱₀ (c : Thread nD τ) none) Set.univ (k0_part45 (Memref.whole cc0_stg0_0) h0 (Memref.whole cc0_stg1_0) h1 (Memref.whole cc0_stg2_0) h2 (Memref.whole cc0_stg3_0) h3 (Memref.whole cc0_stg4_0) h4 (Memref.whole cc0_stg5_0) h5 (Memref.whole cc0_scratch0) h6 cc0_scratch1 cc0_scratch2 c) Q := by
  rw [k0_part45_eq_skeleton]
  unfold k0_part45_skel
  simp only [Prog.lift, Prog.bind_op, Prog.bind_ret, Prog.pure_eq_ret]
  show iprop(records (F := F) (KV I) ∗ St (KV I) c 30 ∗ (St (KV I) c 33 -∗ Q ⟨⟩)) ⊢ _
  iintro ⟨#HR, HS, HK⟩
  iapply (step_sent (KV I) c 30 (1, 0) rfl (by decide) (by decide) (by decide) (by decide) rfl) $$ [HS]
  · isplitr; iexact HR; iexact HS
  iintro HS
  iapply (step_sent (KV I) c 31 (3, 1) rfl (by decide) (by decide) (by decide) (by decide) rfl) $$ [HS]
  · isplitr; iexact HR; iexact HS
  iintro HS
  iapply (step_sent (KV I) c 32 (3, 0) rfl (by decide) (by decide) (by decide) (by decide) rfl) $$ [HS]
  · isplitr; iexact HR; iexact HS
  iintro HS
  rw [wp_ret]
  imodintro
  iapply HK
  iexact HS

theorem wp_part46 {Q : (PUnit) → sProp 𝕄} :
    iprop(records (F := F) (KV I) ∗ St (KV I) c 33 ∗ (St (KV I) c 36 -∗ Q ⟨⟩))
      ⊢ wp frame (wpE (defs₀ (F := F)) 𝒱₀ (c : Thread nD τ) none) Set.univ (k0_part46 (Memref.whole cc0_stg0_0) h0 (Memref.whole cc0_stg1_0) h1 (Memref.whole cc0_stg2_0) h2 (Memref.whole cc0_stg3_0) h3 (Memref.whole cc0_stg4_0) h4 (Memref.whole cc0_stg5_0) h5 (Memref.whole cc0_scratch0) h6 cc0_scratch1 cc0_scratch2 c) Q := by
  rw [k0_part46_eq_skeleton]
  unfold k0_part46_skel
  simp only [Prog.lift, Prog.bind_op, Prog.bind_ret, Prog.pure_eq_ret]
  show iprop(records (F := F) (KV I) ∗ St (KV I) c 33 ∗ (St (KV I) c 36 -∗ Q ⟨⟩)) ⊢ _
  iintro ⟨#HR, HS, HK⟩
  iapply (step_sent (KV I) c 33 (0, 1) rfl (by decide) (by decide) (by decide) (by decide) rfl) $$ [HS]
  · isplitr; iexact HR; iexact HS
  iintro HS
  iapply (step_sent (KV I) c 34 (2, 0) rfl (by decide) (by decide) (by decide) (by decide) rfl) $$ [HS]
  · isplitr; iexact HR; iexact HS
  iintro HS
  iapply (step_sent (KV I) c 35 (5, 1) rfl (by decide) (by decide) (by decide) (by decide) rfl) $$ [HS]
  · isplitr; iexact HR; iexact HS
  iintro HS
  rw [wp_ret]
  imodintro
  iapply HK
  iexact HS

theorem wp_part47 {Q : (PUnit) → sProp 𝕄} :
    iprop(records (F := F) (KV I) ∗ St (KV I) c 36 ∗ (St (KV I) c 40 -∗ Q ⟨⟩))
      ⊢ wp frame (wpE (defs₀ (F := F)) 𝒱₀ (c : Thread nD τ) none) Set.univ (k0_part47 (Memref.whole cc0_stg0_0) h0 (Memref.whole cc0_stg1_0) h1 (Memref.whole cc0_stg2_0) h2 (Memref.whole cc0_stg3_0) h3 (Memref.whole cc0_stg4_0) h4 (Memref.whole cc0_stg5_0) h5 (Memref.whole cc0_scratch0) h6 cc0_scratch1 cc0_scratch2 c) Q := by
  rw [k0_part47_eq_skeleton]
  unfold k0_part47_skel
  simp only [Prog.lift, Prog.bind_op, Prog.bind_ret, Prog.pure_eq_ret]
  show iprop(records (F := F) (KV I) ∗ St (KV I) c 36 ∗ (St (KV I) c 40 -∗ Q ⟨⟩)) ⊢ _
  iintro ⟨#HR, HS, HK⟩
  iapply (step_sent (KV I) c 36 (5, 0) rfl (by decide) (by decide) (by decide) (by decide) rfl) $$ [HS]
  · isplitr; iexact HR; iexact HS
  iintro HS
  iapply (step_sent (KV I) c 37 (4, 1) rfl (by decide) (by decide) (by decide) (by decide) rfl) $$ [HS]
  · isplitr; iexact HR; iexact HS
  iintro HS
  iapply (step_sent (KV I) c 38 (4, 0) rfl (by decide) (by decide) (by decide) (by decide) rfl) $$ [HS]
  · isplitr; iexact HR; iexact HS
  iintro HS
  iapply (step_sent (KV I) c 39 (2, 1) rfl (by decide) (by decide) (by decide) (by decide) rfl) $$ [HS]
  · isplitr; iexact HR; iexact HS
  iintro HS
  rw [wp_ret]
  imodintro
  iapply HK
  iexact HS

end Cert.KernelIdealRun

end
-- ==== Proof.KernelIdealRun.Body.lean ====
/-
The whole body: its parts in order, then the last two waits.
-/
module

public import proofs.«01_k».proof.Proof.KernelIdealRun.Parts0
public import proofs.«01_k».proof.Proof.KernelIdealRun.Parts1
public import proofs.«01_k».proof.Proof.KernelIdealRun.Parts2
public import proofs.«01_k».proof.Proof.KernelIdealRun.Parts3
public import proofs.«01_k».proof.Proof.KernelIdealRun.Parts4

@[expose] public section

set_option maxRecDepth 16384

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Inp F) (c : Dev nD)
variable (h0 : (Memref.whole cc0_stg0_0 : Memref sig .tc .vmem S2x256x768 .f32).IsWhole)
  (h1 : (Memref.whole cc0_stg1_0 : Memref sig .tc .vmem S768x256 .f32).IsWhole)
  (h2 : (Memref.whole cc0_stg2_0 : Memref sig .tc .vmem S768x256 .f32).IsWhole)
  (h3 : (Memref.whole cc0_stg3_0 : Memref sig .tc .vmem S768x256 .f32).IsWhole)
  (h4 : (Memref.whole cc0_stg4_0 : Memref sig .tc .vmem S256x768 .f32).IsWhole)
  (h5 : (Memref.whole cc0_stg5_0 : Memref sig .tc .vmem S2x256x768 .f32).IsWhole)
  (h6 : (Memref.whole cc0_scratch0 : Memref sig .tc .vmem S8x2x256x512 .bf16).IsWhole)

def outPts : sProp 𝕄 := ((c : Thread nD τ).loc cc0_stg5_0 ↦{fullShare} (OUT I c : (cc0_stg5_0 : Ref sig .tc).ty.Contents (Elt F)))

set_option maxHeartbeats 4000000 in
theorem wp_part48 {Q : Dev nD → sProp 𝕄} (g : (cc0_stg5_0 : Ref sig .tc).ty.Contents (Elt F)) :
    iprop(records (F := F) (KV I) ∗ Pre (F := F) c ∗ (∃ W, owes (c : Thread nD τ) (O₀ c) W) ∗ (∃ f : scr.ty.Contents (Elt F), ((c : Thread nD τ).loc scr ↦{fullShare} f))
        ∗ Ins I c ∗ ((c : Thread nD τ).loc cc0_stg5_0 ↦{fullShare} g)
        ∗ ((St (KV I) c 40 ∗ semVal (barCell c) 0 ∗ Ins I c ∗ outPts I c) -∗ Q c))
      ⊢ wp frame (wpE (defs₀ (F := F)) 𝒱₀ (c : Thread nD τ) none) Set.univ (k0_part48 (Memref.whole cc0_stg0_0) h0 (Memref.whole cc0_stg1_0) h1 (Memref.whole cc0_stg2_0) h2 (Memref.whole cc0_stg3_0) h3 (Memref.whole cc0_stg4_0) h4 (Memref.whole cc0_stg5_0) h5 (Memref.whole cc0_scratch0) h6 cc0_scratch1 cc0_scratch2) Q := by
  rw [k0_part48_eq_skeleton]
  unfold k0_part48_skel
  iintro ⟨#HR, HP, HO, Hf, Hi, Ho, HK⟩
  rw [wp_bind]
  iapply (wp_part1 I c h0 h1 h2 h3 h4 h5 h6) $$ [HP HO Hf Hi Ho HK]
  isplitr; · iexact HR
  isplitl [HP]; · iexact HP
  isplitl [HO]; · iexact HO
  isplitl [Hf]; · iexact Hf
  iintro ⟨HM, Hz, ⟨%f, Hf0, Hf1⟩⟩
  try dsimp only
  rw [wp_bind]
  iapply (wp_part2 I c h0 h1 h2 h3 h4 h5 h6)
  try dsimp only
  rw [wp_bind]
  iapply (wp_part3 I c h0 h1 h2 h3 h4 h5 h6)
  try dsimp only
  rw [wp_bind]
  iapply (wp_part4 I c h0 h1 h2 h3 h4 h5 h6)
  isplitl [Hi]; · iexact Hi
  iintro Hi
  try dsimp only
  rw [wp_bind]
  iapply (wp_part5 I c h0 h1 h2 h3 h4 h5 h6 f)
  isplitl [Hf0]; · iexact Hf0
  isplitl [Hf1]; · iexact Hf1
  isplitl [Hi]; · iexact Hi
  iintro %w ⟨Hf0, Hf1, Hi⟩
  try dsimp only
  rw [wp_bind]
  iapply (wp_part6 I c h0 h1 h2 h3 h4 h5 h6 f w)
  isplitl [HM]; · iexact HM
  isplitl [Hf0]; · iexact Hf0
  isplitl [Hf1]; · iexact Hf1
  isplitl [Hi]; · iexact Hi
  iintro ⟨HS, Hi⟩
  try dsimp only
  rw [wp_bind]
  iapply (wp_part7 I c h0 h1 h2 h3 h4 h5 h6)
  isplitr; · iexact HR
  isplitl [HS]; · iexact HS
  iintro HS
  try dsimp only
  rw [wp_bind]
  iapply (wp_part8 I c h0 h1 h2 h3 h4 h5 h6)
  isplitr; · iexact HR
  isplitl [HS]; · iexact HS
  iintro HS
  try dsimp only
  rw [wp_bind]
  iapply (wp_part9 I c h0 h1 h2 h3 h4 h5 h6)
  isplitr; · iexact HR
  isplitl [HS]; · iexact HS
  iintro HS
  try dsimp only
  rw [wp_bind]
  iapply (wp_part10 I c h0 h1 h2 h3 h4 h5 h6)
  isplitr; · iexact HR
  isplitl [HS]; · iexact HS
  iintro HS
  try dsimp only
  rw [wp_bind]
  iapply (wp_part11 I c h0 h1 h2 h3 h4 h5 h6)
  isplitr; · iexact HR
  isplitl [HS]; · iexact HS
  iintro HS
  try dsimp only
  rw [wp_bind]
  iapply (wp_part12 I c h0 h1 h2 h3 h4 h5 h6)
  try dsimp only
  rw [wp_bind]
  iapply (wp_part13 I c h0 h1 h2 h3 h4 h5 h6)
  isplitr; · iexact HR
  isplitl [HS]; · iexact HS
  iintro HS
  try dsimp only
  rw [wp_bind]
  iapply (wp_part14 I c h0 h1 h2 h3 h4 h5 h6)
  isplitr; · iexact HR
  isplitl [HS]; · iexact HS
  iintro HS
  try dsimp only
  rw [wp_bind]
  iapply (wp_part15 I c h0 h1 h2 h3 h4 h5 h6)
  isplitr; · iexact HR
  isplitl [HS]; · iexact HS
  iintro HS
  try dsimp only
  rw [wp_bind]
  iapply (wp_part16 I c h0 h1 h2 h3 h4 h5 h6)
  isplitr; · iexact HR
  isplitl [HS]; · iexact HS
  iintro HS
  try dsimp only
  rw [wp_bind]
  iapply (wp_part17 I c h0 h1 h2 h3 h4 h5 h6)
  isplitr; · iexact HR
  isplitl [HS]; · iexact HS
  iintro HS
  try dsimp only
  rw [wp_bind]
  iapply (wp_part18 I c h0 h1 h2 h3 h4 h5 h6)
  isplitr; · iexact HR
  isplitl [HS]; · iexact HS
  iintro HS
  try dsimp only
  rw [wp_bind]
  iapply (wp_part19 I c h0 h1 h2 h3 h4 h5 h6)
  isplitr; · iexact HR
  isplitl [HS]; · iexact HS
  iintro HS
  try dsimp only
  rw [wp_bind]
  iapply (wp_part20 I c h0 h1 h2 h3 h4 h5 h6)
  isplitr; · iexact HR
  isplitl [HS]; · iexact HS
  iintro HS
  try dsimp only
  rw [wp_bind]
  iapply (wp_part21 I c h0 h1 h2 h3 h4 h5 h6)
  isplitr; · iexact HR
  isplitl [HS]; · iexact HS
  iintro HS
  try dsimp only
  rw [wp_bind]
  iapply (wp_part22 I c h0 h1 h2 h3 h4 h5 h6)
  isplitr; · iexact HR
  isplitl [HS]; · iexact HS
  iintro HS
  try dsimp only
  rw [wp_bind]
  iapply (wp_part23 I c h0 h1 h2 h3 h4 h5 h6)
  isplitr; · iexact HR
  isplitl [HS]; · iexact HS
  iintro HS
  try dsimp only
  rw [wp_bind]
  iapply (wp_part24 I c h0 h1 h2 h3 h4 h5 h6)
  isplitr; · iexact HR
  isplitl [HS]; · iexact HS
  iintro HS
  try dsimp only
  rw [wp_bind]
  iapply (wp_part25 I c h0 h1 h2 h3 h4 h5 h6)
  isplitr; · iexact HR
  isplitl [HS]; · iexact HS
  iintro HS
  try dsimp only
  rw [wp_bind]
  iapply (wp_part26 I c h0 h1 h2 h3 h4 h5 h6)
  try dsimp only
  rw [wp_bind]
  iapply (wp_part27 I c h0 h1 h2 h3 h4 h5 h6)
  isplitr; · iexact HR
  isplitl [HS]; · iexact HS
  iintro HS
  try dsimp only
  rw [wp_bind]
  iapply (wp_part28 I c h0 h1 h2 h3 h4 h5 h6)
  isplitr; · iexact HR
  isplitl [HS]; · iexact HS
  iintro HS
  try dsimp only
  rw [wp_bind]
  iapply (wp_part29 I c h0 h1 h2 h3 h4 h5 h6)
  isplitr; · iexact HR
  isplitl [HS]; · iexact HS
  iintro HS
  try dsimp only
  rw [wp_bind]
  iapply (wp_part30 I c h0 h1 h2 h3 h4 h5 h6)
  isplitr; · iexact HR
  isplitl [HS]; · iexact HS
  iintro HS
  try dsimp only
  rw [wp_bind]
  iapply (wp_part31 I c h0 h1 h2 h3 h4 h5 h6)
  isplitr; · iexact HR
  isplitl [HS]; · iexact HS
  iintro HS
  try dsimp only
  rw [wp_bind]
  iapply (wp_part32 I c h0 h1 h2 h3 h4 h5 h6)
  isplitr; · iexact HR
  isplitl [HS]; · iexact HS
  iintro HS
  try dsimp only
  rw [wp_bind]
  iapply (wp_part33 I c h0 h1 h2 h3 h4 h5 h6)
  isplitr; · iexact HR
  isplitl [HS]; · iexact HS
  iintro HS
  try dsimp only
  rw [wp_bind]
  iapply (wp_part34 I c h0 h1 h2 h3 h4 h5 h6)
  isplitr; · iexact HR
  isplitl [HS]; · iexact HS
  iintro HS
  try dsimp only
  rw [wp_bind]
  iapply (wp_part35 I c h0 h1 h2 h3 h4 h5 h6)
  isplitr; · iexact HR
  isplitl [HS]; · iexact HS
  iintro HS
  try dsimp only
  rw [wp_bind]
  iapply (wp_part36 I c h0 h1 h2 h3 h4 h5 h6)
  try dsimp only
  rw [wp_bind]
  iapply (wp_part37 I c h0 h1 h2 h3 h4 h5 h6)
  isplitr; · iexact HR
  isplitl [HS]; · iexact HS
  iintro HS
  try dsimp only
  rw [wp_bind]
  iapply (wp_part38 I c h0 h1 h2 h3 h4 h5 h6)
  isplitr; · iexact HR
  isplitl [HS]; · iexact HS
  iintro HS
  try dsimp only
  rw [wp_bind]
  iapply (wp_part39 I c h0 h1 h2 h3 h4 h5 h6)
  isplitr; · iexact HR
  isplitl [HS]; · iexact HS
  iintro HS
  try dsimp only
  rw [wp_bind]
  iapply (wp_part40 I c h0 h1 h2 h3 h4 h5 h6)
  isplitr; · iexact HR
  isplitl [HS]; · iexact HS
  iintro HS
  try dsimp only
  rw [wp_bind]
  iapply (wp_part41 I c h0 h1 h2 h3 h4 h5 h6)
  try dsimp only
  rw [wp_bind]
  iapply (wp_part42 I c h0 h1 h2 h3 h4 h5 h6 g)
  isplitr; · iexact HR
  isplitl [HS]; · iexact HS
  isplitl [Ho]; · iexact Ho
  iintro ⟨HS, Ho⟩
  try dsimp only
  rw [wp_bind]
  iapply (wp_part43 I c h0 h1 h2 h3 h4 h5 h6)
  isplitr; · iexact HR
  isplitl [HS]; · iexact HS
  iintro HS
  try dsimp only
  rw [wp_bind]
  iapply (wp_part44 I c h0 h1 h2 h3 h4 h5 h6 _)
  isplitr; · iexact HR
  isplitl [HS]; · iexact HS
  isplitl [Ho]; · iexact Ho
  iintro ⟨HS, Ho⟩
  try dsimp only
  rw [wp_bind]
  iapply (wp_part45 I c h0 h1 h2 h3 h4 h5 h6)
  isplitr; · iexact HR
  isplitl [HS]; · iexact HS
  iintro HS
  try dsimp only
  rw [wp_bind]
  iapply (wp_part46 I c h0 h1 h2 h3 h4 h5 h6)
  isplitr; · iexact HR
  isplitl [HS]; · iexact HS
  iintro HS
  try dsimp only
  rw [wp_bind]
  iapply (wp_part47 I c h0 h1 h2 h3 h4 h5 h6)
  isplitr; · iexact HR
  isplitl [HS]; · iexact HS
  iintro HS
  try dsimp only
  rw [Prog.pure_eq_ret, wp_ret]
  imodintro
  iapply HK
  isplitl [HS]; · iexact HS
  isplitl [Hz]; · iexact Hz
  isplitl [Hi]; · iexact Hi
  unfold outPts
  rw [← out_eq I c g]
  iexact Ho

set_option maxHeartbeats 1000000 in
theorem wp_body {Q : PUnit → sProp 𝕄} (g : (cc0_stg5_0 : Ref sig .tc).ty.Contents (Elt F)) :
    iprop(records (F := F) (KV I) ∗ Pre (F := F) c ∗ (∃ W, owes (c : Thread nD τ) (O₀ c) W) ∗ (∃ f : scr.ty.Contents (Elt F), ((c : Thread nD τ).loc scr ↦{fullShare} f))
        ∗ Ins I c ∗ ((c : Thread nD τ).loc cc0_stg5_0 ↦{fullShare} g)
        ∗ ((((bigSep Finset.univ fun e => semVal (sendCell c e) 0) ∗ (bigSep Finset.univ fun e => semVal (recvCell c e) 0) ∗ semVal (barCell c) 0)
            ∗ ((c : Thread nD τ).loc scr ↦{fullShare} (KV I)) ∗ (∃ W, owes (c : Thread nD τ) 0 W) ∗ Ins I c ∗ outPts I c) -∗ Q ⟨⟩))
      ⊢ wp frame (wpE (defs₀ (F := F)) 𝒱₀ (c : Thread nD τ) none) Set.univ (cc0_body (Memref.whole cc0_stg0_0) h0 (Memref.whole cc0_stg1_0) h1 (Memref.whole cc0_stg2_0) h2 (Memref.whole cc0_stg3_0) h3 (Memref.whole cc0_stg4_0) h4 (Memref.whole cc0_stg5_0) h5 (Memref.whole cc0_scratch0) h6 cc0_scratch1 cc0_scratch2) Q := by
  rw [cc0_body_eq_skeleton]
  unfold cc0_body_skel
  iintro ⟨#HR, HP, HO, Hf, Hi, Ho, HK⟩
  rw [wp_bind]
  iapply (wp_part48 I c h0 h1 h2 h3 h4 h5 h6 g)
  isplitr; · iexact HR
  isplitl [HP]; · iexact HP
  isplitl [HO]; · iexact HO
  isplitl [Hf]; · iexact Hf
  isplitl [Hi]; · iexact Hi
  isplitl [Ho]; · iexact Ho
  iintro ⟨HS, Hz, Hi, Ho⟩
  simp only [Prog.lift, Prog.bind_op, Prog.bind_ret, Prog.pure_eq_ret]
  iapply (step_sent (KV I) c 40 (6, 0) rfl (by decide) (by decide) (by decide) (by decide) rfl) $$ [HS]
  · isplitr; iexact HR; iexact HS
  iintro HS
  iapply (step_sent (KV I) c 41 (6, 1) rfl (by decide) (by decide) (by decide) (by decide) rfl) $$ [HS]
  · isplitr; iexact HR; iexact HS
  iintro HS
  rw [wp_ret]
  imodintro
  iapply HK
  ihave HE := (St_end (KV I) c) $$ HS
  icases HE with ⟨H1, H2, H3, H4⟩
  isplitl [H1 H2 Hz]
  · isplitl [H1]; · iexact H1
    isplitl [H2] <;> iassumption
  isplitl [H3]; · iexact H3
  isplitl [H4]; · iexact H4
  isplitl [Hi] <;> iassumption

end Cert.KernelIdealRun

end
-- ==== Proof.KernelIdealRun.Launch.lean ====
/-
The launch: the cells and their tokens dealt out, what each device starts from, and the run of the whole program.
-/
module

public import proofs.«01_k».proof.Proof.KernelIdealRun.Body
public import proofs.«01_k».proof.Proof.Gen.KernelIdeal.Frame
public import Idealize.ShloMosaic.Lib.Pipeline.CollectiveSegs

@[expose] public section

set_option maxRecDepth 16384

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The inputs and the pipeline's data -/

/-- What device `c` reads from its argument arrays. -/
def inp (c : Dev nD) : Inp F :=
  ⟨(win0_0.blk (0 : Fin 1)).view.read (Elt F) (m ((c : Thread nD τ).loc main_arg0)), (win0_1.blk (0 : Fin 1)).view.read (Elt F) (m ((c : Thread nD τ).loc main_arg1)),
    (win0_2.blk (0 : Fin 1)).view.read (Elt F) (m ((c : Thread nD τ).loc main_arg2)), (win0_3.blk (0 : Fin 1)).view.read (Elt F) (m ((c : Thread nD τ).loc main_arg3)),
    (win0_4.blk (0 : Fin 1)).view.read (Elt F) (m ((c : Thread nD τ).loc main_arg4))⟩

def start (c : Dev nD) : sProp 𝕄 := iprop(records (F := F) (KV (inp m)) ∗ Pre (F := F) c)
def Φ₀ (c : Dev nD) : sProp 𝕄 := iprop(start m c ∗ ∃ f : scr.ty.Contents (Elt F), ((c : Thread nD τ).loc scr ↦{fullShare} f))
def Φ₁ (c : Dev nD) : sProp 𝕄 :=
  iprop(((bigSep Finset.univ fun e => semVal (sendCell c e) 0) ∗ (bigSep Finset.univ fun e => semVal (recvCell c e) 0) ∗ semVal (barCell c) 0)
    ∗ ((c : Thread nD τ).loc scr ↦{fullShare} (KV (inp m))))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (inp m c).x
    | ⟨1, _⟩ => (inp m c).wq
    | ⟨2, _⟩ => (inp m c).wk
    | ⟨3, _⟩ => (inp m c).wv
    | ⟨4, _⟩ => (inp m c).wo
    | ⟨5, _⟩ => OUT (inp m) c
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))

def bodyPost (c : Dev nD) : sProp 𝕄 :=
  iprop(Φ₁ m c ∗ (dats m ρ 0 c).owesAt () t0_0.succ ∗ stg c cc0_stg0_0 (inp m c).x ∗ stg c cc0_stg1_0 (inp m c).wq ∗ stg c cc0_stg2_0 (inp m c).wk
    ∗ stg c cc0_stg3_0 (inp m c).wv ∗ stg c cc0_stg4_0 (inp m c).wo ∗ stg c cc0_stg5_0 (OUT (inp m) c))

theorem before_0 (c : Dev nD) (d) : (dats m ρ 0 c).before (0 : Fin 6) t0_0 d = (inp m c).x := by unfold Dat.before; rw [if_pos (fetch0_0 t0_0)]; rfl
theorem before_1 (c : Dev nD) (d) : (dats m ρ 0 c).before (1 : Fin 6) t0_0 d = (inp m c).wq := by unfold Dat.before; rw [if_pos (fetch0_1 t0_0)]; rfl
theorem before_2 (c : Dev nD) (d) : (dats m ρ 0 c).before (2 : Fin 6) t0_0 d = (inp m c).wk := by unfold Dat.before; rw [if_pos (fetch0_2 t0_0)]; rfl
theorem before_3 (c : Dev nD) (d) : (dats m ρ 0 c).before (3 : Fin 6) t0_0 d = (inp m c).wv := by unfold Dat.before; rw [if_pos (fetch0_3 t0_0)]; rfl
theorem before_4 (c : Dev nD) (d) : (dats m ρ 0 c).before (4 : Fin 6) t0_0 d = (inp m c).wo := by unfold Dat.before; rw [if_pos (fetch0_4 t0_0)]; rfl

theorem sound_body (c : Dev nD) :
    bodyPre m ρ c ⊢ wp frame (wpE (defs₀ (F := F)) 𝒱₀ c none) Set.univ
      (cc0_body (Memref.whole cc0_stg0_0) (Memref.isWhole_whole _) (Memref.whole cc0_stg1_0) (Memref.isWhole_whole _) (Memref.whole cc0_stg2_0) (Memref.isWhole_whole _)
        (Memref.whole cc0_stg3_0) (Memref.isWhole_whole _) (Memref.whole cc0_stg4_0) (Memref.isWhole_whole _) (Memref.whole cc0_stg5_0) (Memref.isWhole_whole _)
        (Memref.whole cc0_scratch0) (Memref.isWhole_whole _) cc0_scratch1 cc0_scratch2) (fun _ => bodyPost m ρ c) := by
  unfold bodyPre Φ₀ start
  simp only [before_0, before_1, before_2, before_3, before_4]
  iintro ⟨⟨⟨#HR, HP⟩, Hf⟩, Hw, ⟨%d0, %g0, %hg0, Hx⟩, ⟨%d1, %g1, %hg1, Hq⟩, ⟨%d2, %g2, %hg2, Hk⟩, ⟨%d3, %g3, %hg3, Hv⟩, ⟨%d4, %g4, %hg4, Hwo⟩, ⟨%d5, %g5, %hg5, Ho⟩⟩
  subst hg0 hg1 hg2 hg3 hg4
  unfold Dat.owesAt Pipeline.owesWithin
  icases Hw with ⟨%W, %hW, HO⟩
  iapply (wp_body (inp m) c (Memref.isWhole_whole _) (Memref.isWhole_whole _) (Memref.isWhole_whole _) (Memref.isWhole_whole _) (Memref.isWhole_whole _) (Memref.isWhole_whole _) (Memref.isWhole_whole _) g5)
  isplitr; · iexact HR
  isplitl [HP]; · iexact HP
  isplitl [HO]; · iexists W; iexact HO
  isplitl [Hf]; · iexact Hf
  isplitl [Hx Hq Hk Hv Hwo]
  · unfold Ins
    isplitl [Hx]; · iexact Hx
    isplitl [Hq]; · iexact Hq
    isplitl [Hk]; · iexact Hk
    isplitl [Hv] <;> iassumption
  isplitl [Ho]; · iexact Ho
  unfold Ins outPts
  iintro ⟨Hz, Hs, ⟨%W', HO⟩, ⟨Hx, Hq, Hk, Hv, Hwo⟩, Ho⟩
  unfold bodyPost Φ₁ Dat.owesAt Pipeline.owesWithin
  isplitl [Hz Hs]
  · isplitl [Hz] <;> iassumption
  isplitl [HO]
  · iexists W'
    isplitr; · ipureintro; exact fun _ _ => Or.inl trivial
    iexact HO
  isplitl [Hx]
  · iexists _; isplitr; · (ipureintro; rfl)
    iexact Hx
  isplitl [Hq]
  · iexists _; isplitr; · (ipureintro; rfl)
    iexact Hq
  isplitl [Hk]
  · iexists _; isplitr; · (ipureintro; rfl)
    iexact Hk
  isplitl [Hv]
  · iexists _; isplitr; · (ipureintro; rfl)
    iexact Hv
  isplitl [Hwo]
  · iexists _; isplitr; · (ipureintro; rfl)
    iexact Hwo
  iexists _; isplitr; · (ipureintro; rfl)
  iexact Ho

omit [FloatOps F] in
theorem bigSep_W (Φ : Fin cfg0.W → sProp 𝕄) : bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

theorem body_obligation (c : Dev nD) : BodyObligation (dats (F := F) m ρ 0 c) (defs₀ (F := F)) 𝒱₀ () Set.univ := fun t => by
  rw [fin_N0 t]
  rw [bigSep_W, bigSep_W]
  simp only [owns_whole_eq]
  exact sound_body m ρ c

/-! ## The launch -/

def osem (x : Link × Bool) : SemLoc sig := csem (some x)
theorem ownSemFacts : Pipeline.OwnSemFacts cfg0.spec osem := by decide

theorem share_eq (c : Dev nD) (w : Fin cfg0.W) : (dats m ρ 0 c).share w = fullShare := by unfold Dat.share; split <;> rfl

theorem csem_inj : Function.Injective csem := by
  rintro (_ | ⟨e, _ | _⟩) (_ | ⟨e', _ | _⟩) h <;> first
    | rfl
    | cases h
    | (dsimp only [csem] at h; injection h with h; exact absurd h (send_ne_recv _ _))
    | (dsimp only [csem] at h; injection h with h; exact absurd h.symm (send_ne_recv _ _))
    | (dsimp only [csem] at h; injection h with h; rw [sendS_inj h])
    | (dsimp only [csem] at h; injection h with h; rw [recvS_inj h])

theorem kcell_injective : Function.Injective (kcell : Dev nD × CI → GSem nD τ sig) := by
  rintro ⟨c, k⟩ ⟨c', k'⟩ h
  have h1 : c = c' := by have := congrArg (fun g : GSem nD τ sig => g.1.1) h; exact this
  subst h1
  have : k = k' := csem_inj (congrArg Prod.snd h)
  subst this; rfl
def ringCells : Finset (GSem nD τ sig) := Finset.univ.map ⟨kcell, kcell_injective⟩

abbrev TI : Type := Fin 3 ⊕ (Link × Bool)
def tokOf (cj : Dev nD × TI) : GSem nD τ sig × ℕ × Fin 3 := match cj.2 with
  | .inl a => (barCell cj.1, 0, a)
  | .inr x => (kcell (cj.1, some x), 0, 0)
theorem tokOf_injective : Function.Injective tokOf := by
  rintro ⟨c, j⟩ ⟨c', j'⟩ h
  have h1 : c = c' := by
    have := congrArg (fun x : GSem nD τ sig × ℕ × Fin 3 => x.1.1.1) h
    rcases j with a | x <;> rcases j' with a' | x' <;> exact this
  subst h1
  have h2 := congrArg (fun x : GSem nD τ sig × ℕ × Fin 3 => x.1) h
  have h3 := congrArg (fun x : GSem nD τ sig × ℕ × Fin 3 => x.2.2) h
  rcases j with a | x <;> rcases j' with a' | x'
  · have : a = a' := h3
    rw [this]
  · have := kcell_injective (show kcell (c, none) = kcell (c, some x') from h2)
    cases this
  · have := kcell_injective (show kcell (c, some x) = kcell (c, none) from h2)
    cases this
  · have := kcell_injective (show kcell (c, some x) = kcell (c, some x') from h2)
    injection this with _ h4; injection h4 with h4; rw [h4]
def ringToks : Finset (GSem nD τ sig × ℕ × Fin 3) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((bigSep Finset.univ fun a : Fin 3 => dutyTok ER (barCell c) 0 a)
    ∗ (bigSep Finset.univ fun e : Link => dutyTok ER (sendCell c e) 0 0) ∗ (bigSep Finset.univ fun e : Link => dutyTok ER (recvCell c e) 0 0))

section Ghost
variable (kv : scr.ty.Contents (Elt F))

def G (c : Dev nD) : sProp 𝕄 :=
  iprop((bigSep Finset.univ fun k : CI => roundState ER (ringRd (F := F) kv) (kcell (c, k)) 0)
    ∗ (bigSep Finset.univ fun k : CI => iprop(atPos ER (kcell (c, k)) 0 ∅ 0 ∗ reached ER (kcell (c, k)) 0)) ∗ toks (F := F) c)

omit [FloatOps F] in
theorem bigSep_three (Φ : Fin 3 → sProp 𝕄) : bigSep Finset.univ Φ = iprop(Φ 0 ∗ Φ 1 ∗ Φ 2) := bigSep_univ_eq_bigSepL [0, 1, 2] (by decide) (by decide) Φ

omit [FloatOps F] in
theorem bigSep_pair (Φ : Link × Bool → sProp 𝕄) : bigSep Finset.univ Φ
    = iprop((bigSep Finset.univ fun e => Φ (e, false)) ∗ bigSep Finset.univ fun e => Φ (e, true)) := by
  rw [bigSep_univ_prod, ← bigSep_sep']
  exact bigSep_congr fun e _ => bigSep_univ_eq_bigSepL [false, true] (by decide) (by decide) _

omit [FloatOps F] in
theorem bigSep_CI (Φ : CI → sProp 𝕄) : bigSep Finset.univ Φ
    = iprop(Φ none ∗ (bigSep Finset.univ fun e => Φ (some (e, false))) ∗ bigSep Finset.univ fun e => Φ (some (e, true))) := by
  rw [← bigSep_pair (fun x => Φ (some x)), bigSep_erase (Finset.mem_univ (none : CI)),
    show Finset.univ.erase (none : CI) = Finset.univ.map ⟨some, Option.some_injective _⟩ by decide, bigSep_map]
  rfl

theorem fund_ring : BI.own (ER (initOf ringCells ringToks)) ⊢ (|==> bigSep Finset.univ (G (F := F) kv) : sProp 𝕄) := by
  have hX (Φ : GSem nD τ sig → sProp 𝕄) : bigSep ringCells Φ = bigSep Finset.univ fun c : Dev nD => bigSep Finset.univ fun k : CI => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks (F := F) c := by
    unfold ringToks; rw [bigSep_map, bigSep_univ_prod]
    refine bigSep_congr fun c _ => ?_
    unfold toks
    rw [bigSep_univ_sum]
    congr 1
    exact bigSep_pair _
  iintro HX
  imod (Rounds.fund ER (ringRd (F := F) kv) ringCells ringToks) $$ HX with ⟨Hst, Hr, Hat, Htok⟩
  imodintro
  ihave Hst' := (Entails.of_eq (hX fun g => roundState ER (ringRd (F := F) kv) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem ownSems0_eq (c : Dev nD) : (Pipeline.ownSems0 (Ix := Unit) (Name := ℕ) (U := UU) (Lvl := ℕ) (Val := Elt F) (τ := τ) osem c : sProp 𝕄)
    = iprop((bigSep Finset.univ fun e => semVal (sendCell c e) 0) ∗ bigSep Finset.univ fun e => semVal (recvCell c e) 0) := by
  unfold Pipeline.ownSems0
  exact bigSep_pair _

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CI => semVal (kcell (c, k)) 0 : sProp 𝕄) := by
  rw [ownSems0_eq, unscopedSems0_eq, bigSep_CI]
  iintro ⟨⟨HS, HV⟩, HB⟩
  isplitl [HB]; · iexact HB
  isplitl [HS]; · iexact HS
  iexact HV

theorem core_alloc (c : Dev nD) :
    iprop(Pipeline.ownSems0 (Ix := Unit) (Name := ℕ) (U := UU) (Lvl := ℕ) (Val := Elt F) (τ := τ) osem c ∗ unscopedSems0 c ∗ G (F := F) kv c)
      ⊢ |={Set.univ}=> iprop((bigSep Finset.univ fun k => iprop(∃ κ : ℕ, cellInv ER (ringRd (F := F) kv) κ (kcell (c, k))))
          ∗ (bigSep Finset.univ fun k => iprop(atPos ER (kcell (c, k)) 0 ∅ 0 ∗ reached ER (kcell (c, k)) 0)) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun k : CI => semVal (kcell (c, k)) 0) ∗ bigSep Finset.univ fun k : CI => roundState ER (ringRd (F := F) kv) (kcell (c, k)) 0)
      ⊢ (|={Set.univ}=> bigSep Finset.univ fun k => iprop(∃ κ : ℕ, cellInv ER (ringRd (F := F) kv) κ (kcell (c, k))) : sProp 𝕄) from by
        rw [← bigSep_sep']
        exact (bigSep_mono fun k _ => (Rounds.body_intro ER (ringRd (F := F) kv) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens of the duties device `c` pays. -/
def payToks (c : Dev nD) : sProp 𝕄 :=
  iprop((bigSep Finset.univ fun a : Fin 3 => dutyTok ER (barCell (nbr a c)) 0 a)
    ∗ (bigSep Finset.univ fun e : Link => dutyTok ER (sendCell c e) 0 0) ∗ (bigSep Finset.univ fun e : Link => dutyTok ER (recvCell (nbr (axis e) c) e) 0 0))

def nbrE (a : Fin 3) : Dev nD ≃ Dev nD := ⟨nbr a, nbr a, nbr_nbr a, nbr_nbr a⟩

omit [FloatOps F] in
theorem swap_sep {X Y : Type} [Fintype X] [Fintype Y] (Φ : X → Y → sProp 𝕄) :
    (bigSep Finset.univ fun x => bigSep Finset.univ fun y => Φ x y) = bigSep Finset.univ fun y => bigSep Finset.univ fun x => Φ x y := by
  rw [← bigSep_univ_prod (fun p : X × Y => Φ p.1 p.2), bigSep_univ_equiv (Equiv.prodComm Y X) (fun p : X × Y => Φ p.1 p.2), bigSep_univ_prod]
  rfl

omit [FloatOps F] in
theorem deal {X : Type} [Fintype X] [DecidableEq X] (f : X → Fin 3) (Φ : Dev nD → X → sProp 𝕄) :
    (bigSep Finset.univ fun c : Dev nD => bigSep Finset.univ fun x => Φ c x) = bigSep Finset.univ fun c : Dev nD => bigSep Finset.univ fun x => Φ (nbr (f x) c) x := by
  rw [swap_sep, swap_sep (fun (c : Dev nD) x => Φ (nbr (f x) c) x)]
  exact bigSep_congr fun x _ => bigSep_univ_equiv (nbrE (f x)) (fun c => Φ c x)

omit [FloatOps F] in
theorem toks_around : (bigSep Finset.univ fun c : Dev nD => (toks (F := F) c)) = bigSep Finset.univ fun c : Dev nD => payToks (F := F) c := by
  unfold toks payToks
  rw [bigSep_sep', bigSep_sep', bigSep_sep', bigSep_sep',
    deal (fun a : Fin 3 => a) (fun (c : Dev nD) a => (dutyTok ER (barCell c) 0 a : sProp 𝕄)),
    deal axis (fun (c : Dev nD) e => (dutyTok ER (recvCell c e) 0 0 : sProp 𝕄))]

/-- What the global step leaves with each device: the records without levels, its positions, its tokens. -/
def G' (c : Dev nD) : sProp 𝕄 :=
  iprop(((bigSep Finset.univ fun ck : Dev nD × CI => iprop(∃ κ : ℕ, cellInv ER (ringRd (F := F) kv) κ (kcell ck)))
      ∗ bigSep Finset.univ fun ck : Dev nD × CI => reached ER (kcell ck) 0)
    ∗ (bigSep Finset.univ fun k : CI => atPos ER (kcell (c, k)) 0 ∅ 0) ∗ payToks (F := F) c)

theorem regroup :
    (bigSep Finset.univ fun c : Dev nD => iprop((bigSep Finset.univ fun k => iprop(∃ κ : ℕ, cellInv ER (ringRd (F := F) kv) κ (kcell (c, k))))
          ∗ (bigSep Finset.univ fun k => iprop(atPos ER (kcell (c, k)) 0 ∅ 0 ∗ reached ER (kcell (c, k)) 0)) ∗ toks (F := F) c) : sProp 𝕄)
      ⊢ bigSep Finset.univ (G' (F := F) kv) := by
  rw [bigSep_sep', bigSep_sep', ← bigSep_univ_prod (fun ck : Dev nD × CI => iprop(∃ κ : ℕ, cellInv ER (ringRd (F := F) kv) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄)), toks_around]
  iintro ⟨#HI, ⟨Hat, #HR⟩, Htok⟩
  unfold G'
  rw [bigSep_sep', bigSep_sep' Finset.univ (fun c : Dev nD => bigSep Finset.univ fun k : CI => atPos ER (kcell (c, k)) 0 ∅ 0) (fun c => payToks (F := F) c)]
  isplitr
  · iapply (BI.bigSep_of_persistent (Finset.univ : Finset (Dev nD)) iprop((bigSep Finset.univ fun ck : Dev nD × CI => iprop(∃ κ : ℕ, cellInv ER (ringRd (F := F) kv) κ (kcell ck)))
      ∗ bigSep Finset.univ fun ck : Dev nD × CI => reached ER (kcell ck) 0))
    isplitr; · iexact HI
    iexact HR
  isplitl [Hat]; · iexact Hat
  iexact Htok

theorem glob : (bigSep Finset.univ fun c => iprop(Pipeline.ownSems0 (Ix := Unit) (Name := ℕ) (U := UU) (Lvl := ℕ) (Val := Elt F) (τ := τ) osem c ∗ unscopedSems0 c ∗ G (F := F) kv c) : sProp 𝕄)
    ⊢ |={Set.univ}=> bigSep Finset.univ (G' (F := F) kv) :=
  ((bigSep_mono fun c _ => core_alloc kv c).trans (bigSep_fupd _ _)).trans (BI.fupd_mono (regroup kv))

/-! ### The launch credit -/

omit [FloatOps F] in
theorem sum_tally {I : Type} [DecidableEq I] (S : Finset I) (f : I → CellTallies nD τ sig Unit) (g : GSem nD τ sig) (u : Unit) :
    (∑ e ∈ S, f e) g u = ∑ e ∈ S, f e g u := by
  induction S using Finset.induction_on with
  | empty => rfl
  | insert a S ha ih => rw [Finset.sum_insert ha, Finset.sum_insert ha, Pi.add_apply, Finsupp.add_apply, ih]

omit [FloatOps F] in
theorem kcell_iff {ck ck' : Dev nD × CI} : kcell ck = kcell ck' ↔ ck = ck' := ⟨fun h => kcell_injective h, fun h => h ▸ rfl⟩

omit [FloatOps F] in
theorem owed_at (d : Dev nD) (g : GSem nD τ sig) : owed d 0 g () = ∑ e : Link, if g = recvCell (nbr (axis e) d) e then N else 0 := by
  unfold owed
  rw [show (Finset.univ.filter fun e : Link => Op.snd e ∉ done 0) = Finset.univ from Finset.filter_true_of_mem fun e _ => by simp [done], sum_tally]
  refine Finset.sum_congr rfl fun e _ => ?_
  rw [tallyAt_apply]
  by_cases h : g = recvCell (nbr (axis e) d) e
  · rw [if_pos ⟨h, rfl⟩, if_pos h]
  · rw [if_neg (fun h' => h h'.1), if_neg h]

omit [FloatOps F] in
theorem bar_at (d : Dev nD) (a : Fin 3) (g : GSem nD τ sig) : (tallyAt (barCell (nbr a d)) () 1 : CellTallies nD τ sig Unit) g () = if g = barCell (nbr a d) then 1 else 0 := by
  rw [tallyAt_apply]
  by_cases h : g = barCell (nbr a d)
  · rw [if_pos ⟨h, rfl⟩, if_pos h]
  · rw [if_neg (fun h' => h h'.1), if_neg h]

omit [FloatOps F] in
theorem O₀_at (d : Dev nD) (g : GSem nD τ sig) : O₀ d g () = (∑ e : Link, if g = recvCell (nbr (axis e) d) e then N else 0)
    + (if g = barCell (nbr 2 d) then 1 else 0) + (if g = barCell (nbr 1 d) then 1 else 0) + (if g = barCell (nbr 0 d) then 1 else 0) := by
  unfold O₀
  rw [Pi.add_apply, Finsupp.add_apply, Pi.add_apply, Finsupp.add_apply, Pi.add_apply, Finsupp.add_apply, owed_at, bar_at, bar_at, bar_at]

omit [FloatOps F] in
theorem one_nbr (a : Fin 3) (c : Dev nD) (k : ℕ) : (∑ d : Dev nD, if c = nbr a d then k else 0) = k := by
  rw [Finset.sum_eq_single (nbr a c) (fun d _ hd => if_neg (fun h => hd (by rw [h, nbr_nbr]))) (fun h => absurd (Finset.mem_univ _) h), nbr_nbr, if_pos rfl]

omit [FloatOps F] in
theorem bar_if (c d : Dev nD) : (barCell c = barCell d) ↔ c = d :=
  (kcell_iff (ck := (c, none)) (ck' := (d, none))).trans ⟨fun h => congrArg Prod.fst h, fun h => h ▸ rfl⟩
omit [FloatOps F] in
theorem recv_if (c d : Dev nD) (e e' : Link) : (recvCell c e = recvCell d e') ↔ c = d ∧ e = e' :=
  (kcell_iff (ck := (c, some (e, true))) (ck' := (d, some (e', true)))).trans
    ⟨fun h => by injection h with h1 h2; injection h2 with h2; injection h2 with h2; exact ⟨h1, h2⟩, fun ⟨h1, h2⟩ => by rw [h1, h2]⟩
omit [FloatOps F] in
theorem bar_ne_recv (c d : Dev nD) (e : Link) : barCell c ≠ recvCell d e := fun h => absurd (kcell_injective (show kcell (c, none) = kcell (d, some (e, true)) from h)) (by intro h; cases h)

omit [FloatOps F] in
theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same]
  simp only [O₀_at, bar_if, if_neg (bar_ne_recv c _ _), Finset.sum_const_zero, Nat.zero_add, Finset.sum_add_distrib, one_nbr]

omit [FloatOps F] in
theorem launch_recv (c : Dev nD) (e : Link) :
    tallyOn (recvCell c e) (launchCredit (Pipeline.owing O₀) 0 (recvCell c e)) = (tallyAt (recvCell c e) () N : CellTallies nD τ sig Unit) := by
  unfold tallyAt; refine congrArg _ (Finsupp.ext fun u => ?_); cases u
  rw [Pipeline.launchCredit_owing, Finsupp.single_eq_same]
  simp only [O₀_at, recv_if, if_neg (bar_ne_recv _ c e).symm, Nat.add_zero]
  rw [Finset.sum_comm, Finset.sum_eq_single e (fun e' _ he => Finset.sum_eq_zero fun d _ => if_neg (fun h => he h.2.symm)) (fun h => absurd (Finset.mem_univ _) h)]
  simp only [and_true, one_nbr]

omit [FloatOps F] in
theorem creds (c : Dev nD) :
    (Pipeline.launchCred O₀ c : sProp 𝕄) ⊢ iprop(cred (tallyAt (barCell c) () 3) ∗ bigSep Finset.univ fun e : Link => cred (tallyAt (recvCell c e) () N)) := by
  unfold Pipeline.launchCred
  rw [bigSep_univ_at _ (SemLoc.reg barS), launch_bar]
  refine sep_mono_right ?_
  refine (bigSep_subset (t := Finset.univ.map ⟨fun e : Link => (SemLoc.dma (recvS e) : SemLoc sig), fun e e' h => by injection h with h; exact recvS_inj h⟩) (fun x hx => ?_)).trans ?_
  · obtain ⟨e, -, rfl⟩ := Finset.mem_map.mp hx
    exact Finset.mem_erase.mpr ⟨dma_ne_bar _, Finset.mem_univ _⟩
  · rw [bigSep_map]
    exact bigSep_mono fun e _ => Entails.of_eq (congrArg cred (launch_recv c e))

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (F := F) (KV (inp m)) c)
      ⊢ |={Set.univ}=> iprop(start m c ∗ emp) := by
  iintro ⟨-, #Hlev, Hcr, -, HG⟩
  ihave Hc := (creds (F := F) c) $$ Hcr
  icases Hc with ⟨H1, HN⟩
  unfold G' payToks
  icases HG with ⟨⟨#HI, #HR⟩, Hat, Hb, Hs, Hr⟩
  ihave Hat := (Entails.of_eq (bigSep_CI _)) $$ Hat
  icases Hat with ⟨Ha, Has, Har⟩
  ihave Hb := (Entails.of_eq (bigSep_three _)) $$ Hb
  imodintro
  unfold start records Pre sendTok recvTok
  isplitl
  · isplitr
    · isplitr; · iexact HI
      isplitr; · iexact HR
      iexact Hlev
    isplitl [Ha]; · iexact Ha
    isplitl [H1]; · iexact H1
    isplitl [Hb]; · iexact Hb
    rw [bigSep_sep', bigSep_sep', bigSep_sep']
    isplitl [Has Hs Hr]
    · isplitl [Has]; · iexact Has
      isplitl [Hs] <;> iassumption
    isplitl [Har]; · iexact Har
    iexact HN
  · iempintro

end Ghost

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, ⟨%f, Hr⟩⟩
  isplitl [Hs]; · iexact Hs
  iexists f; iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m c from rfl, scopedRest0_eq, ownSems0_eq, unscopedSems0_eq]
  unfold Φ₁
  iintro ⟨⟨HzS, HzV, HzB⟩, Hr⟩
  isplitl [HzB]; · iexact HzB
  isplitl [HzS HzV]
  · isplitl [HzS] <;> iassumption
  iexists (KV (inp m)); iexact Hr

omit [FloatOps F] in
theorem O₀_pos {c : Dev nD} {g : GSem nD τ sig} {u : Unit} (h : 0 < O₀ c g u) : ∃ d, (∃ e, g = recvCell d e) ∨ g = barCell d := by
  unfold O₀ at h
  rw [Pi.add_apply, Finsupp.add_apply, Pi.add_apply, Finsupp.add_apply, Pi.add_apply, Finsupp.add_apply] at h
  rcases Nat.eq_zero_or_pos (owed c 0 g u) with h0 | h0
  · rcases Nat.eq_zero_or_pos ((tallyAt (barCell (nbr 2 c)) () 1 : CellTallies nD τ sig Unit) g u) with h1 | h1
    · rcases Nat.eq_zero_or_pos ((tallyAt (barCell (nbr 1 c)) () 1 : CellTallies nD τ sig Unit) g u) with h2 | h2
      · rw [h0, h1, h2] at h
        rw [Nat.zero_add] at h
        exact ⟨_, .inr (tally_pos h)⟩
      · exact ⟨_, .inr (tally_pos h2)⟩
    · exact ⟨_, .inr (tally_pos h1)⟩
  · obtain ⟨e, _, he⟩ := owed_pos h0
    exact ⟨_, .inl ⟨e, he⟩⟩

omit [FloatOps F] in
theorem mayWait_stage (c : Dev nD) (q : DmaSem sig) (hq : asRecv (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by obtain ⟨d, ⟨e, rfl⟩ | rfl⟩ := O₀_pos hg <;> exact Finset.mem_singleton_self _)
      (fun p hp => by rw [Finset.mem_singleton.mp hp]; dsimp only [lv]; rw [if_neg (dma_ne_bar _), hq])
      (fun g u hg => by
        obtain ⟨d, ⟨e, rfl⟩ | rfl⟩ := O₀_pos hg
        · rw [lv_recv]; omega
        · rw [lv_bar]; decide)
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- Every weakly fair execution of the whole program terminates, with every array at the computed contents and every
    semaphore's counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (KV (inp m))) (G' := G' (KV (inp m))) (u₀ := u₀)
    (hu₀ := by
      unfold u₀
      iintro Hu
      ihave H := (ownU_pair _ _) $$ Hu
      icases H with ⟨HP, HX⟩
      imod (fund_ring (KV (inp m))) $$ HX with HG
      imodintro
      isplitl [HP] <;> iassumption)
    (hglob := glob (KV (inp m)))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdealRun

end
-- ==== Proof.KernelIdealRun.Run.lean ====
/-
The run of the whole program, its arrays read as the arguments and the result.
-/
module

public import proofs.«01_k».proof.Proof.KernelIdealRun.Launch
public import Idealize.ShloMosaic.Lib.Pipeline.Value

@[expose] public section

set_option maxRecDepth 16384

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- Device `c`'s argument arrays. -/
def args (c : Dev nD) : Inp F :=
  ⟨m ((c : Thread nD τ).loc main_arg0), m ((c : Thread nD τ).loc main_arg1), m ((c : Thread nD τ).loc main_arg2), m ((c : Thread nD τ).loc main_arg3), m ((c : Thread nD τ).loc main_arg4)⟩

omit [FloatOps F] in
theorem blk_0 (f : main_arg0.ty.Contents (Elt F)) : (win0_0.blk (0 : Fin 1)).view.read (Elt F) f = f :=
  Memref.read_access_unit_zero (Elt F) main_arg0 (funext fun a => by fin_cases a <;> decide) (fun a => by fin_cases a <;> decide) f
omit [FloatOps F] in
theorem blk_1 (f : main_arg1.ty.Contents (Elt F)) : (win0_1.blk (0 : Fin 1)).view.read (Elt F) f = f :=
  Memref.read_access_unit_zero (Elt F) main_arg1 (funext fun a => by fin_cases a <;> decide) (fun a => by fin_cases a <;> decide) f
omit [FloatOps F] in
theorem blk_2 (f : main_arg2.ty.Contents (Elt F)) : (win0_2.blk (0 : Fin 1)).view.read (Elt F) f = f :=
  Memref.read_access_unit_zero (Elt F) main_arg2 (funext fun a => by fin_cases a <;> decide) (fun a => by fin_cases a <;> decide) f
omit [FloatOps F] in
theorem blk_3 (f : main_arg3.ty.Contents (Elt F)) : (win0_3.blk (0 : Fin 1)).view.read (Elt F) f = f :=
  Memref.read_access_unit_zero (Elt F) main_arg3 (funext fun a => by fin_cases a <;> decide) (fun a => by fin_cases a <;> decide) f
omit [FloatOps F] in
theorem blk_4 (f : main_arg4.ty.Contents (Elt F)) : (win0_4.blk (0 : Fin 1)).view.read (Elt F) f = f :=
  Memref.read_access_unit_zero (Elt F) main_arg4 (funext fun a => by fin_cases a <;> decide) (fun a => by fin_cases a <;> decide) f
omit [FloatOps F] in
theorem blk_5 (f : main_v1.ty.Contents (Elt F)) : (win0_5.blk (0 : Fin 1)).view.read (Elt F) f = f :=
  Memref.read_access_unit_zero (Elt F) main_v1 (funext fun a => by fin_cases a <;> decide) (fun a => by fin_cases a <;> decide) f

omit [FloatOps F] in
theorem inp_eq : inp m = args m := by
  funext c
  unfold inp args
  rw [blk_0, blk_1, blk_2, blk_3, blk_4]

theorem final_0 (c : Dev nD) : finalA m ρ c (0 : Fin 6) = m ((c : Thread nD τ).loc main_arg0) := (dats (F := F) m ρ 0 c).arrAt_in (0 : Fin 6) rfl _
theorem final_1 (c : Dev nD) : finalA m ρ c (1 : Fin 6) = m ((c : Thread nD τ).loc main_arg1) := (dats (F := F) m ρ 0 c).arrAt_in (1 : Fin 6) rfl _
theorem final_2 (c : Dev nD) : finalA m ρ c (2 : Fin 6) = m ((c : Thread nD τ).loc main_arg2) := (dats (F := F) m ρ 0 c).arrAt_in (2 : Fin 6) rfl _
theorem final_3 (c : Dev nD) : finalA m ρ c (3 : Fin 6) = m ((c : Thread nD τ).loc main_arg3) := (dats (F := F) m ρ 0 c).arrAt_in (3 : Fin 6) rfl _
theorem final_4 (c : Dev nD) : finalA m ρ c (4 : Fin 6) = m ((c : Thread nD τ).loc main_arg4) := (dats (F := F) m ρ 0 c).arrAt_in (4 : Fin 6) rfl _

theorem final_5 (c : Dev nD) : finalA m ρ c (5 : Fin 6) = OUT (args m) c := by
  have h : (win0_5.blk (0 : Fin 1)).view.read (Elt F) (finalA m ρ c (5 : Fin 6)) = OUT (inp m) c := by
    unfold finalA
    rw [show cfg0.N = ((0 : Fin 1) : Fin cfg0.N).val + 1 from rfl, (dats m ρ 0 c).arrAt_succ (5 : Fin 6) (0 : Fin 1)]
    rw [show (cfg0.win (5 : Fin 6)).flush (0 : Fin 1) = true from by decide, if_pos rfl]
    exact View.read_write_univ _ _
  rw [inp_eq] at h
  exact (blk_5 _).symm.trans h

/-- The run: each device's result at its computed value, the arguments unchanged, every counter at zero. -/
theorem run_values : θ_run defs (onTc (τ := τ) (main (F := F))) ⟨m, fun _ => 0, ρ⟩ (fun r => (∀ c : Dev nD,
      r.2.mem ((c.tc : Thread nD τ).loc main_v1) = OUT (args m) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c (5 : Fin 6)).trans (final_5 m ρ c), (h.1 c (0 : Fin 6)).trans (final_0 m ρ c), (h.1 c (1 : Fin 6)).trans (final_1 m ρ c),
      (h.1 c (2 : Fin 6)).trans (final_2 m ρ c), (h.1 c (3 : Fin 6)).trans (final_3 m ρ c), (h.1 c (4 : Fin 6)).trans (final_4 m ρ c)⟩, h.2⟩) (run_main m ρ)

end Cert.KernelIdealRun

end
-- ==== Proof.Frames.lean ====
/-
The frames of the three programs, from their runs.
-/
module

public import proofs.«01_k».proof.Defs
public import proofs.«01_k».proof.Proof.KernelRun.Run
public import proofs.«01_k».proof.Proof.KernelIdealRun.Run
public import proofs.«01_k».proof.Proof.Gen.ReferenceIdeal.Run

@[expose] public section

noncomputable section

namespace Cert.Proof

open Idealize.ShloMosaic Idealize.SL.Sem

theorem frame_kernel : Cert.quiescent_Kernel := by
  intro m ρ _
  exact (θ_run Cert.Kernel.defs _ _).mono (fun _ h => ⟨fun c => (h.1 c).2, h.2⟩) (Cert.KernelRun.run_values (F := Bits) m ρ)

theorem run_ideal (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  (θ_run Cert.KernelIdeal.defs _ _).mono (fun _ h => ⟨fun c => (h.1 c).2, h.2⟩) (Cert.KernelIdealRun.run_values (F := Ideal) m ρ)

theorem frame_ideal : Cert.quiescent_KernelIdeal := fun m ρ _ => run_ideal m ρ

theorem run_reference (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m ρ)

theorem frame_reference : Cert.quiescent_ReferenceIdeal := fun m ρ _ => run_reference m ρ

end Cert.Proof

end
-- ==== Proof.Value.Math.lean ====
/-
The mathematics of the value claim: the rotation, the scores and the softmax over the extended reals.
-/
module

public import Idealize.ShloMosaic.Lib.Pointwise
public import Mathlib.Analysis.SpecialFunctions.Pow.Real

@[expose] public section

noncomputable section

namespace Cert.Val

open Idealize.ShloMosaic
open scoped BigOperators

/-! ### Literals -/

theorem bits_ten4 : Ideal.ofBits .f32 0x461C4000#32 = ((10000 : ℝ) : EReal) := by
  simp [Ideal.ofBits, Ideal.ieee, -EReal.coe_mul]; norm_num

theorem bits_64 : Ideal.ofBits .f32 0x42800000#32 = ((64 : ℝ) : EReal) := by
  simp [Ideal.ofBits, Ideal.ieee, -EReal.coe_mul]; norm_num

theorem bits_eighth : Ideal.ofBits .f32 0x3E000000#32 = ((1 / 8 : ℝ) : EReal) := by
  simp [Ideal.ofBits, Ideal.ieee, -EReal.coe_mul]; norm_num

theorem bits_inf : Ideal.ofBits .f32 0x7F800000#32 = (⊤ : EReal) := by
  simp [Ideal.ofBits, Ideal.ieee]

theorem bits_ninf : Ideal.ofBits .f32 0xFF800000#32 = (⊥ : EReal) := by
  simp [Ideal.ofBits, Ideal.ieee]

/-! ### The functions -/

/-- The angle of position `i` and pair of lanes `p`. -/
def ang (i p : ℕ) : ℝ := i * Real.exp (-(Real.log 10000 / 64) * (2 * p))

/-- A projection of the activations. -/
def pr (X : Fin 2 → Fin 2048 → Fin 768 → EReal) (w : Fin 768 → Fin 256 → EReal) (b : Fin 2) (i : Fin 2048) (e : Fin 256) : EReal :=
  ∑ k, X b i k * w k e

/-- A row with each pair of lanes turned a quarter. -/
def quarter (P : Fin 256 → EReal) (e : Fin 256) : EReal :=
  if e.val % 2 < 1 then -P ⟨e.val / 2 * 2 + 1, by omega⟩ else P ⟨e.val / 2 * 2, by omega⟩

/-- A row rotated by its position. -/
def rt (P : Fin 256 → EReal) (i : ℕ) (e : Fin 256) : EReal :=
  P e * ((Real.cos (ang i (e.val % 64 / 2)) : ℝ) : EReal) + quarter P e * ((Real.sin (ang i (e.val % 64 / 2)) : ℝ) : EReal)

/-- The attention of one row of scores. -/
def att (s v : Fin 2048 → EReal) : EReal :=
  ∑ j, v j * Ideal.div (Ideal.exp (s j - Finset.univ.fold max ⊥ s)) (∑ k, Ideal.exp (s k - Finset.univ.fold max ⊥ s))

/-- Lane `d` of head `h`. -/
def lane (h : Fin 4) (d : Fin 64) : Fin 256 := ⟨h.val * 64 + d.val, by omega⟩

/-- The score of two rows at a head. -/
def score (q k : Fin 256 → EReal) (h : Fin 4) : EReal := (∑ d, q (lane h d) * k (lane h d)) * ((1 / 8 : ℝ) : EReal)

/-- The head of a lane. -/
def head (e : Fin 256) : Fin 4 := ⟨e.val / 64, by omega⟩

/-- What is computed. -/
def out (X : Fin 2 → Fin 2048 → Fin 768 → EReal) (wq wk wv : Fin 768 → Fin 256 → EReal) (wo : Fin 256 → Fin 768 → EReal)
    (b : Fin 2) (i : Fin 2048) (n : Fin 768) : EReal :=
  ∑ e : Fin 256, att (fun j => score (rt (pr X wq b i) i) (rt (pr X wk b j) j) (head e)) (fun j => pr X wv b j e) * wo e n

/-! ### Reals among the extended reals -/

/-- An extended real that is a real. -/
def IsR (x : EReal) : Prop := ∃ r : ℝ, x = r

theorem IsR.coe (r : ℝ) : IsR (r : EReal) := ⟨r, rfl⟩
theorem IsR.add {x y : EReal} (hx : IsR x) (hy : IsR y) : IsR (x + y) := by
  obtain ⟨a, rfl⟩ := hx; obtain ⟨b, rfl⟩ := hy; exact ⟨a + b, (EReal.coe_add a b).symm⟩
theorem IsR.mul {x y : EReal} (hx : IsR x) (hy : IsR y) : IsR (x * y) := by
  obtain ⟨a, rfl⟩ := hx; obtain ⟨b, rfl⟩ := hy; exact ⟨a * b, (EReal.coe_mul a b).symm⟩
theorem IsR.neg {x : EReal} (hx : IsR x) : IsR (-x) := by
  obtain ⟨a, rfl⟩ := hx; exact ⟨-a, (EReal.coe_neg a).symm⟩

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsR.sum {ι : Type*} (s : Finset ι) (f : ι → EReal) (h : ∀ i, IsR (f i)) : IsR (∑ i ∈ s, f i) := by
  choose g hg using h
  exact ⟨∑ i ∈ s, g i, by rw [coe_sum]; exact Finset.sum_congr rfl fun i _ => hg i⟩

theorem IsR.of_lt {x : EReal} (h : max x (-x) < ⊤) : IsR x := by
  induction x using EReal.rec with
  | bot => simp at h
  | top => simp at h
  | coe r => exact ⟨r, rfl⟩

theorem isR_pr {X : Fin 2 → Fin 2048 → Fin 768 → EReal} {w : Fin 768 → Fin 256 → EReal} (hX : ∀ b i k, IsR (X b i k))
    (hw : ∀ k e, IsR (w k e)) (b : Fin 2) (i : Fin 2048) (e : Fin 256) : IsR (pr X w b i e) :=
  IsR.sum _ _ fun k => (hX b i k).mul (hw k e)

theorem isR_rt {P : Fin 256 → EReal} (hP : ∀ e, IsR (P e)) (i : ℕ) (e : Fin 256) : IsR (rt P i e) := by
  refine ((hP e).mul (.coe _)).add (IsR.mul ?_ (.coe _))
  unfold quarter
  split
  · exact (hP _).neg
  · exact hP _

/-! ### The scale inside the product -/

theorem score_eq {q k : Fin 256 → EReal} (hq : ∀ e, IsR (q e)) (hk : ∀ e, IsR (k e)) (h : Fin 4) :
    ∑ d, (q (lane h d) * ((1 / 8 : ℝ) : EReal)) * k (lane h d) = score q k h := by
  choose a ha using hq
  choose b hb using hk
  unfold score
  simp only [ha, hb, ← EReal.coe_mul, ← coe_sum]
  rw [Finset.sum_mul]
  congr 1
  exact Finset.sum_congr rfl fun d _ => by ring

theorem isR_score {q k : Fin 256 → EReal} (hq : ∀ e, IsR (q e)) (hk : ∀ e, IsR (k e)) (h : Fin 4) : IsR (score q k h) :=
  (IsR.sum _ _ fun d => (hq _).mul (hk _)).mul (.coe _)

/-! ### The softmax -/

theorem sum_mul_coe {ι : Type*} (s : Finset ι) (f : ι → EReal) {r : ℝ} (hr : 0 ≤ r) : (∑ i ∈ s, f i) * (r : EReal) = ∑ i ∈ s, f i * (r : EReal) := by
  classical
  induction s using Finset.induction_on with
  | empty => simp
  | insert a s ha ih =>
    rw [Finset.sum_insert ha, Finset.sum_insert ha, EReal.right_distrib_of_nonneg_of_ne_top (by exact_mod_cast hr) (EReal.coe_ne_top r), ih]

theorem div_coe (x : EReal) {r : ℝ} (hr : r ≠ 0) : Ideal.div x (r : EReal) = x * ((r⁻¹ : ℝ) : EReal) := by
  unfold Ideal.div
  rw [if_neg (by exact_mod_cast hr), EReal.coe_inv]

theorem fold_max_isR (s : Fin 2048 → EReal) (hs : ∀ j, IsR (s j)) : IsR (Finset.univ.fold max ⊥ s) := by
  have h : ∀ t : Finset (Fin 2048), t.fold max ⊥ s = ⊥ ∨ IsR (t.fold max ⊥ s) := by
    intro t
    induction t using Finset.induction_on with
    | empty => exact .inl (by simp)
    | insert a t ha ih =>
      rw [Finset.fold_insert ha]
      rcases ih with h | h
      · exact .inr (by rw [h, max_bot_right]; exact hs a)
      · rcases max_choice (s a) (t.fold max ⊥ s) with h' | h' <;> rw [h']
        · exact .inr (hs a)
        · exact .inr h
  rcases h Finset.univ with h | h
  · exfalso
    have h0 : s 0 ≤ Finset.univ.fold max ⊥ s := by
      rw [Finset.le_fold_max]; exact .inr ⟨0, Finset.mem_univ _, le_refl _⟩
    obtain ⟨r, hr⟩ := hs 0
    rw [h, hr] at h0
    exact absurd h0 (by simp)
  · exact h

theorem att_eq {s : Fin 2048 → EReal} (hs : ∀ j, IsR (s j)) (v : Fin 2048 → EReal) :
    Ideal.div (∑ j, Ideal.exp (s j) * v j) (∑ j, Ideal.exp (s j)) = att s v := by
  unfold att
  obtain ⟨M, hM⟩ := fold_max_isR s hs
  choose a ha using hs
  rw [hM]
  simp only [ha, ← EReal.coe_sub, Ideal.exp_coe, ← coe_sum]
  have hL : 0 < ∑ j, Real.exp (a j) := Finset.sum_pos (fun j _ => Real.exp_pos _) ⟨0, Finset.mem_univ _⟩
  have hL' : 0 < ∑ j, Real.exp (a j - M) := Finset.sum_pos (fun j _ => Real.exp_pos _) ⟨0, Finset.mem_univ _⟩
  rw [div_coe _ hL.ne', sum_mul_coe _ _ (inv_nonneg.mpr hL.le)]
  refine Finset.sum_congr rfl fun j _ => ?_
  rw [div_coe _ hL'.ne', mul_comm _ (v j), mul_assoc, ← EReal.coe_mul, ← EReal.coe_mul]
  congr 2
  have e : ∑ k, Real.exp (a k - M) = (∑ k, Real.exp (a k)) * Real.exp (-M) := by
    rw [Finset.sum_mul]
    exact Finset.sum_congr rfl fun k _ => by rw [← Real.exp_add]; ring_nf
  rw [e, show a j - M = a j + -M by ring, Real.exp_add, mul_inv]
  field_simp

/-! ### The rotation -/

/-- A signed permutation of the lanes as a product with a matrix. -/
theorem sum_quarter (P : Fin 256 → EReal) (e : Fin 256) :
    ∑ f : Fin 256, P f * ((if e.val = f.val + 1 ∧ f.val % 2 = 0 then 1 else 0) - (if e.val + 1 = f.val ∧ f.val % 2 = 1 then 1 else 0)) = quarter P e := by
  unfold quarter
  split
  · rename_i h
    rw [Finset.sum_eq_single ⟨e.val / 2 * 2 + 1, by omega⟩]
    · rw [if_neg (by simp), if_pos (by simp; omega)]
      rw [zero_sub, mul_neg, mul_one]
    · intro f _ hf
      have : f.val ≠ e.val / 2 * 2 + 1 := fun h' => hf (Fin.ext h')
      rw [if_neg (by omega), if_neg (by omega)]
      simp
    · intro h'; exact absurd (Finset.mem_univ _) h'
  · rename_i h
    rw [Finset.sum_eq_single ⟨e.val / 2 * 2, by omega⟩]
    · rw [if_pos (by simp; omega), if_neg (by simp)]
      simp
    · intro f _ hf
      have : f.val ≠ e.val / 2 * 2 := fun h' => hf (Fin.ext h')
      rw [if_neg (by omega), if_neg (by omega)]
      simp
    · intro h'; exact absurd (Finset.mem_univ _) h'

/-- The frequency as a power. -/
theorem pow_freq (p : ℕ) : Ideal.div 1 (Ideal.pow ((10000 : ℝ) : EReal) (Ideal.div ((2 * p : ℝ) : EReal) ((64 : ℝ) : EReal)))
    = ((Real.exp (-(Real.log 10000 / 64) * (2 * p)) : ℝ) : EReal) := by
  rw [div_coe _ (by norm_num), ← EReal.coe_mul]
  show Ideal.div 1 ((Real.rpow 10000 _ : ℝ) : EReal) = _
  have h : Real.rpow 10000 (2 * p * 64⁻¹) = Real.exp (Real.log 10000 / 64 * (2 * p)) := by
    show (10000 : ℝ) ^ (2 * p * 64⁻¹ : ℝ) = _
    rw [Real.rpow_def_of_pos (by norm_num)]
    congr 1; ring
  rw [h, div_coe _ (Real.exp_pos _).ne', one_mul, ← Real.exp_neg]
  congr 2; ring

/-- The frequency as an exponential. -/
theorem exp_freq (p : ℕ) : Ideal.exp ((0 - Ideal.div (Ideal.log ((10000 : ℝ) : EReal)) ((64 : ℝ) : EReal)) * ((2 * p : ℝ) : EReal))
    = ((Real.exp (-(Real.log 10000 / 64) * (2 * p)) : ℝ) : EReal) := by
  rw [Ideal.log_coe, if_neg (by norm_num), div_coe _ (by norm_num), ← EReal.coe_mul, ← EReal.coe_zero, ← EReal.coe_sub, ← EReal.coe_mul, Ideal.exp_coe]
  congr 2; ring

/-- A small word reads as itself. -/
theorem toInt_word (n : ℕ) (h : n < 2 ^ 31) : (BitVec.ofNat 32 n).toInt = (n : ℤ) := by
  rw [BitVec.toInt_eq_toNat_cond, BitVec.toNat_ofNat, Nat.mod_eq_of_lt (by omega), if_pos (by omega)]

end Cert.Val

end
-- ==== Proof.Value.Chain.lean ====
/-
The kernel's running sums over the eight blocks, and its two results, as a few chains of one step.
-/
module

public import proofs.«01_k».proof.Proof.KernelIdealRun.Values
public import proofs.«01_k».proof.Proof.Value.Math

@[expose] public section

set_option maxRecDepth 16384

noncomputable section

namespace Cert.Val

open Cert.KernelIdeal Cert.KernelIdeal.Gen Cert.KernelIdealRun Idealize.ShloMosaic Idealize.ShloMosaic.TcCoe

/-- The exponentials of the scores of one block, whose keys start at column `o`. -/
def pX (o : ℕ) (ho : S256x512.Slices ![0, o] S256x64) (q : FVec Ideal S256x64 .bf16) (B : FVec Ideal S256x512 .bf16) : FVec Ideal S256x256 .f32 :=
  exp (matmul dot_S256x64_S256x64_S256x256_1_1_0_0_n_n none q (extractStridedSlice S256x64 ![0, o] B ho) (constant S256x256 .f32 0x00000000#32))

/-- The running sum of the exponentials, one block on. -/
def lS (o : ℕ) (ho : S256x512.Slices ![0, o] S256x64) (q : FVec Ideal S256x64 .bf16) (B : FVec Ideal S256x512 .bf16) (l : FVec Ideal S256x1 .f32) : FVec Ideal S256x1 .f32 :=
  addf l (shapeCast S256x1 (multiReduction .add [1] S256 (pX o ho q B) 0x00000000#32 reduces_S256x256_S256 (.inl rfl) rfl) shapeCasts_S256_S256x1)

/-- The running weighted values, one block on. -/
def aS (o p : ℕ) (ho : S256x512.Slices ![0, o] S256x64) (hp : S256x512.Slices ![0, p] S256x64) (q : FVec Ideal S256x64 .bf16) (B : FVec Ideal S256x512 .bf16) (a : FVec Ideal S256x64 .f32) : FVec Ideal S256x64 .f32 :=
  addf a (matmul dot_S256x256_S256x64_S256x64_1_0_0_1_n_n none (truncf .bf16 (pX o ho q B) bitsLt_bf16_f32) (extractStridedSlice S256x64 ![0, p] B hp) (constant S256x64 .f32 0x00000000#32))

/-- The sum of the exponentials after the eight blocks. -/
def lAll (o : ℕ) (ho : S256x512.Slices ![0, o] S256x64) (q : FVec Ideal S256x64 .bf16) (B : Fin 8 → FVec Ideal S256x512 .bf16) : FVec Ideal S256x1 .f32 :=
  lS o ho q (B 7) (lS o ho q (B 6) (lS o ho q (B 5) (lS o ho q (B 4) (lS o ho q (B 3) (lS o ho q (B 2) (lS o ho q (B 1) (lS o ho q (B 0) (broadcast S256x1 (Scalar.ofBits .f32 0x00000000#32)))))))))

/-- The weighted values after the eight blocks. -/
def aAll (o p : ℕ) (ho : S256x512.Slices ![0, o] S256x64) (hp : S256x512.Slices ![0, p] S256x64) (q : FVec Ideal S256x64 .bf16) (B : Fin 8 → FVec Ideal S256x512 .bf16) : FVec Ideal S256x64 .f32 :=
  aS o p ho hp q (B 7) (aS o p ho hp q (B 6) (aS o p ho hp q (B 5) (aS o p ho hp q (B 4) (aS o p ho hp q (B 3) (aS o p ho hp q (B 2) (aS o p ho hp q (B 1) (aS o p ho hp q (B 0) (broadcast S256x64 (Scalar.ofBits .f32 0x00000000#32)))))))))

/-- One head's attention. -/
def fin (a : FVec Ideal S256x64 .f32) (l : FVec Ideal S256x1 .f32) : FVec Ideal S256x64 .bf16 :=
  truncf .bf16 (divf a (broadcastTo S256x64 l broadcasts_S256x1_S256x64)) bitsLt_bf16_f32

/-- The result of one batch from the four heads. -/
def res (w : FVec Ideal S256x768 .bf16) (h0 h1 h2 h3 : FVec Ideal S256x64 .bf16) : Vec Ideal S1x256x768 .f32 :=
  shapeCast S1x256x768 (matmul dot_S256x256_S256x768_S256x768_1_0_0_1_n_n none (concatenate S256x256 1 [⟨S256x64, h0⟩, ⟨S256x64, h1⟩, ⟨S256x64, h2⟩, ⟨S256x64, h3⟩] concatenates_S256x64_S256x64_S256x64_S256x64_S256x256_d1) w (constant S256x768 .f32 0x00000000#32)) shapeCasts_S256x768_S1x256x768

/-- The eight blocks of batch `0`, in the order in which they are taken. -/
def B0 (I : Dev nD → Inp Ideal) (c : Dev nD) (u : Fin 8) : FVec Ideal S256x512 .bf16 :=
  match u with
  | 0 => V170 I c
  | 1 => shapeCast S256x512 (K0 I (nb c 1)) shapeCasts_S1x1x256x512_S256x512
  | 2 => shapeCast S256x512 (K0 I (nb c 2)) shapeCasts_S1x1x256x512_S256x512
  | 3 => shapeCast S256x512 (K0 I (nb c 4)) shapeCasts_S1x1x256x512_S256x512
  | 4 => shapeCast S256x512 (K0 I (nb c 3)) shapeCasts_S1x1x256x512_S256x512
  | 5 => shapeCast S256x512 (K0 I (nb c 6)) shapeCasts_S1x1x256x512_S256x512
  | 6 => shapeCast S256x512 (K0 I (nb c 5)) shapeCasts_S1x1x256x512_S256x512
  | 7 => shapeCast S256x512 (K0 I (nb c 7)) shapeCasts_S1x1x256x512_S256x512

/-- The eight blocks of batch `1`, in the order in which they are taken. -/
def B1 (I : Dev nD → Inp Ideal) (c : Dev nD) (u : Fin 8) : FVec Ideal S256x512 .bf16 :=
  match u with
  | 0 => V199 I c
  | 1 => shapeCast S256x512 (K1 I (nb c 1)) shapeCasts_S1x1x256x512_S256x512
  | 2 => shapeCast S256x512 (K1 I (nb c 2)) shapeCasts_S1x1x256x512_S256x512
  | 3 => shapeCast S256x512 (K1 I (nb c 4)) shapeCasts_S1x1x256x512_S256x512
  | 4 => shapeCast S256x512 (K1 I (nb c 3)) shapeCasts_S1x1x256x512_S256x512
  | 5 => shapeCast S256x512 (K1 I (nb c 6)) shapeCasts_S1x1x256x512_S256x512
  | 6 => shapeCast S256x512 (K1 I (nb c 5)) shapeCasts_S1x1x256x512_S256x512
  | 7 => shapeCast S256x512 (K1 I (nb c 7)) shapeCasts_S1x1x256x512_S256x512

variable (I : Dev nD → Inp Ideal) (c : Dev nD)

theorem V1484_eq : V1484 I c = fin (aAll 0 256 slices_S256x512_o0_0_S256x64 slices_S256x512_o0_256_S256x64 (V160 I c) (B0 I c)) (lAll 0 slices_S256x512_o0_0_S256x64 (V160 I c) (B0 I c)) := rfl

theorem V1487_eq : V1487 I c = fin (aAll 64 320 slices_S256x512_o0_64_S256x64 slices_S256x512_o0_320_S256x64 (V161 I c) (B0 I c)) (lAll 64 slices_S256x512_o0_64_S256x64 (V161 I c) (B0 I c)) := rfl

theorem V1490_eq : V1490 I c = fin (aAll 128 384 slices_S256x512_o0_128_S256x64 slices_S256x512_o0_384_S256x64 (V162 I c) (B0 I c)) (lAll 128 slices_S256x512_o0_128_S256x64 (V162 I c) (B0 I c)) := rfl

theorem V1478_eq : V1478 I c = (lAll 192 slices_S256x512_o0_192_S256x64 (V163 I c) (B0 I c)) := rfl

theorem V1481_eq : V1481 I c = (aAll 192 448 slices_S256x512_o0_192_S256x64 slices_S256x512_o0_448_S256x64 (V163 I c) (B0 I c)) := rfl

theorem V1532_eq : V1532 I c = (lAll 0 slices_S256x512_o0_0_S256x64 (V189 I c) (B1 I c)) := rfl

theorem V1535_eq : V1535 I c = (aAll 0 256 slices_S256x512_o0_0_S256x64 slices_S256x512_o0_256_S256x64 (V189 I c) (B1 I c)) := rfl

theorem V1542_eq : V1542 I c = (lAll 64 slices_S256x512_o0_64_S256x64 (V190 I c) (B1 I c)) := rfl

theorem V1545_eq : V1545 I c = (aAll 64 320 slices_S256x512_o0_64_S256x64 slices_S256x512_o0_320_S256x64 (V190 I c) (B1 I c)) := rfl

theorem V1552_eq : V1552 I c = (lAll 128 slices_S256x512_o0_128_S256x64 (V191 I c) (B1 I c)) := rfl

theorem V1555_eq : V1555 I c = (aAll 128 384 slices_S256x512_o0_128_S256x64 slices_S256x512_o0_384_S256x64 (V191 I c) (B1 I c)) := rfl

theorem V1562_eq : V1562 I c = (lAll 192 slices_S256x512_o0_192_S256x64 (V192 I c) (B1 I c)) := rfl

theorem V1565_eq : V1565 I c = (aAll 192 448 slices_S256x512_o0_192_S256x64 slices_S256x512_o0_448_S256x64 (V192 I c) (B1 I c)) := rfl

theorem O0_eq : O0 I c = res (V222 I c) (V1484 I c) (V1487 I c) (V1490 I c) (fin (V1481 I c) (V1478 I c)) := rfl

theorem O1_eq : O1 I c = res (V222 I c) (fin (V1535 I c) (V1532 I c)) (fin (V1545 I c) (V1542 I c)) (fin (V1555 I c) (V1552 I c)) (fin (V1565 I c) (V1562 I c)) := rfl

end Cert.Val
-- ==== Proof.Value.Steps.lean ====
/-
The kernel's values read at an index: the tables, the projections, the blocks, one step of the running sums.
-/
module

public import proofs.«01_k».proof.Proof.Value.Chain
public import Idealize.ShloMosaic.Lib.Pointwise

@[expose] public section

set_option maxRecDepth 16384

noncomputable section

namespace Cert.Val

open Cert.KernelIdeal Cert.KernelIdeal.Gen Cert.KernelIdealRun Idealize.ShloMosaic Idealize.ShloMosaic.TcCoe

variable (I : Dev nD → Inp Ideal) (c : Dev nD)

/-! ### One step -/

theorem pX_apply (o : ℕ) (ho : S256x512.Slices ![0, o] S256x64) (ho' : o + 64 ≤ 512) (q : FVec Ideal S256x64 .bf16) (B : FVec Ideal S256x512 .bf16) (r j : Fin 256) :
    pX o ho q B (ix2 r j) = Ideal.exp (∑ d : Fin 64, q (ix2 r d) * B (ix2 j ⟨o + d.val, by omega⟩)) := by
  pointwise [pX]

theorem lS_apply (o : ℕ) (ho : S256x512.Slices ![0, o] S256x64) (q : FVec Ideal S256x64 .bf16) (B : FVec Ideal S256x512 .bf16)
    (l : FVec Ideal S256x1 .f32) (r : Fin 256) :
    lS o ho q B l (ix2 r 0) = l (ix2 r 0) + ∑ j : Fin 256, pX o ho q B (ix2 r j) := by
  pointwise [lS]

theorem aS_apply (o p : ℕ) (ho : S256x512.Slices ![0, o] S256x64) (hp : S256x512.Slices ![0, p] S256x64) (hp' : p + 64 ≤ 512) (q : FVec Ideal S256x64 .bf16)
    (B : FVec Ideal S256x512 .bf16) (a : FVec Ideal S256x64 .f32) (r : Fin 256) (d : Fin 64) :
    aS o p ho hp q B a (ix2 r d) = a (ix2 r d) + ∑ j : Fin 256, pX o ho q B (ix2 r j) * B (ix2 j ⟨p + d.val, by omega⟩) := by
  pointwise [aS]

theorem fin_apply (a : FVec Ideal S256x64 .f32) (l : FVec Ideal S256x1 .f32) (r : Fin 256) (d : Fin 64) :
    fin a l (ix2 r d) = Ideal.div (a (ix2 r d)) (l (ix2 r 0)) := by
  pointwise [fin]

/-! ### The tables -/

theorem V2_eq : V2 I c = BitVec.ofNat 32 c.val := by
  show Scalar.remsi (Scalar.divsi (Dev.word c) 1#32) 8#32 = _
  revert c
  decide

theorem V73_apply (r e : Fin 256) : V73 I c (ix2 r e) = (0 - Ideal.div (Ideal.log ((10000 : ℝ) : EReal)) ((64 : ℝ) : EReal)) * ((2 * (e.val % 64 / 2 : ℕ) : ℝ) : EReal) := by
  have h : V73 I c (ix2 r e) = (0 - Ideal.div (Ideal.log ((10000 : ℝ) : EReal)) ((64 : ℝ) : EReal)) * FloatOps.sitofp .f32 (BitVec.ofNat 32 (2 * (e.val % 64 / 2))) := by
    pointwise [V73, k0_pay1, V25, V27, V26]
    refine congrArg₂ _ ?_ (congrArg _ ?_)
    · rw [bits_ten4, bits_64]
      rfl
    · revert e
      decide +kernel
  rw [h]
  show _ * (((BitVec.ofNat 32 (2 * (e.val % 64 / 2))).toInt : ℝ) : EReal) = _
  rw [toInt_word _ (by omega)]
  push_cast
  rfl

/-- Where a row of a device's block stands in the sequence. -/
def pos (c : Dev nD) (r : Fin 256) : Fin 2048 := ⟨c.val * 256 + r.val, by have : c.val < 8 := c.isLt; omega⟩

theorem row_word (r : Fin 256) : (FloatOps.sitofp .f32 (IntOp.addi (Scalar.muli (V2 I c) 256#32) (BitVec.ofNat 32 r.val)) : Ideal .f32) = (((pos c r).val : ℝ) : EReal) := by
  have h : IntOp.addi (Scalar.muli (V2 I c) 256#32) (BitVec.ofNat 32 r.val) = BitVec.ofNat 32 (pos c r).val := by
    rw [V2_eq]
    show BitVec.ofNat 32 c.val * 256#32 + BitVec.ofNat 32 r.val = _
    rw [← BitVec.ofNat_mul, ← BitVec.ofNat_add]
    rfl
  rw [h]
  show (((BitVec.ofNat 32 (pos c r).val).toInt : ℝ) : EReal) = _
  rw [toInt_word _ (by have := (pos c r).isLt; omega)]
  push_cast
  rfl

theorem V81_apply (r e : Fin 256) : V81 I c (ix2 r e) = ((Real.cos (ang (pos c r) (e.val % 64 / 2)) : ℝ) : EReal) := by
  pointwise [V81, k0_pay3, k0_pay2]
  rw [row_word, V73_apply, exp_freq, ← EReal.coe_mul]
  rfl

theorem V82_apply (r e : Fin 256) : V82 I c (ix2 r e) = ((Real.sin (ang (pos c r) (e.val % 64 / 2)) : ℝ) : EReal) := by
  pointwise [V82, k0_pay4, k0_pay2]
  rw [row_word, V73_apply, exp_freq, ← EReal.coe_mul]
  rfl

theorem select_of {b : BitVec 1} {P : Prop} [Decidable P] (h : b = if P then 1#1 else 0#1) :
    (Scalar.select b 1 0 : EReal) = if P then 1 else 0 := by
  subst h
  split <;> rfl

theorem and_of {a b : BitVec 1} {P Q : Prop} [Decidable P] [Decidable Q] (ha : a = if P then 1#1 else 0#1) (hb : b = if Q then 1#1 else 0#1) :
    IntOp.andi a b = if P ∧ Q then 1#1 else 0#1 := by
  subst ha hb
  by_cases hP : P <;> by_cases hQ : Q <;> simp [hP, hQ, IntOp.andi]

theorem next_word : ∀ f e : Fin 256, IntOp.cmpi .eq (BitVec.ofNat 32 e.val) (IntOp.addi (BitVec.ofNat 32 f.val) 1#32) = if e.val = f.val + 1 then 1#1 else 0#1 := by
  decide +kernel

theorem prev_word : ∀ f e : Fin 256, IntOp.cmpi .eq (BitVec.ofNat 32 e.val) (IntOp.subi (BitVec.ofNat 32 f.val) 1#32) = if e.val + 1 = f.val then 1#1 else 0#1 := by
  decide +kernel

theorem V136_apply (f e : Fin 256) : V136 I c (ix2 f e) =
    (if e.val = f.val + 1 ∧ f.val % 2 = 0 then 1 else 0) - (if e.val + 1 = f.val ∧ f.val % 2 = 1 then 1 else 0) := by
  pointwise [V136, k0_pay9, V109, V112, V114, V113, V116, V117, k0_pay5, k0_pay6, k0_pay7, k0_pay8]
  refine congrArg₂ _ (select_of (and_of (next_word f e) ?_)) (select_of (and_of (prev_word f e) ?_))
  · revert f
    decide +kernel
  · revert f
    decide +kernel

/-- Turning a row by the device's tables is rotating it by its position. -/
theorem turn (P : Fin 256 → EReal) (r e : Fin 256) :
    P e * V81 I c (ix2 r e) + (∑ x, P x * V136 I c (ix2 x e)) * V82 I c (ix2 r e) = rt P (pos c r) e := by
  rw [V81_apply, V82_apply]
  simp only [V136_apply]
  rw [sum_quarter]
  rfl

/-! ### The projections and the blocks -/

/-- What the devices are given, as parts of one problem. -/
structure Given (I : Dev nD → Inp Ideal) (X : Fin 2 → Fin 2048 → Fin 768 → EReal) (wq wk wv : Fin 768 → Fin 256 → EReal) (wo : Fin 256 → Fin 768 → EReal) : Prop where
  x : ∀ c b r k, (I c).x (ix3 b r k) = X b (pos c r) k
  q : ∀ c k e, (I c).wq (ix2 k e) = wq k e
  k : ∀ c k e, (I c).wk (ix2 k e) = wk k e
  v : ∀ c k e, (I c).wv (ix2 k e) = wv k e
  o : ∀ c e n, (I c).wo (ix2 e n) = wo e n

variable {I} {X : Fin 2 → Fin 2048 → Fin 768 → EReal} {wq wk wv : Fin 768 → Fin 256 → EReal} {wo : Fin 256 → Fin 768 → EReal} (G : Given I X wq wk wv wo)
include G

theorem V146_apply (r : Fin 256) (k : Fin 768) : V146 I c (ix3 0 r k) = X 0 (pos c r) k := by
  rw [← G.x c 0 r k]
  show (I c).x _ = _
  refine congrArg _ (funext fun a => ?_)
  fin_cases a <;> refine Fin.ext ?_ <;> simp [ix3, Rect.unit]

theorem V175_apply (r : Fin 256) (k : Fin 768) : V175 I c (ix3 0 r k) = X 1 (pos c r) k := by
  rw [← G.x c 1 r k]
  show (I c).x _ = _
  refine congrArg _ (funext fun a => ?_)
  fin_cases a <;> refine Fin.ext ?_ <;> simp [ix3, Rect.unit]

theorem V158_apply (r e : Fin 256) : V158 I c (ix2 r e) = rt (pr X wq 0 (pos c r)) (pos c r) e * ((1 / 8 : ℝ) : EReal) := by
  pointwise [V158, k0_pay16, k0_pay13, k0_pay10]
  simp only [V137, V146_apply c G, G.q]
  rw [bits_eighth]
  exact congrArg (· * _) (turn I c (pr X wq 0 (pos c r)) r e)

theorem pay25_apply (r e : Fin 256) : k0_pay25 (V81 I c) (V82 I c) (V136 I c) (V139 I c) (V175 I c) (ix2 r e)
    = rt (pr X wq 1 (pos c r)) (pos c r) e * ((1 / 8 : ℝ) : EReal) := by
  pointwise [V139, k0_pay25, k0_pay24, k0_pay10]
  simp only [V137, V175_apply c G, G.q]
  rw [bits_eighth]
  exact congrArg (· * _) (turn I c (pr X wq 1 (pos c r)) r e)

theorem V150_apply (r e : Fin 256) : V150 I c (ix2 r e) = pr X wk 0 (pos c r) e := by
  pointwise [V150, k0_pay14, k0_pay11, k0_pay13, V140]
  simp only [V146_apply c G, G.k]
  rfl

theorem V151_apply (r e : Fin 256) : V151 I c (ix2 r e) = pr X wv 0 (pos c r) e := by
  pointwise [V151, k0_pay15, k0_pay12, k0_pay13, V143]
  simp only [V146_apply c G, G.v]
  rfl

/-- A row of a block: the rotated keys, then the values. -/
def kv (X : Fin 2 → Fin 2048 → Fin 768 → EReal) (wk wv : Fin 768 → Fin 256 → EReal) (b : Fin 2) (i : Fin 2048) (e : Fin 512) : EReal :=
  if h : e.val < 256 then rt (pr X wk b i) i ⟨e.val, h⟩ else pr X wv b i ⟨e.val - 256, by omega⟩

theorem V170_apply (r : Fin 256) (e : Fin 512) : V170 I c (ix2 r e) = kv X wk wv 0 (pos c r) e := by
  pointwise [V170, k0_pay22]
  unfold kv
  split
  · rename_i h
    simp only [V150_apply c G]
    exact turn I c (pr X wk 0 (pos c r)) r ⟨e.val, h⟩
  · exact V151_apply c G r _

theorem V199_apply (r : Fin 256) (e : Fin 512) : V199 I c (ix2 r e) = kv X wk wv 1 (pos c r) e := by
  pointwise [V199, k0_pay30, k0_pay24, V142, V145, k0_pay11, k0_pay12, V140, V143]
  simp only [V175_apply c G, G.k, G.v]
  unfold kv
  split
  · rename_i h
    exact turn I c (pr X wk 1 (pos c r)) r ⟨e.val, h⟩
  · rfl

/-- The order in which the blocks are taken. -/
def ord : Fin 8 → Fin 8 := ![0, 1, 2, 4, 3, 6, 5, 7]

theorem B0_apply (u : Fin 8) (j : Fin 256) (e : Fin 512) : B0 I c u (ix2 j e) = kv X wk wv 0 (pos (nb c (ord u)) j) e := by
  have hk : ∀ d : Dev nD, (shapeCast S256x512 (K0 I d) shapeCasts_S1x1x256x512_S256x512 : FVec Ideal S256x512 .bf16) (ix2 j e) = kv X wk wv 0 (pos d j) e := by
    intro d
    rw [← V170_apply d G j e]
    pointwise [K0, k0_pay23]
    rfl
  have h0 : V170 I c (ix2 j e) = kv X wk wv 0 (pos (nb c 0) j) e := by rw [nb_zero]; exact V170_apply c G j e
  fin_cases u
  · exact h0
  all_goals exact hk _

theorem B1_apply (u : Fin 8) (j : Fin 256) (e : Fin 512) : B1 I c u (ix2 j e) = kv X wk wv 1 (pos (nb c (ord u)) j) e := by
  have hk : ∀ d : Dev nD, (shapeCast S256x512 (K1 I d) shapeCasts_S1x1x256x512_S256x512 : FVec Ideal S256x512 .bf16) (ix2 j e) = kv X wk wv 1 (pos d j) e := by
    intro d
    rw [← V199_apply d G j e]
    pointwise [K1, k0_pay31]
  have h0 : V199 I c (ix2 j e) = kv X wk wv 1 (pos (nb c 0) j) e := by rw [nb_zero]; exact V199_apply c G j e
  fin_cases u
  · exact h0
  all_goals exact hk _

end Cert.Val
-- ==== Proof.Value.Kernel.lean ====
/-
The kernel's result read at an index is the common function.
-/
module

public import proofs.«01_k».proof.Proof.KernelIdealRun.Run
public import proofs.«01_k».proof.Proof.Value.Steps

@[expose] public section

set_option maxRecDepth 16384

noncomputable section

namespace Cert.Val

open Cert.KernelIdeal Cert.KernelIdeal.Gen Cert.KernelIdealRun Idealize.ShloMosaic Idealize.ShloMosaic.TcCoe

/-! ### The blocks make up the sequence -/

theorem nb_ord_inj (c : Dev nD) : Function.Injective fun u : Fin 8 => nb c (ord u) := by
  revert c
  decide

theorem sum_nb (c : Dev nD) (f : Dev nD → EReal) : ∑ u : Fin 8, f (nb c (ord u)) = ∑ d : Dev nD, f d := by
  have hb : Function.Bijective fun u : Fin 8 => (nb c (ord u) : Fin 8) := Finite.injective_iff_bijective.mp (nb_ord_inj c)
  exact Equiv.sum_comp (Equiv.ofBijective _ hb) f

theorem sum_pos (f : Fin 2048 → EReal) : ∑ d : Dev nD, ∑ j : Fin 256, f (pos d j) = ∑ i, f i := by
  rw [← Equiv.sum_comp (finProdFinEquiv (m := 8) (n := 256)) (f : Fin (8 * 256) → EReal), Fintype.sum_prod_type]
  refine Finset.sum_congr rfl fun d _ => Finset.sum_congr rfl fun j _ => congrArg f (Fin.ext ?_)
  show d.val * 256 + j.val = j.val + 256 * d.val
  omega

theorem sum_blocks (c : Dev nD) (f : Fin 2048 → EReal) : ∑ u : Fin 8, ∑ j : Fin 256, f (pos (nb c (ord u)) j) = ∑ i, f i :=
  (sum_nb c fun d => ∑ j : Fin 256, f (pos d j)).trans (sum_pos f)

/-! ### One head -/

theorem head_eq (c : Dev nD) (h : Fin 4) (o p : ℕ) (ho : S256x512.Slices ![0, o] S256x64) (hp : S256x512.Slices ![0, p] S256x64) (ho' : o = h.val * 64) (hp' : p = 256 + h.val * 64)
    (q : FVec Ideal S256x64 .bf16) (B : Fin 8 → FVec Ideal S256x512 .bf16) (r : Fin 256) (Q : Fin 256 → EReal) (K V : Fin 2048 → Fin 256 → EReal)
    (hq : ∀ d, q (ix2 r d) = Q (lane h d) * ((1 / 8 : ℝ) : EReal))
    (hK : ∀ u j (d : Fin 64), B u (ix2 j ⟨o + d.val, by omega⟩) = K (pos (nb c (ord u)) j) (lane h d))
    (hV : ∀ u j (d : Fin 64), B u (ix2 j ⟨p + d.val, by omega⟩) = V (pos (nb c (ord u)) j) (lane h d))
    (rQ : ∀ e, IsR (Q e)) (rK : ∀ j e, IsR (K j e)) (d : Fin 64) :
    fin (aAll o p ho hp q B) (lAll o ho q B) (ix2 r d) = att (fun j => score Q (K j) h) (fun j => V j (lane h d)) := by
  have hs : ∀ u j, pX o ho q (B u) (ix2 r j) = Ideal.exp (score Q (K (pos (nb c (ord u)) j)) h) := by
    intro u j
    rw [pX_apply o ho (by omega), ← score_eq rQ (rK _) h]
    refine congrArg _ (Finset.sum_congr rfl fun d _ => ?_)
    rw [hq, hK]
  have hl : lAll o ho q B (ix2 r 0) = ∑ i, Ideal.exp (score Q (K i) h) := by
    rw [← sum_blocks c, Fin.sum_univ_eight]
    unfold lAll
    simp only [lS_apply, hs]
    rw [show (broadcast S256x1 (Scalar.ofBits .f32 0x00000000#32) : FVec Ideal S256x1 .f32) (ix2 r 0) = 0 by pointwise, zero_add]
  have ha : aAll o p ho hp q B (ix2 r d) = ∑ i, Ideal.exp (score Q (K i) h) * V i (lane h d) := by
    rw [← sum_blocks c, Fin.sum_univ_eight]
    unfold aAll
    simp only [aS_apply o p ho hp (by omega), hs, hV]
    rw [show (broadcast S256x64 (Scalar.ofBits .f32 0x00000000#32) : FVec Ideal S256x64 .f32) (ix2 r d) = 0 by pointwise, zero_add]
  rw [fin_apply, hl, ha]
  exact att_eq (fun j => isR_score rQ (rK j) h) _

/-! ### The result -/

theorem res_apply (w : FVec Ideal S256x768 .bf16) (h0 h1 h2 h3 : FVec Ideal S256x64 .bf16) (A : Fin 4 → Fin 64 → EReal) (r : Fin 256) (n : Fin 768)
    (H0 : ∀ d, h0 (ix2 r d) = A 0 d) (H1 : ∀ d, h1 (ix2 r d) = A 1 d) (H2 : ∀ d, h2 (ix2 r d) = A 2 d) (H3 : ∀ d, h3 (ix2 r d) = A 3 d) :
    res w h0 h1 h2 h3 (ix3 0 r n) = ∑ e : Fin 256, A (head e) ⟨e.val % 64, by omega⟩ * w (ix2 e n) := by
  pointwise [res]
  refine Finset.sum_congr rfl fun e _ => congrArg (· * _) ?_
  have key : ∀ (h : Fin 4) (d : ℕ) (hd : d < 64), e.val = h.val * 64 + d → A h ⟨d, hd⟩ = A (head e) ⟨e.val % 64, by omega⟩ := by
    intro h d hd he
    rw [show head e = h from Fin.ext (by show e.val / 64 = h.val; omega)]
    exact congrArg _ (Fin.ext (by show d = e.val % 64; omega))
  split
  · rw [H0]; exact key 0 _ _ (by simp <;> omega)
  · split
    · rw [H1]; exact key 1 _ _ (by simp <;> omega)
    · split
      · rw [H2]; exact key 2 _ _ (by simp <;> omega)
      · rw [H3]; exact key 3 _ _ (by simp <;> omega)

section
variable {I : Dev nD → Inp Ideal} {X : Fin 2 → Fin 2048 → Fin 768 → EReal} {wq wk wv : Fin 768 → Fin 256 → EReal} {wo : Fin 256 → Fin 768 → EReal} (G : Given I X wq wk wv wo)
  (rX : ∀ b i k, IsR (X b i k)) (rq : ∀ k e, IsR (wq k e)) (rk : ∀ k e, IsR (wk k e)) (c : Dev nD)
include G

theorem V222_apply (e : Fin 256) (n : Fin 768) : V222 I c (ix2 e n) = wo e n := by
  pointwise [V222, k0_pay48, V220]
  exact G.o c e n

include rX rq rk

theorem head0 (h : Fin 4) (o p : ℕ) (ho : S256x512.Slices ![0, o] S256x64) (hp : S256x512.Slices ![0, p] S256x64) (ho' : o = h.val * 64) (hp' : p = 256 + h.val * 64)
    (q : FVec Ideal S256x64 .bf16) (r : Fin 256) (d : Fin 64) (hq : ∀ d, q (ix2 r d) = V158 I c (ix2 r (lane h d))) :
    fin (aAll o p ho hp q (B0 I c)) (lAll o ho q (B0 I c)) (ix2 r d)
      = att (fun j => score (rt (pr X wq 0 (pos c r)) (pos c r)) (rt (pr X wk 0 j) j) h) (fun j => pr X wv 0 j (lane h d)) := by
  refine head_eq c h o p ho hp ho' hp' q (B0 I c) r (rt (pr X wq 0 (pos c r)) (pos c r)) (fun j => rt (pr X wk 0 j) j) (fun j => pr X wv 0 j)
    (fun d => by rw [hq, V158_apply c G]) ?_ ?_ (isR_rt (isR_pr rX rq _ _) _) (fun j => isR_rt (isR_pr rX rk _ _) _) d
  · intro u j d
    rw [B0_apply c G]
    unfold kv
    rw [dif_pos (by show o + d.val < 256; omega)]
    exact congrArg _ (Fin.ext (by show o + d.val = h.val * 64 + d.val; omega))
  · intro u j d
    rw [B0_apply c G]
    unfold kv
    rw [dif_neg (by show ¬ p + d.val < 256; omega)]
    exact congrArg _ (Fin.ext (by show p + d.val - 256 = h.val * 64 + d.val; omega))

theorem head1 (h : Fin 4) (o p : ℕ) (ho : S256x512.Slices ![0, o] S256x64) (hp : S256x512.Slices ![0, p] S256x64) (ho' : o = h.val * 64) (hp' : p = 256 + h.val * 64)
    (q : FVec Ideal S256x64 .bf16) (r : Fin 256) (d : Fin 64) (hq : ∀ d, q (ix2 r d) = k0_pay25 (V81 I c) (V82 I c) (V136 I c) (V139 I c) (V175 I c) (ix2 r (lane h d))) :
    fin (aAll o p ho hp q (B1 I c)) (lAll o ho q (B1 I c)) (ix2 r d)
      = att (fun j => score (rt (pr X wq 1 (pos c r)) (pos c r)) (rt (pr X wk 1 j) j) h) (fun j => pr X wv 1 j (lane h d)) := by
  refine head_eq c h o p ho hp ho' hp' q (B1 I c) r (rt (pr X wq 1 (pos c r)) (pos c r)) (fun j => rt (pr X wk 1 j) j) (fun j => pr X wv 1 j)
    (fun d => by rw [hq, pay25_apply c G]) ?_ ?_ (isR_rt (isR_pr rX rq _ _) _) (fun j => isR_rt (isR_pr rX rk _ _) _) d
  · intro u j d
    rw [B1_apply c G]
    unfold kv
    rw [dif_pos (by show o + d.val < 256; omega)]
    exact congrArg _ (Fin.ext (by show o + d.val = h.val * 64 + d.val; omega))
  · intro u j d
    rw [B1_apply c G]
    unfold kv
    rw [dif_neg (by show ¬ p + d.val < 256; omega)]
    exact congrArg _ (Fin.ext (by show p + d.val - 256 = h.val * 64 + d.val; omega))

omit G rX rq rk in
theorem lane_head (e : Fin 256) : lane (head e) ⟨e.val % 64, by omega⟩ = e :=
  Fin.ext (by show e.val / 64 * 64 + e.val % 64 = e.val; omega)

omit G rX rq rk in
theorem slice_lane (o : ℕ) (h : Fin 4) (ho : S256x256.Slices ![0, o] S256x64) (ho' : o = h.val * 64) (x : FVec Ideal S256x256 .bf16) (r : Fin 256) (d : Fin 64) :
    extractStridedSlice S256x64 ![0, o] x ho (ix2 r d) = x (ix2 r (lane h d)) := by
  subst ho'
  pointwise
  rfl

theorem O0_apply (r : Fin 256) (n : Fin 768) : O0 I c (ix3 0 r n) = out X wq wk wv wo 0 (pos c r) n := by
  rw [O0_eq, V1484_eq, V1487_eq, V1490_eq, V1478_eq, V1481_eq]
  refine (res_apply _ _ _ _ _ (fun h d => att (fun j => score (rt (pr X wq 0 (pos c r)) (pos c r)) (rt (pr X wk 0 j) j) h) (fun j => pr X wv 0 j (lane h d))) r n
      (fun d => head0 G rX rq rk c 0 0 256 slices_S256x512_o0_0_S256x64 slices_S256x512_o0_256_S256x64 rfl rfl (V160 I c) r d fun d => slice_lane 0 0 slices_S256x256_o0_0_S256x64 rfl (k0_pay17 (V158 I c)) r d)
      (fun d => head0 G rX rq rk c 1 64 320 slices_S256x512_o0_64_S256x64 slices_S256x512_o0_320_S256x64 rfl rfl (V161 I c) r d fun d => slice_lane 64 1 slices_S256x256_o0_64_S256x64 rfl (k0_pay17 (V158 I c)) r d)
      (fun d => head0 G rX rq rk c 2 128 384 slices_S256x512_o0_128_S256x64 slices_S256x512_o0_384_S256x64 rfl rfl (V162 I c) r d fun d => slice_lane 128 2 slices_S256x256_o0_128_S256x64 rfl (k0_pay17 (V158 I c)) r d)
      (fun d => head0 G rX rq rk c 3 192 448 slices_S256x512_o0_192_S256x64 slices_S256x512_o0_448_S256x64 rfl rfl (V163 I c) r d fun d => slice_lane 192 3 slices_S256x256_o0_192_S256x64 rfl (k0_pay17 (V158 I c)) r d)).trans ?_
  refine Finset.sum_congr rfl fun e _ => ?_
  rw [V222_apply G c, lane_head]

theorem O1_apply (r : Fin 256) (n : Fin 768) : O1 I c (ix3 0 r n) = out X wq wk wv wo 1 (pos c r) n := by
  rw [O1_eq, V1532_eq, V1535_eq, V1542_eq, V1545_eq, V1552_eq, V1555_eq, V1562_eq, V1565_eq]
  refine (res_apply _ _ _ _ _ (fun h d => att (fun j => score (rt (pr X wq 1 (pos c r)) (pos c r)) (rt (pr X wk 1 j) j) h) (fun j => pr X wv 1 j (lane h d))) r n
      (fun d => head1 G rX rq rk c 0 0 256 slices_S256x512_o0_0_S256x64 slices_S256x512_o0_256_S256x64 rfl rfl (V189 I c) r d fun d => slice_lane 0 0 slices_S256x256_o0_0_S256x64 rfl (k0_pay25 (V81 I c) (V82 I c) (V136 I c) (V139 I c) (V175 I c)) r d)
      (fun d => head1 G rX rq rk c 1 64 320 slices_S256x512_o0_64_S256x64 slices_S256x512_o0_320_S256x64 rfl rfl (V190 I c) r d fun d => slice_lane 64 1 slices_S256x256_o0_64_S256x64 rfl (k0_pay25 (V81 I c) (V82 I c) (V136 I c) (V139 I c) (V175 I c)) r d)
      (fun d => head1 G rX rq rk c 2 128 384 slices_S256x512_o0_128_S256x64 slices_S256x512_o0_384_S256x64 rfl rfl (V191 I c) r d fun d => slice_lane 128 2 slices_S256x256_o0_128_S256x64 rfl (k0_pay25 (V81 I c) (V82 I c) (V136 I c) (V139 I c) (V175 I c)) r d)
      (fun d => head1 G rX rq rk c 3 192 448 slices_S256x512_o0_192_S256x64 slices_S256x512_o0_448_S256x64 rfl rfl (V192 I c) r d fun d => slice_lane 192 3 slices_S256x256_o0_192_S256x64 rfl (k0_pay25 (V81 I c) (V82 I c) (V136 I c) (V139 I c) (V175 I c)) r d)).trans ?_
  refine Finset.sum_congr rfl fun e _ => ?_
  rw [V222_apply G c, lane_head]

theorem OUT_apply (b : Fin 2) (r : Fin 256) (n : Fin 768) : OUT I c (ix3 b r n) = out X wq wk wv wo b (pos c r) n := by
  have hr : inRow (ix3 b r n : S2x256x768.Idx) = (ix3 0 r n : S1x256x768.Idx) := by
    funext a
    fin_cases a <;> rfl
  unfold OUT
  rw [hr]
  fin_cases b
  · exact (if_pos rfl).trans (O0_apply G rX rq rk c r n)
  · exact (if_neg (by simp [ix3])).trans (O1_apply G rX rq rk c r n)
end

end Cert.Val
-- ==== Proof.Value.Reference.lean ====
/-
The reference's result in stages, and each stage read at an index.
-/
module

public import proofs.«01_k».proof.Proof.Gen.ReferenceIdeal.Run
public import proofs.«01_k».proof.Proof.Value.Math

@[expose] public section

set_option maxRecDepth 16384

noncomputable section

namespace Cert.Val

open Cert.ReferenceIdeal Cert.ReferenceIdeal.Gen Idealize.ShloMosaic Idealize.ShloMosaic.TcCoe Idealize.SL.Sem Idealize.ShloMosaic.StableHlo

/-- The angle of a position and a pair of lanes. -/
def refAng : FVec Ideal S2048x32 .f32 :=
  mulf (broadcastInDim S2048x32 ![0, 1] bcast_S2048x1_S2048x32_0_1 (sitofp .f32 (broadcastInDim S2048x1 ![0] bcast_S2048_S2048x1_0 (iotaInDim S2048 32 0)))) (broadcastInDim S2048x32 ![0, 1] bcast_S1x32_S2048x32_0_1 (broadcastInDim S1x32 ![1] bcast_S32_S1x32_1 (Host.divf (broadcastInDim S32 ![] bcast_S_S32 (constant S_ .f32 0x3F800000#32)) (Host.powf (broadcastInDim S32 ![] bcast_S_S32 (constant S_ .f32 0x461C4000#32)) (Host.divf (sitofp .f32 (addi (broadcastInDim S32 ![] bcast_S_S32 (constantI S_ 32 0#32)) (muli (broadcastInDim S32 ![] bcast_S_S32 (constantI S_ 32 2#32)) (iotaInDim S32 32 0)))) (broadcastInDim S32 ![] bcast_S_S32 (constant S_ .f32 0x42800000#32)))))))

/-- The cosines, spread over batches and heads. -/
def refCos : FVec Ideal S2x2048x4x64 .f32 :=
  broadcastInDim S2x2048x4x64 ![0, 1, 2, 3] bcast_S1x2048x1x64_S2x2048x4x64_0_1_2_3 (broadcastInDim S1x2048x1x64 ![1, 3] bcast_S2048x64_S1x2048x1x64_1_3 (shapeCast _ (broadcastInDim S2048x32x2 ![0, 1] bcast_S2048x32_S2048x32x2_0_1 (Host.cos refAng)) shapeCasts_S2048x32x2_S2048x64))

/-- The sines, spread over batches and heads. -/
def refSin : FVec Ideal S2x2048x4x64 .f32 :=
  broadcastInDim S2x2048x4x64 ![0, 1, 2, 3] bcast_S1x2048x1x64_S2x2048x4x64_0_1_2_3 (broadcastInDim S1x2048x1x64 ![1, 3] bcast_S2048x64_S1x2048x1x64_1_3 (shapeCast _ (broadcastInDim S2048x32x2 ![0, 1] bcast_S2048x32_S2048x32x2_0_1 (Host.sin refAng)) shapeCasts_S2048x32x2_S2048x64))

/-- A projection of the activations, by heads. -/
def refProj (x : FVec Ideal S2x2048x768 .f32) (w : FVec Ideal S768x256 .f32) : FVec Ideal S2x2048x4x64 .f32 :=
  shapeCast _ (Host.dotGeneral dot_S2x2048x768_S768x256_S2x2048x256_2_0_01_1_n_n none x w) shapeCasts_S2x2048x256_S2x2048x4x64

/-- The rotation of a projection. -/
def refRot (t : FVec Ideal S2x2048x4x64 .f32) : FVec Ideal S2x2048x4x64 .f32 :=
  addf (mulf t refCos) (mulf (shapeCast _ (concatenate S2x2048x4x32x2 4 [⟨S2x2048x4x32x1, (broadcastInDim S2x2048x4x32x1 ![0, 1, 2, 3] bcast_S2x2048x4x32_S2x2048x4x32x1_0_1_2_3 (Host.negf (shapeCast _ (extractStridedSlice S2x2048x4x32x1 ![0, 0, 0, 0, 1] (shapeCast _ t shapeCasts_S2x2048x4x64_S2x2048x4x32x2) slices_S2x2048x4x32x2_S2x2048x4x32x1_0_0_0_0_1) shapeCasts_S2x2048x4x32x1_S2x2048x4x32)))⟩, ⟨S2x2048x4x32x1, (broadcastInDim S2x2048x4x32x1 ![0, 1, 2, 3] bcast_S2x2048x4x32_S2x2048x4x32x1_0_1_2_3 (shapeCast _ (extractStridedSlice S2x2048x4x32x1 ![0, 0, 0, 0, 0] (shapeCast _ t shapeCasts_S2x2048x4x64_S2x2048x4x32x2) slices_S2x2048x4x32x2_S2x2048x4x32x1_0_0_0_0_0) shapeCasts_S2x2048x4x32x1_S2x2048x4x32))⟩] concatenates_S2x2048x4x32x1_S2x2048x4x32x1_S2x2048x4x32x2_d4) shapeCasts_S2x2048x4x32x2_S2x2048x4x64) refSin)

/-- The scaled scores. -/
def refScore (q k : FVec Ideal S2x2048x4x64 .f32) : FVec Ideal S2x4x2048x2048 .f32 :=
  mulf (Host.dotGeneral dot_S2x2048x4x64_S2x2048x4x64_S2x4x2048x2048_3_3_1_1_02_02 none q k) (broadcastInDim S2x4x2048x2048 ![] bcast_S_S2x4x2048x2048 (constant S_ .f32 0x3E000000#32))

/-- The exponentials of the scores less their row maximum. -/
def refExp (s : FVec Ideal S2x4x2048x2048 .f32) : FVec Ideal S2x4x2048x2048 .f32 :=
  Host.exp (subf s (broadcastInDim S2x4x2048x2048 ![0, 1, 2, 3] bcast_S2x4x2048x1_S2x4x2048x2048_0_1_2_3 (broadcastInDim S2x4x2048x1 ![0, 1, 2] bcast_S2x4x2048_S2x4x2048x1_0_1_2 (Host.reduce FloatOps.maximumf s (constant S_ .f32 0xFF800000#32) reducesTo_S2x4x2048x2048_S2x4x2048_d3 h_S_))))

/-- The attention weights. -/
def refWeight (e : FVec Ideal S2x4x2048x2048 .f32) : FVec Ideal S2x4x2048x2048 .f32 :=
  Host.divf e (broadcastInDim S2x4x2048x2048 ![0, 1, 2, 3] bcast_S2x4x2048x1_S2x4x2048x2048_0_1_2_3 (broadcastInDim S2x4x2048x1 ![0, 1, 2] bcast_S2x4x2048_S2x4x2048x1_0_1_2 (Host.reduceAdd e (constant S_ .f32 0x00000000#32) reducesTo_S2x4x2048x2048_S2x4x2048_d3 h_S_)))

/-- The weighted values, heads side by side. -/
def refCtx (v : FVec Ideal S2x2048x4x64 .f32) (w : FVec Ideal S2x4x2048x2048 .f32) : FVec Ideal S2x2048x256 .f32 :=
  shapeCast _ (transpose S2x2048x4x64 [0, 3, 1, 2] (Host.dotGeneral dot_S2x2048x4x64_S2x4x2048x2048_S2x4x64x2048_1_3_3_2_02_01 none v w) transposes_S2x4x64x2048_S2x2048x4x64_0_3_1_2) shapeCasts_S2x2048x4x64_S2x2048x256

/-- The whole reference. -/
def refOut (x : FVec Ideal S2x2048x768 .f32) (wq wk wv : FVec Ideal S768x256 .f32) (wo : FVec Ideal S256x768 .f32) : FVec Ideal S2x2048x768 .f32 :=
  Host.dotGeneral dot_S2x2048x256_S256x768_S2x2048x768_2_0_01_1_n_n none (refCtx (refProj x wv) (refWeight (refExp (refScore (refRot (refProj x wq)) (refRot (refProj x wk)))))) wo

theorem res_eq (m : (ℓ : Loc nD τ sig) → Buf (Elt Ideal) ℓ) (c : Dev nD) :
    Value.res_main_v80 m c = refOut (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

theorem refProj_apply (x : FVec Ideal S2x2048x768 .f32) (w : FVec Ideal S768x256 .f32) (b : Fin 2) (i : Fin 2048) (h : Fin 4) (d : Fin 64) :
    refProj x w (ix4 b i h d) = pr (fun b i k => x (ix3 b i k)) (fun k e => w (ix2 k e)) b i (lane h d) := by
  pointwise [refProj]
  rfl

theorem refAng_apply (i : Fin 2048) (d : Fin 32) : refAng (ix2 i d) = ((ang i.val d.val : ℝ) : EReal) := by
  pointwise [refAng]
  have h : ∀ d : Fin 32, IntOp.addi (0#32) (IntOp.muli (2#32) (BitVec.ofNat 32 d.val)) = BitVec.ofNat 32 (2 * d.val) := by decide
  rw [h]
  have e : ∀ w : BitVec 32, (FloatOps.sitofp .f32 w : Ideal .f32) = ((w.toInt : ℝ) : EReal) := fun _ => rfl
  rw [e, e, toInt_word _ (by omega), toInt_word _ (by omega), bits_ten4, bits_64]
  have h2 : (((2 * d.val : ℕ) : ℤ) : ℝ) = 2 * (d.val : ℝ) := by push_cast; ring
  rw [h2, pow_freq, ← EReal.coe_mul]
  rfl

theorem refCos_apply (b : Fin 2) (i : Fin 2048) (h : Fin 4) (d : Fin 64) :
    refCos (ix4 b i h d) = ((Real.cos (ang i.val (d.val / 2)) : ℝ) : EReal) := by
  pointwise [refCos]
  rw [refAng_apply]
  rfl

theorem refSin_apply (b : Fin 2) (i : Fin 2048) (h : Fin 4) (d : Fin 64) :
    refSin (ix4 b i h d) = ((Real.sin (ang i.val (d.val / 2)) : ℝ) : EReal) := by
  pointwise [refSin]
  rw [refAng_apply]
  rfl

theorem refRot_apply (t : FVec Ideal S2x2048x4x64 .f32) (P : Fin 2 → Fin 2048 → Fin 256 → EReal) (hP : ∀ b i h d, t (ix4 b i h d) = P b i (lane h d))
    (b : Fin 2) (i : Fin 2048) (h : Fin 4) (d : Fin 64) : refRot t (ix4 b i h d) = rt (P b i) i.val (lane h d) := by
  pointwise [refRot]
  rw [refCos_apply, refSin_apply]
  unfold rt quarter
  have e1 : (lane h d).val % 64 / 2 = d.val / 2 := by show (h.val * 64 + d.val) % 64 / 2 = _; omega
  have e2 : (lane h d).val % 2 = d.val % 2 := by show (h.val * 64 + d.val) % 2 = _; omega
  simp only [hP, e1, e2]
  congr 2
  split
  · congr 2; apply Fin.ext; show h.val * 64 + (d.val / 2 * 2 + 1) = (h.val * 64 + d.val) / 2 * 2 + 1; omega
  · congr 1; apply Fin.ext; show h.val * 64 + (d.val / 2 * 2) = (h.val * 64 + d.val) / 2 * 2; omega

theorem refScore_apply (q k : FVec Ideal S2x2048x4x64 .f32) (Q K : Fin 2 → Fin 2048 → Fin 256 → EReal)
    (hq : ∀ b i h d, q (ix4 b i h d) = Q b i (lane h d)) (hk : ∀ b i h d, k (ix4 b i h d) = K b i (lane h d))
    (b : Fin 2) (h : Fin 4) (i j : Fin 2048) : refScore q k (ix4 b h i j) = score (Q b i) (K b j) h := by
  pointwise [refScore]
  simp only [hq, hk, bits_eighth]
  rfl

theorem refExp_apply (s : FVec Ideal S2x4x2048x2048 .f32) (b : Fin 2) (h : Fin 4) (i j : Fin 2048) :
    refExp s (ix4 b h i j) = Ideal.exp (s (ix4 b h i j) - Finset.univ.fold max ⊥ (fun k => s (ix4 b h i k))) := by
  pointwise [refExp]
  rw [bits_ninf]

theorem refWeight_apply (s : FVec Ideal S2x4x2048x2048 .f32) (b : Fin 2) (h : Fin 4) (i j : Fin 2048) :
    refWeight s (ix4 b h i j) = Ideal.div (s (ix4 b h i j)) (∑ k, s (ix4 b h i k)) := by
  pointwise [refWeight]

theorem refCtx_apply (v : FVec Ideal S2x2048x4x64 .f32) (w : FVec Ideal S2x4x2048x2048 .f32) (V : Fin 2 → Fin 2048 → Fin 256 → EReal)
    (hv : ∀ b i h d, v (ix4 b i h d) = V b i (lane h d)) (b : Fin 2) (i : Fin 2048) (e : Fin 256) :
    refCtx v w (ix3 b i e) = ∑ j, V b j e * w (ix4 b (head e) i j) := by
  pointwise [refCtx]
  refine Finset.sum_congr rfl fun j _ => ?_
  rw [hv]
  congr 2
  apply Fin.ext; show e.val / 64 * 64 + e.val % 64 = e.val; omega

/-- The reference at an index. -/
theorem refOut_apply (x : FVec Ideal S2x2048x768 .f32) (wq wk wv : FVec Ideal S768x256 .f32) (wo : FVec Ideal S256x768 .f32) (b : Fin 2) (i : Fin 2048) (n : Fin 768) :
    refOut x wq wk wv wo (ix3 b i n)
      = out (fun b i k => x (ix3 b i k)) (fun k e => wq (ix2 k e)) (fun k e => wk (ix2 k e)) (fun k e => wv (ix2 k e)) (fun e n => wo (ix2 e n)) b i n := by
  pointwise [refOut]
  unfold out
  refine Finset.sum_congr rfl fun e _ => ?_
  congr 1
  rw [refCtx_apply _ _ _ (refProj_apply x wv)]
  unfold att
  refine Finset.sum_congr rfl fun j _ => ?_
  congr 1
  have hs := refScore_apply _ _ _ _ (refRot_apply _ _ (refProj_apply x wq)) (refRot_apply _ _ (refProj_apply x wk))
  rw [refWeight_apply]
  simp only [refExp_apply, hs]

end Cert.Val

end
-- ==== Proof.Value.Algebraic.lean ====
/-
The value claim: every device's result is its block of the reference's.
-/
module

public import proofs.«01_k».proof.Proof.Frames
public import proofs.«01_k».proof.Proof.Value.Kernel
public import proofs.«01_k».proof.Proof.Value.Reference
public import Idealize.ShloMosaic.Lib.ReduceAll
public import Idealize.ShloMosaic.Lib.LayoutAt

@[expose] public section

set_option maxRecDepth 16384

noncomputable section

namespace Cert.Val

open Idealize.ShloMosaic Idealize.SL.Sem

/-- The side conditions of the finiteness of the inputs, for the kernel, -/
theorem facts_pre_kernel : Cert.Pre_finite_inputs_KernelIdeal.Facts where
  bcast_S_S2x256x768 := by decide
  reducesTo_S2x256x768_S_d0_1_2 := by decide
  h_S_ := by decide
  bcast_S_S768x256 := by decide
  reducesTo_S768x256_S_d0_1 := by decide

/-- An array all of whose magnitudes are below infinity is real. -/
theorem isR_of_all {s : Shape} {axes : List (Fin s.rank)} (x : FVec Ideal s .f32) (b : (⟨0, ![]⟩ : Shape).BroadcastsInDim s (![] : Fin 0 → Fin s.rank))
    (h : s.ReducesTo axes ⟨0, ![]⟩) (hu : 0 < (⟨0, ![]⟩ : Shape).numel) (j : (⟨0, ![]⟩ : Shape).Idx)
    (e : Host.reduce IntOp.andi (cmpf .olt (Host.absf x) (broadcastInDim s ![] b (constant (⟨0, ![]⟩ : Shape) .f32 0x7F800000#32)) : IVec s 1)
      (constantI (⟨0, ![]⟩ : Shape) 1 1#1) h hu j = 1#1) (i : s.Idx) : IsR (x i) := by
  have : Subsingleton (⟨0, ![]⟩ : Shape).Idx := ⟨fun a b => funext fun k => k.elim0⟩
  have h1 := Host.reduce_andi_all _ _ h hu j e i
  have h2 : BitVec.ofBool (decide (max (x i) (-(x i)) < Ideal.ofBits .f32 0x7F800000#32)) = 1#1 := h1
  rw [bits_inf] at h2
  refine IsR.of_lt ?_
  by_contra hn
  rw [decide_eq_false hn] at h2
  exact absurd h2 (by decide)

theorem pre_isR [Cert.Pre_finite_inputs_KernelIdeal.Facts] (x : FVec Ideal Cert.KernelIdeal.S2x256x768 .f32) (wq wk wv : FVec Ideal Cert.KernelIdeal.S768x256 .f32)
    (wo : FVec Ideal Cert.KernelIdeal.S256x768 .f32) (h : Cert.Pre_finite_inputs_KernelIdeal.fn (F := Ideal) x wq wk wv wo = fun _ => 1#1) :
    (∀ i, IsR (x i)) ∧ (∀ i, IsR (wq i)) ∧ (∀ i, IsR (wk i)) := by
  have h0 := congrFun h (fun a : Fin 0 => a.elim0)
  obtain ⟨h12, h3⟩ := IntOp.andi_eq_one.1 h0
  obtain ⟨h1, h2⟩ := IntOp.andi_eq_one.1 h12
  exact ⟨isR_of_all x _ _ _ _ h1, isR_of_all wq _ _ _ _ h2, isR_of_all wk _ _ _ _ h3⟩

/-- A device's block of an array cut along its positions. -/
theorem block_ix3 (c : Dev Cert.KernelIdeal.nD) (v : (⟨3, ![2, 2048, 768]⟩ : Shape).Idx → EReal) (b : Fin 2) (r : Fin 256) (k : Fin 768) :
    Layout.block ⟨3, ![2, 256, 768]⟩ ⟨3, ![2, 2048, 768]⟩ 1 8 c v (by decide) (ix3 b r k) = v (ix3 b (pos c r) k) := by
  rw [Layout.block_apply]
  refine congrArg v (funext fun a => Fin.ext ?_)
  fin_cases a
  · exact Layout.Tiles.idx_val_of_ne _ _ _ _ (by decide)
  · exact Layout.Tiles.idx_val_self _ _ _ _ rfl
  · exact Layout.Tiles.idx_val_of_ne _ _ _ _ (by decide)

theorem pos_surj (i : Fin 2048) : ∃ c r, pos c r = i :=
  ⟨(⟨i.val / 256, by omega⟩ : Fin 8), ⟨i.val % 256, by omega⟩, Fin.ext (by show i.val / 256 * 256 + i.val % 256 = i.val; omega)⟩

theorem ix3_eta {a b d : ℕ} (i : (⟨3, ![a, b, d]⟩ : Shape).Idx) : i = ix3 (i 0) (i 1) (i 2) := by
  funext k
  fin_cases k <;> rfl

/-- The kernel's result is the block of the reference's, of the same arrays. -/
theorem out_block (I : Dev Cert.KernelIdeal.nD → Cert.KernelIdealRun.Inp Ideal) (x : FVec Ideal Cert.ReferenceIdeal.S2x2048x768 .f32)
    (wq wk wv : FVec Ideal Cert.ReferenceIdeal.S768x256 .f32) (wo : FVec Ideal Cert.ReferenceIdeal.S256x768 .f32)
    (hx : ∀ c, (I c).x = Layout.block ⟨3, ![2, 256, 768]⟩ ⟨3, ![2, 2048, 768]⟩ 1 8 c x) (hq : ∀ c, (I c).wq = wq) (hk : ∀ c, (I c).wk = wk) (hv : ∀ c, (I c).wv = wv)
    (ho : ∀ c, (I c).wo = wo) (rx : ∀ c i, IsR ((I c).x i)) (rq : ∀ c i, IsR ((I c).wq i)) (rk : ∀ c i, IsR ((I c).wk i)) (c : Dev Cert.KernelIdeal.nD) :
    Cert.KernelIdealRun.OUT I c = Layout.block ⟨3, ![2, 256, 768]⟩ ⟨3, ![2, 2048, 768]⟩ 1 8 c (refOut x wq wk wv wo) := by
  have G : Given I (fun b i k => x (ix3 b i k)) (fun k e => wq (ix2 k e)) (fun k e => wk (ix2 k e)) (fun k e => wv (ix2 k e)) (fun e n => wo (ix2 e n)) :=
    ⟨fun c b r k => by rw [hx, block_ix3], fun c k e => by rw [hq], fun c k e => by rw [hk], fun c k e => by rw [hv], fun c e n => by rw [ho]⟩
  have rX : ∀ b i k, IsR (x (ix3 b i k)) := by
    intro b i k
    obtain ⟨c, r, rfl⟩ := pos_surj i
    rw [← block_ix3 c x b r k, ← hx]
    exact rx c _
  have rQ : ∀ k e, IsR (wq (ix2 k e)) := fun k e => by rw [← hq c]; exact rq c _
  have rK : ∀ k e, IsR (wk (ix2 k e)) := fun k e => by rw [← hk c]; exact rk c _
  funext i
  obtain ⟨b, r, n, rfl⟩ : ∃ (b : Fin 2) (r : Fin 256) (n : Fin 768), i = ix3 b r n := ⟨i 0, i 1, i 2, ix3_eta i⟩
  rw [block_ix3, refOut_apply]
  exact OUT_apply G rX rQ rK c b r n

theorem algebraic : Cert.algebraic_KernelIdeal_ReferenceIdeal_pre_finite_inputs_KernelIdeal (hKernelIdeal := Cert.KernelIdeal.Gen.facts)
    (hReferenceIdeal := Cert.ReferenceIdeal.Gen.facts) (hPre_finite_inputs_KernelIdeal := facts_pre_kernel) := by
  intro m g m' g' hpre harg
  have hr := fun c => @pre_isR facts_pre_kernel _ _ _ _ _ (hpre c)
  refine ⟨refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3))
    (m' (((0 : Dev Cert.ReferenceIdeal.nD).tc : Thread Cert.ReferenceIdeal.nD Cert.ReferenceIdeal.τ).loc Cert.ReferenceIdeal.main_arg4)), ?_, ?_⟩
  · refine (θ_run Cert.KernelIdeal.defs _ _).mono (fun r h c => ⟨(h.1 c).1.trans ?_, (h.1 c).2⟩) (Cert.KernelIdealRun.run_values (F := Ideal) m g)
    exact out_block (Cert.KernelIdealRun.args m) _ _ _ _ _ (fun c => (harg c).1) (fun c => (harg c).2.1) (fun c => (harg c).2.2.1) (fun c => (harg c).2.2.2.1)
      (fun c => (harg c).2.2.2.2) (fun c => (hr c).1) (fun c => (hr c).2.1) (fun c => (hr c).2.2) c
  · exact (θ_run Cert.ReferenceIdeal.defs _ _).mono (fun r h => ⟨(h 0).1.trans (res_eq m' 0), (h 0).2⟩) (Cert.ReferenceIdeal.Value.run (F := Ideal) m' g')

end Cert.Val
-- ==== Proof.lean ====
/-
The proof of `Cert.Claim`: the frames from the runs, the idealization by definition, the value claim.
-/
module

public import proofs.«01_k».proof.Defs
public import proofs.«01_k».proof.Proof.Frames
public import proofs.«01_k».proof.Proof.Value.Algebraic

@[expose] public section

noncomputable section

namespace Cert.Proof

open Idealize.ShloMosaic Idealize.SL.Sem

/-- The side conditions of the finiteness of the inputs, for the reference. -/
theorem facts_pre_reference : Cert.Pre_finite_inputs_ReferenceIdeal.Facts := by
  constructor <;> decide

theorem claim : Cert.Claim :=
  ⟨Cert.Kernel.Gen.facts, Cert.KernelIdeal.Gen.facts, Cert.ReferenceIdeal.Gen.facts, Cert.Val.facts_pre_kernel, facts_pre_reference,
    frame_kernel, frame_ideal, fun m ρ _ => run_ideal m ρ, frame_reference, fun m ρ _ => run_reference m ρ, trivial, Cert.Val.algebraic⟩

end Cert.Proof

end
